-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite [hPre_finite : Cert.Pre_finite.Facts] (m : (ℓ : Loc Cert.GlaIdeal.nD Cert.GlaIdeal.τ Cert.GlaIdeal.sig) → Buf (Elt Ideal) ℓ) : Prop :=
  ∀ c : Dev Cert.GlaIdeal.nD,
    (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite [hPre_finite : Cert.Pre_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_above_neg_inf [hPre_above_neg_inf : Cert.Pre_above_neg_inf.Facts] (m : (ℓ : Loc Cert.AdaIdeal.nD Cert.AdaIdeal.τ Cert.AdaIdeal.sig) → Buf (Elt Ideal) ℓ) : Prop :=
  ∀ c : Dev Cert.AdaIdeal.nD,
    (Cert.Pre_above_neg_inf.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_above_neg_inf [hPre_above_neg_inf : Cert.Pre_above_neg_inf.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_above_neg_inf.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_finite [hGlaIdeal : Cert.GlaIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite [hGlaRefIdeal : Cert.GlaRefIdeal.Facts] [hPre_finite : Cert.Pre_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_above_neg_inf [hAdaIdeal : Cert.AdaIdeal.Facts] [hPre_above_neg_inf : Cert.Pre_above_neg_inf.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_above_neg_inf m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_above_neg_inf [hAdaRefIdeal : Cert.AdaRefIdeal.Facts] [hPre_above_neg_inf : Cert.Pre_above_neg_inf.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_above_neg_inf m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gla_GlaIdeal : Prop :=
  True

def algebraic_GlaIdeal_GlaRefIdeal_pre_finite [hGlaIdeal : Cert.GlaIdeal.Facts] [hGlaRefIdeal : Cert.GlaRefIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v5)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v61) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v36) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Ada_AdaIdeal : Prop :=
  True

def algebraic_AdaIdeal_AdaRefIdeal_pre_above_neg_inf [hAdaIdeal : Cert.AdaIdeal.Facts] [hAdaRefIdeal : Cert.AdaRefIdeal.Facts] [hPre_above_neg_inf : Cert.Pre_above_neg_inf.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_above_neg_inf m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hGla : Cert.Gla.Facts) (hGlaIdeal : Cert.GlaIdeal.Facts) (hGlaRefIdeal : Cert.GlaRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hAda : Cert.Ada.Facts) (hAdaIdeal : Cert.AdaIdeal.Facts) (hAdaRefIdeal : Cert.AdaRefIdeal.Facts) (hPre_finite : Cert.Pre_finite.Facts) (hPre_above_neg_inf : Cert.Pre_above_neg_inf.Facts),
    quiescent_Kernel (hKernel := hKernel)
    ∧ quiescent_KernelIdeal (hKernelIdeal := hKernelIdeal)
    ∧ quiescent_ReferenceIdeal (hReferenceIdeal := hReferenceIdeal)
    ∧ quiescent_Gla (hGla := hGla)
    ∧ quiescent_GlaIdeal (hGlaIdeal := hGlaIdeal)
    ∧ quiescent_GlaIdeal_pre_finite (hGlaIdeal := hGlaIdeal) (hPre_finite := hPre_finite)
    ∧ quiescent_GlaRefIdeal (hGlaRefIdeal := hGlaRefIdeal)
    ∧ quiescent_GlaRefIdeal_pre_finite (hGlaRefIdeal := hGlaRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ada (hAda := hAda)
    ∧ quiescent_AdaIdeal (hAdaIdeal := hAdaIdeal)
    ∧ quiescent_AdaIdeal_pre_above_neg_inf (hAdaIdeal := hAdaIdeal) (hPre_above_neg_inf := hPre_above_neg_inf)
    ∧ quiescent_AdaRefIdeal (hAdaRefIdeal := hAdaRefIdeal)
    ∧ quiescent_AdaRefIdeal_pre_above_neg_inf (hAdaRefIdeal := hAdaRefIdeal) (hPre_above_neg_inf := hPre_above_neg_inf)
    ∧ preserves_Kernel_KernelIdeal
    ∧ algebraic_KernelIdeal_ReferenceIdeal (hKernelIdeal := hKernelIdeal) (hReferenceIdeal := hReferenceIdeal)
    ∧ preserves_Gla_GlaIdeal
    ∧ algebraic_GlaIdeal_GlaRefIdeal_pre_finite (hGlaIdeal := hGlaIdeal) (hGlaRefIdeal := hGlaRefIdeal) (hPre_finite := hPre_finite)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ada_AdaIdeal
    ∧ algebraic_AdaIdeal_AdaRefIdeal_pre_above_neg_inf (hAdaIdeal := hAdaIdeal) (hAdaRefIdeal := hAdaRefIdeal) (hPre_above_neg_inf := hPre_above_neg_inf)
-- ==== Pre_above_neg_inf.lean ====
abbrev S8x2048 : Shape := ⟨2, ![8, 2048]⟩
abbrev S2048x6144 : Shape := ⟨2, ![2048, 6144]⟩
abbrev S6144 : Shape := ⟨1, ![6144]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048 .f32) (main_arg1 : FVec F S2048x6144 .f32) (main_arg2 : FVec F S6144 .f32) : IVec S_ 1 :=
  let main_cst : FVec F S_ .f32 := constant S_ .f32 0xFF800000#32
  let main_v0 : FVec F S8x2048 .f32 := broadcastInDim S8x2048 ![] bcast_S_S8x2048 main_cst
  let main_v1 : IVec S8x2048 1 := cmpf .ogt main_arg0 main_v0
  let main_c : IVec S_ 1 := constantI S_ 1 1#1
  let main_v2 : IVec S_ 1 := (fun x v => Host.reduce IntOp.andi x v reducesTo_S8x2048_S_d0_1 h_S_) main_v1 main_c
  main_v2
-- ==== Pre_finite.lean ====
abbrev S16384x18432 : Shape := ⟨2, ![16384, 18432]⟩
abbrev S16384x128 : Shape := ⟨2, ![16384, 128]⟩
abbrev S16x1024 : Shape := ⟨2, ![16, 1024]⟩
abbrev S1024 : Shape := ⟨1, ![1024]⟩
abbrev S512 : Shape := ⟨1, ![512]⟩
abbrev S16384x6144 : Shape := ⟨2, ![16384, 6144]⟩
abbrev S_ : Shape := ⟨0, ![]⟩
abbrev S16384x16 : Shape := ⟨2, ![16384, 16]⟩

class Facts : Prop where
  slices_S16384x18432_S16384x6144_0_0 : S16384x18432.Slices ![0, 0] S16384x6144
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel
  slices_S16384x128_S16384x16_0_0 : S16384x128.Slices ![0, 0] S16384x16
  bcast_S_S16384x16 : S_.BroadcastsInDim S16384x16 (![] : Fin 0 → Fin S16384x16.rank)
  reducesTo_S16384x16_S_d0_1 : S16384x16.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v16 : IVec S_ 1) (main_v17 : FVec F S1024 .f32) : IVec S_ 1 :=
  let main_cst_4 : FVec F S_ .f32 := constant S_ .f32 0x7F800000#32
  let main_v18 : FVec F S1024 .f32 := broadcastInDim S1024 ![] bcast_S_S1024 main_cst_4
  let main_v19 : IVec S1024 1 := cmpf .olt main_v17 main_v18
  let main_c_5 : IVec S_ 1 := constantI S_ 1 1#1
  let main_v20 : IVec S_ 1 := (fun x v => Host.reduce IntOp.andi x v reducesTo_S1024_S_d0 h_S_) main_v19 main_c_5
  let main_v21 : IVec S_ 1 := andi main_v16 main_v20
  main_v21

def fn {F : FTy → Type} [FloatOps F] (main_arg0 : FVec F S16384x18432 .bf16) (main_arg1 : FVec F S16384x128 .f32) (main_arg2 : FVec F S16x1024 .f32) (main_arg3 : FVec F S1024 .f32) (main_arg4 : FVec F S512 .f32) : IVec S_ 1 :=
  let main_v0 : FVec F S16384x6144 .bf16 := (extractStridedSlice S16384x6144 ![0, 0] · slices_S16384x18432_S16384x6144_0_0) main_arg0
  let main_v1 : FVec F S16384x6144 .f32 := (extf .f32 · bitsLt_bf16_f32) main_v0
  let main_v2 : FVec F S16384x6144 .f32 := Host.absf main_v1
  let main_cst : FVec F S_ .f32 := constant S_ .f32 0x7F800000#32
  let main_v3 : FVec F S16384x6144 .f32 := broadcastInDim S16384x6144 ![] bcast_S_S16384x6144 main_cst
  let main_v4 : IVec S16384x6144 1 := cmpf .olt main_v2 main_v3
  let main_c : IVec S_ 1 := constantI S_ 1 1#1
  let main_v5 : IVec S_ 1 := (fun x v => Host.reduce IntOp.andi x v reducesTo_S16384x6144_S_d0_1 h_S_) main_v4 main_c
  let main_v6 : FVec F S16384x16 .f32 := (extractStridedSlice S16384x16 ![0, 0] · slices_S16384x128_S16384x16_0_0) main_arg1
  let main_v7 : FVec F S16384x16 .f32 := Host.absf main_v6
  let main_cst_0 : FVec F S_ .f32 := constant S_ .f32 0x7F800000#32
  let main_v8 : FVec F S16384x16 .f32 := broadcastInDim S16384x16 ![] bcast_S_S16384x16 main_cst_0
  let main_v9 : IVec S16384x16 1 := cmpf .olt main_v7 main_v8
  let main_c_1 : IVec S_ 1 := constantI S_ 1 1#1
  let main_v10 : IVec S_ 1 := (fun x v => Host.reduce IntOp.andi x v reducesTo_S16384x16_S_d0_1 h_S_) main_v9 main_c_1
  let main_v11 : IVec S_ 1 := andi main_v5 main_v10
  let main_v12 : FVec F S16x1024 .f32 := Host.absf main_arg2
  let main_cst_2 : FVec F S_ .f32 := constant S_ .f32 0x7F800000#32
  let main_v13 : FVec F S16x1024 .f32 := broadcastInDim S16x1024 ![] bcast_S_S16x1024 main_cst_2
  let main_v14 : IVec S16x1024 1 := cmpf .olt main_v12 main_v13
  let main_c_3 : IVec S_ 1 := constantI S_ 1 1#1
  let main_v15 : IVec S_ 1 := (fun x v => Host.reduce IntOp.andi x v reducesTo_S16x1024_S_d0_1 h_S_) main_v14 main_c_3
  let main_v16 : IVec S_ 1 := andi main_v11 main_v15
  let main_v17 : FVec F S1024 .f32 := Host.absf main_arg3
  fn_part1 (F := F) main_v16 main_v17
-- ==== Kernel.lean ====
abbrev S8x2048x2048 : Shape := ⟨3, ![8, 2048, 2048]⟩
abbrev S8x6144 : Shape := ⟨2, ![8, 6144]⟩
abbrev S2048x18480 : Shape := ⟨2, ![2048, 18480]⟩
abbrev S16 : Shape := ⟨1, ![16]⟩
abbrev S16384x2048 : Shape := ⟨2, ![16384, 2048]⟩
abbrev S8x1x6144 : Shape := ⟨3, ![8, 1, 6144]⟩
abbrev S18480x2048 : Shape := ⟨2, ![18480, 2048]⟩
abbrev S_ : Shape := ⟨0, ![]⟩
abbrev S80x2048 : Shape := ⟨2, ![80, 2048]⟩
abbrev S16x2048 : Shape := ⟨2, ![16, 2048]⟩
abbrev S32x2048 : Shape := ⟨2, ![32, 2048]⟩
abbrev S128x2048 : Shape := ⟨2, ![128, 2048]⟩
abbrev S1x128 : Shape := ⟨2, ![1, 128]⟩
abbrev S1 : Shape := ⟨1, ![1]⟩
abbrev S2 : Shape := ⟨1, ![2]⟩
abbrev S16384x18432 : Shape := ⟨2, ![16384, 18432]⟩
abbrev S16384x128 : Shape := ⟨2, ![16384, 128]⟩
abbrev S1024x2048 : Shape := ⟨2, ![1024, 2048]⟩
abbrev S1x1x2048 : Shape := ⟨3, ![1, 1, 2048]⟩
abbrev S2048x2048 : Shape := ⟨2, ![2048, 2048]⟩
abbrev S1024x128 : Shape := ⟨2, ![1024, 128]⟩
abbrev S1x2048 : Shape := ⟨2, ![1, 2048]⟩
abbrev S256x2048 : Shape := ⟨2, ![256, 2048]⟩
abbrev S256x256 : Shape := ⟨2, ![256, 256]⟩
abbrev S256x128 : Shape := ⟨2, ![256, 128]⟩

abbrev nBuf : Space → Nat
  | .hbm => 32
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S8x6144, .f32⟩
  | .hbm, ⟨2, _⟩ => ⟨S2048x18480, .f32⟩
  | .hbm, ⟨3, _⟩ => ⟨S16, .f32⟩
  | .hbm, ⟨4, _⟩ => ⟨S16, .f32⟩
  | .hbm, ⟨5, _⟩ => ⟨S16384x2048, .f32⟩
  | .hbm, ⟨6, _⟩ => ⟨S8x1x6144, .f32⟩
  | .hbm, ⟨7, _⟩ => ⟨S18480x2048, .f32⟩
  | .hbm, ⟨8, _⟩ => ⟨S18480x2048, .bf16⟩
  | .hbm, ⟨9, _⟩ => ⟨S_, .bf16⟩
  | .hbm, ⟨10, _⟩ => ⟨S80x2048, .bf16⟩
  | .hbm, ⟨11, _⟩ => ⟨S16x2048, .bf16⟩
  | .hbm, ⟨12, _⟩ => ⟨S32x2048, .bf16⟩
  | .hbm, ⟨13, _⟩ => ⟨S128x2048, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S16384x18432, .bf16⟩
  | .hbm, ⟨31, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S2048x2048, .bf16⟩
  | .local _ .vmem, ⟨8, _⟩ => ⟨S128x2048, .bf16⟩
  | .local _ .vmem, ⟨9, _⟩ => ⟨S1x128, .f32⟩
  | .local _ .vmem, ⟨10, _⟩ => ⟨S1x128, .f32⟩
  | .local _ .vmem, ⟨11, _⟩ => ⟨S1024x2048, .bf16⟩
  | .local _ .vmem, ⟨12, _⟩ => ⟨S1024x2048, .bf16⟩
  | .local _ .vmem, ⟨13, _⟩ => ⟨S1024x128, .f32⟩
  | .local _ .vmem, ⟨14, _⟩ => ⟨S1024x128, .f32⟩
  | .local _ .vmem, ⟨15, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 9], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  let c3_i32 : BitVec 32 := 3#32
  let v0 : BitVec 1 := Scalar.cmpi .slt arg1 c3_i32
  let c0_i32 : BitVec 32 := 0#32
  let c7_i32 : BitVec 32 := 7#32
  let v1 : BitVec 1 := Scalar.cmpi .slt arg1 c7_i32
  let c16_i32 : BitVec 32 := 16#32
  let c48_i32 : BitVec 32 := 48#32
  let v2 : BitVec 32 := Scalar.select v1 c16_i32 c48_i32
  let v3 : BitVec 32 := Scalar.select v0 c0_i32 v2
  let v5 : BitVec 32 := Scalar.addi v4 v3
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c7_i32 : BitVec 32 := 7#32
  let v1 : BitVec 1 := Scalar.cmpi .slt arg1 c7_i32
  let c16_i32 : BitVec 32 := 16#32
  let c48_i32 : BitVec 32 := 48#32
  let v2 : BitVec 32 := Scalar.select v1 c16_i32 c48_i32
  let c0_i32 : BitVec 32 := 0#32
  let v3 : BitVec 32 := Scalar.select v0 c0_i32 v2
  let c2048_i32 : BitVec 32 := 2048#32
  let v4 : BitVec 32 := Scalar.muli arg1 c2048_i32
  let v5 : BitVec 32 := Scalar.addi v4 v3
  let v6 : BitVec 32 := v5
  let c0_i32_0 : BitVec 32 := 0#32
  let c0_i32_1 : BitVec 32 := 0#32
  ![v6.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x2048x2048 : Shape := ⟨3, ![8, 2048, 2048]⟩
abbrev S8x6144 : Shape := ⟨2, ![8, 6144]⟩
abbrev S2048x18480 : Shape := ⟨2, ![2048, 18480]⟩
abbrev S16 : Shape := ⟨1, ![16]⟩
abbrev S8x2048 : Shape := ⟨2, ![8, 2048]⟩
abbrev S8x1x2048 : Shape := ⟨3, ![8, 1, 2048]⟩
abbrev S_ : Shape := ⟨0, ![]⟩
abbrev S8x2048x18480 : Shape := ⟨3, ![8, 2048, 18480]⟩
abbrev S8x2048x6144 : Shape := ⟨3, ![8, 2048, 6144]⟩
abbrev S8x2048x16 : Shape := ⟨3, ![8, 2048, 16]⟩
abbrev S8x2048x8192 : Shape := ⟨3, ![8, 2048, 8192]⟩
abbrev S8x2048x4096 : Shape := ⟨3, ![8, 2048, 4096]⟩
abbrev S8x2048x18432 : Shape := ⟨3, ![8, 2048, 18432]⟩
abbrev S16384x18432 : Shape := ⟨2, ![16384, 18432]⟩
abbrev S8x2048x96 : Shape := ⟨3, ![8, 2048, 96]⟩
abbrev S96 : Shape := ⟨1, ![96]⟩
abbrev S1x1x96 : Shape := ⟨3, ![1, 1, 96]⟩
abbrev S8x16x128x96 : Shape := ⟨4, ![8, 16, 128, 96]⟩
abbrev S8x2048x128 : Shape := ⟨3, ![8, 2048, 128]⟩
abbrev S16384x128 : Shape := ⟨2, ![16384, 128]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6144, .f32⟩
  | .hbm, ⟨2, _⟩ => ⟨S2048x18480, .f32⟩
  | .hbm, ⟨3, _⟩ => ⟨S16, .f32⟩
  | .hbm, ⟨4, _⟩ => ⟨S16, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x18480, .f32⟩
  | .hbm, ⟨18, _⟩ => ⟨S8x2048x6144, .f32⟩
  | .hbm, ⟨19, _⟩ => ⟨S8x2048x16, .f32⟩
  | .hbm, ⟨20, _⟩ => ⟨S8x2048x8192, .f32⟩
  | .hbm, ⟨21, _⟩ => ⟨S8x2048x16, .f32⟩
  | .hbm, ⟨22, _⟩ => ⟨S8x2048x16, .f32⟩
  | .hbm, ⟨23, _⟩ => ⟨S8x2048x4096, .f32⟩
  | .hbm, ⟨24, _⟩ => ⟨S8x2048x18432, .f32⟩
  | .hbm, ⟨25, _⟩ => ⟨S16384x18432, .f32⟩
  | .hbm, ⟨26, _⟩ => ⟨S16384x18432, .bf16⟩
  | .hbm, ⟨27, _⟩ => ⟨S8x2048x16, .f32⟩
  | .hbm, ⟨28, _⟩ => ⟨S8x2048x16, .f32⟩
  | .hbm, ⟨29, _⟩ => ⟨S_, .f32⟩
  | .hbm, ⟨30, _⟩ => ⟨S8x2048x16, .f32⟩
  | .hbm, ⟨31, _⟩ => ⟨S8x2048x16, .f32⟩
  | .hbm, ⟨32, _⟩ => ⟨S_, .f32⟩
  | .hbm, ⟨33, _⟩ => ⟨S8x2048x16, .f32⟩
  | .hbm, ⟨34, _⟩ => ⟨S8x2048x16, .f32⟩
  | .hbm, ⟨35, _⟩ => ⟨S_, .i32⟩
  | .hbm, ⟨36, _⟩ => ⟨S_, .f32⟩
  | .hbm, ⟨37, _⟩ => ⟨S8x2048x96, .f32⟩
  | .hbm, ⟨38, _⟩ => ⟨S_, .i32⟩
  | .hbm, ⟨39, _⟩ => ⟨S_, .f32⟩
  | .hbm, ⟨40, _⟩ => ⟨S96, .f32⟩
  | .hbm, ⟨41, _⟩ => ⟨S_, .i32⟩
  | .hbm, ⟨42, _⟩ => ⟨S_, .f32⟩
  | .hbm, ⟨43, _⟩ => ⟨S96, .f32⟩
  | .hbm, ⟨44, _⟩ => ⟨S96, .f32⟩
  | .hbm, ⟨45, _⟩ => ⟨S96, .f32⟩
  | .hbm, ⟨46, _⟩ => ⟨S1x1x96, .f32⟩
  | .hbm, ⟨47, _⟩ => ⟨S8x2048x96, .f32⟩
  | .hbm, ⟨48, _⟩ => ⟨S8x2048x96, .f32⟩
  | .hbm, ⟨49, _⟩ => ⟨S_, .f32⟩
  | .hbm, ⟨50, _⟩ => ⟨S8x2048x96, .f32⟩
  | .hbm, ⟨51, _⟩ => ⟨S8x2048x96, .f32⟩
  | .hbm, ⟨52, _⟩ => ⟨S8x2048x96, .f32⟩
  | .hbm, ⟨53, _⟩ => ⟨S8x2048x96, .f32⟩
  | .hbm, ⟨54, _⟩ => ⟨S8x2048x96, .i1⟩
  | .hbm, ⟨55, _⟩ => ⟨S8x2048x96, .f32⟩
  | .hbm, ⟨56, _⟩ => ⟨S8x2048x96, .f32⟩
  | .hbm, ⟨57, _⟩ => ⟨S8x2048x96, .f32⟩
  | .hbm, ⟨58, _⟩ => ⟨S8x2048x96, .f32⟩
  | .hbm, ⟨59, _⟩ => ⟨S8x2048x96, .f32⟩
  | .hbm, ⟨60, _⟩ => ⟨S8x2048x96, .f32⟩
  | .hbm, ⟨61, _⟩ => ⟨S8x2048x96, .f32⟩
  | .hbm, ⟨62, _⟩ => ⟨S8x2048x96, .f32⟩
  | .hbm, ⟨63, _⟩ => ⟨S1x1x96, .f32⟩
  | .hbm, ⟨64, _⟩ => ⟨S8x2048x96, .f32⟩
  | .hbm, ⟨65, _⟩ => ⟨S8x2048x96, .f32⟩
  | .hbm, ⟨66, _⟩ => ⟨S8x16x128x96, .f32⟩
  | .hbm, ⟨67, _⟩ => ⟨S_, .f32⟩
  | .hbm, ⟨68, _⟩ => ⟨S_, .f32⟩
  | .hbm, ⟨69, _⟩ => ⟨S8x16x128x96, .f32⟩
  | .hbm, ⟨70, _⟩ => ⟨S8x2048x96, .f32⟩
  | .hbm, ⟨71, _⟩ => ⟨S8x2048x128, .f32⟩
  | .hbm, ⟨72, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_c_2 : Ref sig .tc := ⟨.hbm, 38, rfl⟩
abbrev main_call1_v0 : Ref sig .tc := ⟨.hbm, 39, rfl⟩
abbrev main_v28 : Ref sig .tc := ⟨.hbm, 40, rfl⟩
abbrev main_c_3 : Ref sig .tc := ⟨.hbm, 41, rfl⟩
abbrev main_call2_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call3_cst : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call4_call0_cst : Ref sig .tc := ⟨.hbm, 67, rfl⟩
abbrev main_call4_call0_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]
-- ==== Gla.lean ====
abbrev S16384x18432 : Shape := ⟨2, ![16384, 18432]⟩
abbrev S16384x128 : Shape := ⟨2, ![16384, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S112x1024 : Shape := ⟨2, ![112, 1024]⟩
abbrev S128x1024 : Shape := ⟨2, ![128, 1024]⟩
abbrev S1x1024 : Shape := ⟨2, ![1, 1024]⟩
abbrev S1x512 : Shape := ⟨2, ![1, 512]⟩
abbrev S16384x2048 : Shape := ⟨2, ![16384, 2048]⟩
abbrev S2048x256 : Shape := ⟨2, ![2048, 256]⟩
abbrev S2048x512 : Shape := ⟨2, ![2048, 512]⟩
abbrev S2048x128 : Shape := ⟨2, ![2048, 128]⟩
abbrev S128x256 : Shape := ⟨2, ![128, 256]⟩
abbrev S1x256 : Shape := ⟨2, ![1, 256]⟩
abbrev S32x8x256 : Shape := ⟨3, ![32, 8, 256]⟩
abbrev S512x256 : Shape := ⟨2, ![512, 256]⟩
abbrev S256x256 : Shape := ⟨2, ![256, 256]⟩
abbrev S256x128 : Shape := ⟨2, ![256, 128]⟩
abbrev S64x256 : Shape := ⟨2, ![64, 256]⟩
abbrev S8x256 : Shape := ⟨2, ![8, 256]⟩
abbrev S1x8x256 : Shape := ⟨3, ![1, 8, 256]⟩
abbrev S64x64 : Shape := ⟨2, ![64, 64]⟩
abbrev S128x512 : Shape := ⟨2, ![128, 512]⟩
abbrev S64x128 : Shape := ⟨2, ![64, 128]⟩
abbrev S64x512 : Shape := ⟨2, ![64, 512]⟩
abbrev S64 : Shape := ⟨1, ![64]⟩
abbrev S64x1 : Shape := ⟨2, ![64, 1]⟩

abbrev nBuf : Space → Nat
  | .hbm => 12
  | .vmem => 22
  | .smem => 0
  | _ => 0

abbrev bufTy : (tb : Table) → Fin (tcTables nBuf tb) → BufTy
  | .hbm, ⟨0, _⟩ => ⟨S16384x18432, .bf16⟩
  | .hbm, ⟨1, _⟩ => ⟨S16384x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S_, .f32⟩
  | .hbm, ⟨6, _⟩ => ⟨S112x1024, .f32⟩
  | .hbm, ⟨7, _⟩ => ⟨S128x1024, .f32⟩
  | .hbm, ⟨8, _⟩ => ⟨S128x1024, .bf16⟩
  | .hbm, ⟨9, _⟩ => ⟨S1x1024, .f32⟩
  | .hbm, ⟨10, _⟩ => ⟨S1x512, .f32⟩
  | .hbm, ⟨11, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .f32⟩
  | .local _ .vmem, ⟨9, _⟩ => ⟨S2048x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S2048x512, .bf16⟩
  | .local _ .vmem, ⟨16, _⟩ => ⟨S2048x512, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S32x8x256, .f32⟩
  | .local _ .vmem, ⟨21, _⟩ => ⟨S512x256, .f32⟩
  | _, _ => ⟨S16384x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c2_i32 : BitVec 32 := 2#32
  let v13 : BitVec 32 := Scalar.addi c0_i32 c2_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c4_i32 : BitVec 32 := 4#32
  let v22 : BitVec 32 := Scalar.muli arg16 c4_i32
  let c0_i32_9 : BitVec 32 := 0#32
  let v23 : BitVec 32 := Scalar.addi v22 c0_i32_9
  let c256_i32 : BitVec 32 := 256#32
  let v30 : BitVec 32 := Scalar.muli v23 c256_i32
  v30
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c4_i32_10 : BitVec 32 := 4#32
  let v24 : BitVec 32 := Scalar.muli arg16 c4_i32_10
  let c1_i32_11 : BitVec 32 := 1#32
  let v25 : BitVec 32 := Scalar.addi v24 c1_i32_11
  let c256_i32_15 : BitVec 32 := 256#32
  let v32 : BitVec 32 := Scalar.muli v25 c256_i32_15
  v32
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c4_i32_12 : BitVec 32 := 4#32
  let v26 : BitVec 32 := Scalar.muli arg16 c4_i32_12
  let c2_i32_13 : BitVec 32 := 2#32
  let v27 : BitVec 32 := Scalar.addi v26 c2_i32_13
  let c256_i32_16 : BitVec 32 := 256#32
  let v34 : BitVec 32 := Scalar.muli v27 c256_i32_16
  v34
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c4_i32_14 : BitVec 32 := 4#32
  let v28 : BitVec 32 := Scalar.muli arg16 c4_i32_14
  let c3_i32 : BitVec 32 := 3#32
  let v29 : BitVec 32 := Scalar.addi v28 c3_i32
  let c256_i32_17 : BitVec 32 := 256#32
  let v36 : BitVec 32 := Scalar.muli v29 c256_i32_17
  v36
def k0_off1 (k0_t1 : Fin k0_t1_loop.trips) (c0_i32_9 : BitVec 32) : Fin 2 → Nat :=
  let c0_i32 : BitVec 32 := 0#32
  let c1_i32 : BitVec 32 := 1#32
  let arg16 : BitVec 32 := Scf.iv c0_i32 c1_i32 k0_t1
  let c4_i32 : BitVec 32 := 4#32
  let v22 : BitVec 32 := Scalar.muli arg16 c4_i32
  let v23 : BitVec 32 := Scalar.addi v22 c0_i32_9
  let c256_i32 : BitVec 32 := 256#32
  let v30 : BitVec 32 := Scalar.muli v23 c256_i32
  let v31 : BitVec 32 := v30
  let v38 : Index := Scalar.indexCast v31
  let c0_18 : Index := 0#32
  ![v38.toNat, 0]
def k0_off2 (k0_t1 : Fin k0_t1_loop.trips) (c0_i32_9 : BitVec 32) : Fin 2 → Nat :=
  let c0_i32 : BitVec 32 := 0#32
  let c1_i32 : BitVec 32 := 1#32
  let arg16 : BitVec 32 := Scf.iv c0_i32 c1_i32 k0_t1
  let c4_i32 : BitVec 32 := 4#32
  let v22 : BitVec 32 := Scalar.muli arg16 c4_i32
  let v23 : BitVec 32 := Scalar.addi v22 c0_i32_9
  let c256_i32 : BitVec 32 := 256#32
  let v30 : BitVec 32 := Scalar.muli v23 c256_i32
  let v31 : BitVec 32 := v30
  let v179 : Index := Scalar.indexCast v31
  let c0_70 : Index := 0#32
  ![v179.toNat, 0]
def k0_off3 (k0_t1 : Fin k0_t1_loop.trips) (c0_i32_9 : BitVec 32) (c0_i32_78 : BitVec 32) : Fin 3 → Nat :=
  let c0_i32 : BitVec 32 := 0#32
  let c1_i32 : BitVec 32 := 1#32
  let arg16 : BitVec 32 := Scf.iv c0_i32 c1_i32 k0_t1
  let c4_i32 : BitVec 32 := 4#32
  let v22 : BitVec 32 := Scalar.muli arg16 c4_i32
  let v23 : BitVec 32 := Scalar.addi v22 c0_i32_9
  let c4_i32_77 : BitVec 32 := 4#32
  let v210 : BitVec 32 := Scalar.muli v23 c4_i32_77
  let v211 : BitVec 32 := Scalar.addi v210 c0_i32_78
  let v212 : Index := Scalar.indexCast v211
  let c0_79 : Index := 0#32
  let c0_80 : Index := 0#32
  ![v212.toNat, 0, 0]
@[reducible] def k0_t2_loop : Scf.Loop 32 :=
  let c0_i32_5 : BitVec 32 := 0#32
  let c2_i32_6 : BitVec 32 := 2#32
  let v21 : BitVec 32 := Scalar.addi c0_i32_5 c2_i32_6
  let c1_i32_7 : BitVec 32 := 1#32
  ⟨c0_i32_5, v21, c1_i32_7⟩
def k0_mult5 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let c0_i32_9 : BitVec 32 := 0#32
  let v23 : BitVec 32 := Scalar.addi v22 c0_i32_9
  let c2_i32_20 : BitVec 32 := 2#32
  let v38 : BitVec 32 := Scalar.muli v23 c2_i32_20
  let c64_i32 : BitVec 32 := 64#32
  let v39 : BitVec 32 := Scalar.muli v38 c64_i32
  v39
def k0_mult6 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_10 : BitVec 32 := 8#32
  let v24 : BitVec 32 := Scalar.muli arg16 c8_i32_10
  let c1_i32_11 : BitVec 32 := 1#32
  let v25 : BitVec 32 := Scalar.addi v24 c1_i32_11
  let c2_i32_21 : BitVec 32 := 2#32
  let v41 : BitVec 32 := Scalar.muli v25 c2_i32_21
  let c64_i32_22 : BitVec 32 := 64#32
  let v42 : BitVec 32 := Scalar.muli v41 c64_i32_22
  v42
def k0_mult7 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_12 : BitVec 32 := 8#32
  let v26 : BitVec 32 := Scalar.muli arg16 c8_i32_12
  let c2_i32_13 : BitVec 32 := 2#32
  let v27 : BitVec 32 := Scalar.addi v26 c2_i32_13
  let c2_i32_23 : BitVec 32 := 2#32
  let v44 : BitVec 32 := Scalar.muli v27 c2_i32_23
  let c64_i32_24 : BitVec 32 := 64#32
  let v45 : BitVec 32 := Scalar.muli v44 c64_i32_24
  v45
def k0_mult8 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_14 : BitVec 32 := 8#32
  let v28 : BitVec 32 := Scalar.muli arg16 c8_i32_14
  let c3_i32 : BitVec 32 := 3#32
  let v29 : BitVec 32 := Scalar.addi v28 c3_i32
  let c2_i32_25 : BitVec 32 := 2#32
  let v47 : BitVec 32 := Scalar.muli v29 c2_i32_25
  let c64_i32_26 : BitVec 32 := 64#32
  let v48 : BitVec 32 := Scalar.muli v47 c64_i32_26
  v48
def k0_mult9 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_15 : BitVec 32 := 8#32
  let v30 : BitVec 32 := Scalar.muli arg16 c8_i32_15
  let c4_i32 : BitVec 32 := 4#32
  let v31 : BitVec 32 := Scalar.addi v30 c4_i32
  let c2_i32_27 : BitVec 32 := 2#32
  let v50 : BitVec 32 := Scalar.muli v31 c2_i32_27
  let c64_i32_28 : BitVec 32 := 64#32
  let v51 : BitVec 32 := Scalar.muli v50 c64_i32_28
  v51
def k0_mult10 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_16 : BitVec 32 := 8#32
  let v32 : BitVec 32 := Scalar.muli arg16 c8_i32_16
  let c5_i32 : BitVec 32 := 5#32
  let v33 : BitVec 32 := Scalar.addi v32 c5_i32
  let c2_i32_29 : BitVec 32 := 2#32
  let v53 : BitVec 32 := Scalar.muli v33 c2_i32_29
  let c64_i32_30 : BitVec 32 := 64#32
  let v54 : BitVec 32 := Scalar.muli v53 c64_i32_30
  v54
def k0_mult11 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_17 : BitVec 32 := 8#32
  let v34 : BitVec 32 := Scalar.muli arg16 c8_i32_17
  let c6_i32_18 : BitVec 32 := 6#32
  let v35 : BitVec 32 := Scalar.addi v34 c6_i32_18
  let c2_i32_31 : BitVec 32 := 2#32
  let v56 : BitVec 32 := Scalar.muli v35 c2_i32_31
  let c64_i32_32 : BitVec 32 := 64#32
  let v57 : BitVec 32 := Scalar.muli v56 c64_i32_32
  v57
def k0_mult12 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_19 : BitVec 32 := 8#32
  let v36 : BitVec 32 := Scalar.muli arg16 c8_i32_19
  let c7_i32 : BitVec 32 := 7#32
  let v37 : BitVec 32 := Scalar.addi v36 c7_i32
  let c2_i32_33 : BitVec 32 := 2#32
  let v59 : BitVec 32 := Scalar.muli v37 c2_i32_33
  let c64_i32_34 : BitVec 32 := 64#32
  let v60 : BitVec 32 := Scalar.muli v59 c64_i32_34
  v60
def k0_mult13 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let c0_i32_9 : BitVec 32 := 0#32
  let v23 : BitVec 32 := Scalar.addi v22 c0_i32_9
  let c2_i32_35 : BitVec 32 := 2#32
  let v62 : BitVec 32 := Scalar.muli v23 c2_i32_35
  let c64_i32_36 : BitVec 32 := 64#32
  let v63 : BitVec 32 := Scalar.muli v62 c64_i32_36
  let c64_i32_37 : BitVec 32 := 64#32
  let v64 : BitVec 32 := Scalar.addi v63 c64_i32_37
  v64
def k0_mult14 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_10 : BitVec 32 := 8#32
  let v24 : BitVec 32 := Scalar.muli arg16 c8_i32_10
  let c1_i32_11 : BitVec 32 := 1#32
  let v25 : BitVec 32 := Scalar.addi v24 c1_i32_11
  let c2_i32_38 : BitVec 32 := 2#32
  let v66 : BitVec 32 := Scalar.muli v25 c2_i32_38
  let c64_i32_39 : BitVec 32 := 64#32
  let v67 : BitVec 32 := Scalar.muli v66 c64_i32_39
  let c64_i32_40 : BitVec 32 := 64#32
  let v68 : BitVec 32 := Scalar.addi v67 c64_i32_40
  v68
def k0_mult15 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_12 : BitVec 32 := 8#32
  let v26 : BitVec 32 := Scalar.muli arg16 c8_i32_12
  let c2_i32_13 : BitVec 32 := 2#32
  let v27 : BitVec 32 := Scalar.addi v26 c2_i32_13
  let c2_i32_41 : BitVec 32 := 2#32
  let v70 : BitVec 32 := Scalar.muli v27 c2_i32_41
  let c64_i32_42 : BitVec 32 := 64#32
  let v71 : BitVec 32 := Scalar.muli v70 c64_i32_42
  let c64_i32_43 : BitVec 32 := 64#32
  let v72 : BitVec 32 := Scalar.addi v71 c64_i32_43
  v72
def k0_mult16 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_14 : BitVec 32 := 8#32
  let v28 : BitVec 32 := Scalar.muli arg16 c8_i32_14
  let c3_i32 : BitVec 32 := 3#32
  let v29 : BitVec 32 := Scalar.addi v28 c3_i32
  let c2_i32_44 : BitVec 32 := 2#32
  let v74 : BitVec 32 := Scalar.muli v29 c2_i32_44
  let c64_i32_45 : BitVec 32 := 64#32
  let v75 : BitVec 32 := Scalar.muli v74 c64_i32_45
  let c64_i32_46 : BitVec 32 := 64#32
  let v76 : BitVec 32 := Scalar.addi v75 c64_i32_46
  v76
def k0_mult17 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_15 : BitVec 32 := 8#32
  let v30 : BitVec 32 := Scalar.muli arg16 c8_i32_15
  let c4_i32 : BitVec 32 := 4#32
  let v31 : BitVec 32 := Scalar.addi v30 c4_i32
  let c2_i32_47 : BitVec 32 := 2#32
  let v78 : BitVec 32 := Scalar.muli v31 c2_i32_47
  let c64_i32_48 : BitVec 32 := 64#32
  let v79 : BitVec 32 := Scalar.muli v78 c64_i32_48
  let c64_i32_49 : BitVec 32 := 64#32
  let v80 : BitVec 32 := Scalar.addi v79 c64_i32_49
  v80
def k0_mult18 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_16 : BitVec 32 := 8#32
  let v32 : BitVec 32 := Scalar.muli arg16 c8_i32_16
  let c5_i32 : BitVec 32 := 5#32
  let v33 : BitVec 32 := Scalar.addi v32 c5_i32
  let c2_i32_50 : BitVec 32 := 2#32
  let v82 : BitVec 32 := Scalar.muli v33 c2_i32_50
  let c64_i32_51 : BitVec 32 := 64#32
  let v83 : BitVec 32 := Scalar.muli v82 c64_i32_51
  let c64_i32_52 : BitVec 32 := 64#32
  let v84 : BitVec 32 := Scalar.addi v83 c64_i32_52
  v84
def k0_mult19 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_17 : BitVec 32 := 8#32
  let v34 : BitVec 32 := Scalar.muli arg16 c8_i32_17
  let c6_i32_18 : BitVec 32 := 6#32
  let v35 : BitVec 32 := Scalar.addi v34 c6_i32_18
  let c2_i32_53 : BitVec 32 := 2#32
  let v86 : BitVec 32 := Scalar.muli v35 c2_i32_53
  let c64_i32_54 : BitVec 32 := 64#32
  let v87 : BitVec 32 := Scalar.muli v86 c64_i32_54
  let c64_i32_55 : BitVec 32 := 64#32
  let v88 : BitVec 32 := Scalar.addi v87 c64_i32_55
  v88
def k0_mult20 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_19 : BitVec 32 := 8#32
  let v36 : BitVec 32 := Scalar.muli arg16 c8_i32_19
  let c7_i32 : BitVec 32 := 7#32
  let v37 : BitVec 32 := Scalar.addi v36 c7_i32
  let c2_i32_56 : BitVec 32 := 2#32
  let v90 : BitVec 32 := Scalar.muli v37 c2_i32_56
  let c64_i32_57 : BitVec 32 := 64#32
  let v91 : BitVec 32 := Scalar.muli v90 c64_i32_57
  let c64_i32_58 : BitVec 32 := 64#32
  let v92 : BitVec 32 := Scalar.addi v91 c64_i32_58
  v92
def k0_mult21 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let c0_i32_9 : BitVec 32 := 0#32
  let v23 : BitVec 32 := Scalar.addi v22 c0_i32_9
  let c2_i32_59 : BitVec 32 := 2#32
  let v94 : BitVec 32 := Scalar.muli v23 c2_i32_59
  let c64_i32_60 : BitVec 32 := 64#32
  let v95 : BitVec 32 := Scalar.muli v94 c64_i32_60
  v95
def k0_mult22 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_10 : BitVec 32 := 8#32
  let v24 : BitVec 32 := Scalar.muli arg16 c8_i32_10
  let c1_i32_11 : BitVec 32 := 1#32
  let v25 : BitVec 32 := Scalar.addi v24 c1_i32_11
  let c2_i32_61 : BitVec 32 := 2#32
  let v97 : BitVec 32 := Scalar.muli v25 c2_i32_61
  let c64_i32_62 : BitVec 32 := 64#32
  let v98 : BitVec 32 := Scalar.muli v97 c64_i32_62
  v98
def k0_mult23 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_12 : BitVec 32 := 8#32
  let v26 : BitVec 32 := Scalar.muli arg16 c8_i32_12
  let c2_i32_13 : BitVec 32 := 2#32
  let v27 : BitVec 32 := Scalar.addi v26 c2_i32_13
  let c2_i32_63 : BitVec 32 := 2#32
  let v100 : BitVec 32 := Scalar.muli v27 c2_i32_63
  let c64_i32_64 : BitVec 32 := 64#32
  let v101 : BitVec 32 := Scalar.muli v100 c64_i32_64
  v101
def k0_mult24 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_14 : BitVec 32 := 8#32
  let v28 : BitVec 32 := Scalar.muli arg16 c8_i32_14
  let c3_i32 : BitVec 32 := 3#32
  let v29 : BitVec 32 := Scalar.addi v28 c3_i32
  let c2_i32_65 : BitVec 32 := 2#32
  let v103 : BitVec 32 := Scalar.muli v29 c2_i32_65
  let c64_i32_66 : BitVec 32 := 64#32
  let v104 : BitVec 32 := Scalar.muli v103 c64_i32_66
  v104
def k0_mult25 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_15 : BitVec 32 := 8#32
  let v30 : BitVec 32 := Scalar.muli arg16 c8_i32_15
  let c4_i32 : BitVec 32 := 4#32
  let v31 : BitVec 32 := Scalar.addi v30 c4_i32
  let c2_i32_67 : BitVec 32 := 2#32
  let v106 : BitVec 32 := Scalar.muli v31 c2_i32_67
  let c64_i32_68 : BitVec 32 := 64#32
  let v107 : BitVec 32 := Scalar.muli v106 c64_i32_68
  v107
def k0_mult26 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_16 : BitVec 32 := 8#32
  let v32 : BitVec 32 := Scalar.muli arg16 c8_i32_16
  let c5_i32 : BitVec 32 := 5#32
  let v33 : BitVec 32 := Scalar.addi v32 c5_i32
  let c2_i32_69 : BitVec 32 := 2#32
  let v109 : BitVec 32 := Scalar.muli v33 c2_i32_69
  let c64_i32_70 : BitVec 32 := 64#32
  let v110 : BitVec 32 := Scalar.muli v109 c64_i32_70
  v110
def k0_mult27 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_17 : BitVec 32 := 8#32
  let v34 : BitVec 32 := Scalar.muli arg16 c8_i32_17
  let c6_i32_18 : BitVec 32 := 6#32
  let v35 : BitVec 32 := Scalar.addi v34 c6_i32_18
  let c2_i32_71 : BitVec 32 := 2#32
  let v112 : BitVec 32 := Scalar.muli v35 c2_i32_71
  let c64_i32_72 : BitVec 32 := 64#32
  let v113 : BitVec 32 := Scalar.muli v112 c64_i32_72
  v113
def k0_mult28 (k0_t2 : Fin k0_t2_loop.trips) : BitVec 32 :=
  let c0_i32_5 : BitVec 32 := 0#32
  let c1_i32_7 : BitVec 32 := 1#32
  let arg16 : BitVec 32 := Scf.iv c0_i32_5 c1_i32_7 k0_t2
  let c8_i32_19 : BitVec 32 := 8#32
  let v36 : BitVec 32 := Scalar.muli arg16 c8_i32_19
  let c7_i32 : BitVec 32 := 7#32
  let v37 : BitVec 32 := Scalar.addi v36 c7_i32
  let c2_i32_73 : BitVec 32 := 2#32
  let v115 : BitVec 32 := Scalar.muli v37 c2_i32_73
  let c64_i32_74 : BitVec 32 := 64#32
  let v116 : BitVec 32 := Scalar.muli v115 c64_i32_74
  v116
def k0_off4 (k0_t2 : Fin k0_t2_loop.trips) (c0_i32_9 : BitVec 32) : Fin 3 → Nat :=
  let c2_i32_75 : BitVec 32 := 2#32
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let v118 : BitVec 32 := Scalar.muli c2_i32_75 v23
  let v119 : Index := Scalar.indexCast v118
  let c0_76 : Index := 0#32
  let c0_77 : Index := 0#32
  ![v119.toNat, 0, 0]
def k0_off5 (k0_t2 : Fin k0_t2_loop.trips) (c0_i32_9 : BitVec 32) : Fin 3 → Nat :=
  let c2_i32_99 : BitVec 32 := 2#32
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let v158 : BitVec 32 := Scalar.muli c2_i32_99 v23
  let c1_i32_100 : BitVec 32 := 1#32
  let v159 : BitVec 32 := Scalar.addi v158 c1_i32_100
  let v160 : Index := Scalar.indexCast v159
  let c0_101 : Index := 0#32
  let c0_102 : Index := 0#32
  ![v160.toNat, 0, 0]
def k0_off6 (k0_t2 : Fin k0_t2_loop.trips) (c0_i32_9 : BitVec 32) : Fin 2 → Nat :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let c2_i32_20 : BitVec 32 := 2#32
  let v38 : BitVec 32 := Scalar.muli v23 c2_i32_20
  let c64_i32 : BitVec 32 := 64#32
  let v39 : BitVec 32 := Scalar.muli v38 c64_i32
  let v40 : BitVec 32 := v39
  let v206 : Index := Scalar.indexCast v40
  let c0_131 : Index := 0#32
  ![v206.toNat, 0]
def k0_off7 (k0_t2 : Fin k0_t2_loop.trips) (c0_i32_9 : BitVec 32) : Fin 2 → Nat :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let c2_i32_35 : BitVec 32 := 2#32
  let v62 : BitVec 32 := Scalar.muli v23 c2_i32_35
  let c64_i32_36 : BitVec 32 := 64#32
  let v63 : BitVec 32 := Scalar.muli v62 c64_i32_36
  let c64_i32_37 : BitVec 32 := 64#32
  let v64 : BitVec 32 := Scalar.addi v63 c64_i32_37
  let v65 : BitVec 32 := v64
  let v222 : Index := Scalar.indexCast v65
  let c0_139 : Index := 0#32
  ![v222.toNat, 0]
def k0_off8 (k0_t2 : Fin k0_t2_loop.trips) (c0_i32_9 : BitVec 32) : Fin 2 → Nat :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let c2_i32_59 : BitVec 32 := 2#32
  let v94 : BitVec 32 := Scalar.muli v23 c2_i32_59
  let c64_i32_60 : BitVec 32 := 64#32
  let v95 : BitVec 32 := Scalar.muli v94 c64_i32_60
  let v96 : BitVec 32 := v95
  let v254 : Index := Scalar.indexCast v96
  let c0_155 : Index := 0#32
  ![v254.toNat, 0]
def k0_off9 (k0_t2 : Fin k0_t2_loop.trips) (c0_i32_9 : BitVec 32) : Fin 2 → Nat :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let c2_i32_20 : BitVec 32 := 2#32
  let v38 : BitVec 32 := Scalar.muli v23 c2_i32_20
  let c64_i32 : BitVec 32 := 64#32
  let v39 : BitVec 32 := Scalar.muli v38 c64_i32
  let v40 : BitVec 32 := v39
  let v548 : Index := Scalar.indexCast v40
  let c0_244 : Index := 0#32
  ![v548.toNat, 0]
def k0_off10 (k0_t2 : Fin k0_t2_loop.trips) (c0_i32_9 : BitVec 32) : Fin 2 → Nat :=
  let c0_i32_5 : BitVec 32 := 0#32
  let c1_i32_7 : BitVec 32 := 1#32
  let arg16 : BitVec 32 := Scf.iv c0_i32_5 c1_i32_7 k0_t2
  let c8_i32 : BitVec 32 := 8#32
  let v22 : BitVec 32 := Scalar.muli arg16 c8_i32
  let v23 : BitVec 32 := Scalar.addi v22 c0_i32_9
  let c2_i32_35 : BitVec 32 := 2#32
  let v62 : BitVec 32 := Scalar.muli v23 c2_i32_35
  let c64_i32_36 : BitVec 32 := 64#32
  let v63 : BitVec 32 := Scalar.muli v62 c64_i32_36
  let c64_i32_37 : BitVec 32 := 64#32
  let v64 : BitVec 32 := Scalar.addi v63 c64_i32_37
  let v65 : BitVec 32 := v64
  let v571 : Index := Scalar.indexCast v65
  let c0_251 : Index := 0#32
  ![v571.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S16384x18432 : Shape := ⟨2, ![16384, 18432]⟩
abbrev S16384x128 : Shape := ⟨2, ![16384, 128]⟩
abbrev S16x1024 : Shape := ⟨2, ![16, 1024]⟩
abbrev S1024 : Shape := ⟨1, ![1024]⟩
abbrev S512 : Shape := ⟨1, ![512]⟩
abbrev S16384x6144 : Shape := ⟨2, ![16384, 6144]⟩
abbrev S16384x1024 : Shape := ⟨2, ![16384, 1024]⟩
abbrev S16384x2048 : Shape := ⟨2, ![16384, 2048]⟩
abbrev S16384x16 : Shape := ⟨2, ![16384, 16]⟩
abbrev S1x1024 : Shape := ⟨2, ![1, 1024]⟩
abbrev S_ : Shape := ⟨0, ![]⟩
abbrev S8x2048x4x256 : Shape := ⟨4, ![8, 2048, 4, 256]⟩
abbrev S8x4x2048x256 : Shape := ⟨4, ![8, 4, 2048, 256]⟩
abbrev S8x2048x4x512 : Shape := ⟨4, ![8, 2048, 4, 512]⟩
abbrev S8x4x2048x512 : Shape := ⟨4, ![8, 4, 2048, 512]⟩
abbrev S8x4x2048x1x256 : Shape := ⟨5, ![8, 4, 2048, 1, 256]⟩
abbrev S8x4x1x2048x256 : Shape := ⟨5, ![8, 4, 1, 2048, 256]⟩
abbrev S8x4x2048x2048x256 : Shape := ⟨5, ![8, 4, 2048, 2048, 256]⟩
abbrev S2048x2048 : Shape := ⟨2, ![2048, 2048]⟩
abbrev S2048x2048x1 : Shape := ⟨3, ![2048, 2048, 1]⟩
abbrev S8x4x2048x2048 : Shape := ⟨4, ![8, 4, 2048, 2048]⟩
abbrev S8x2048x4 : Shape := ⟨3, ![8, 2048, 4]⟩
abbrev S8x2048x4x1 : Shape := ⟨4, ![8, 2048, 4, 1]⟩
abbrev S1x1x1x512 : Shape := ⟨4, ![1, 1, 1, 512]⟩

abbrev nBuf : Space → Nat
  | .hbm => 111
  | .vmem => 0
  | .smem => 0
  | _ => 0

abbrev bufTy : (tb : Table) → Fin (tcTables nBuf tb) → BufTy
  | .hbm, ⟨0, _⟩ => ⟨S16384x18432, .bf16⟩
  | .hbm, ⟨1, _⟩ => ⟨S16384x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S16384x6144, .bf16⟩
  | .hbm, ⟨6, _⟩ => ⟨S16384x6144, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x16, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .i1⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S8x2048x4x256, .f32⟩
  | .hbm, ⟨36, _⟩ => ⟨S8x4x2048x256, .f32⟩
  | .hbm, ⟨37, _⟩ => ⟨S8x2048x4x256, .f32⟩
  | .hbm, ⟨38, _⟩ => ⟨S8x4x2048x256, .f32⟩
  | .hbm, ⟨39, _⟩ => ⟨S8x2048x4x512, .f32⟩
  | .hbm, ⟨40, _⟩ => ⟨S8x4x2048x512, .f32⟩
  | .hbm, ⟨41, _⟩ => ⟨S8x2048x4x256, .f32⟩
  | .hbm, ⟨42, _⟩ => ⟨S8x4x2048x256, .f32⟩
  | .hbm, ⟨43, _⟩ => ⟨S_, .f32⟩
  | .hbm, ⟨44, _⟩ => ⟨S8x4x2048x256, .f32⟩
  | .hbm, ⟨45, _⟩ => ⟨S8x4x2048x256, .f32⟩
  | .hbm, ⟨46, _⟩ => ⟨S_, .f32⟩
  | .hbm, ⟨47, _⟩ => ⟨S_, .f32⟩
  | .hbm, ⟨48, _⟩ => ⟨S8x4x2048x256, .f32⟩
  | .hbm, ⟨49, _⟩ => ⟨S8x4x2048x1x256, .f32⟩
  | .hbm, ⟨50, _⟩ => ⟨S8x4x1x2048x256, .f32⟩
  | .hbm, ⟨51, _⟩ => ⟨S8x4x2048x2048x256, .f32⟩
  | .hbm, ⟨52, _⟩ => ⟨S8x4x2048x2048x256, .f32⟩
  | .hbm, ⟨53, _⟩ => ⟨S8x4x2048x2048x256, .f32⟩
  | .hbm, ⟨54, _⟩ => ⟨S_, .i1⟩
  | .hbm, ⟨55, _⟩ => ⟨S2048x2048, .i1⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S_, .i1⟩
  | .hbm, ⟨63, _⟩ => ⟨S2048x2048, .i1⟩
  | .hbm, ⟨64, _⟩ => ⟨S2048x2048, .i1⟩
  | .hbm, ⟨65, _⟩ => ⟨S2048x2048x1, .i1⟩
  | .hbm, ⟨66, _⟩ => ⟨S_, .f32⟩
  | .hbm, ⟨67, _⟩ => ⟨S_, .f32⟩
  | .hbm, ⟨68, _⟩ => ⟨S8x4x2048x2048x256, .i1⟩
  | .hbm, ⟨69, _⟩ => ⟨S8x4x2048x2048x256, .f32⟩
  | .hbm, ⟨70, _⟩ => ⟨S8x4x2048x2048x256, .f32⟩
  | .hbm, ⟨71, _⟩ => ⟨S8x4x2048x2048x256, .f32⟩
  | .hbm, ⟨72, _⟩ => ⟨S8x4x2048x1x256, .f32⟩
  | .hbm, ⟨73, _⟩ => ⟨S8x4x1x2048x256, .f32⟩
  | .hbm, ⟨74, _⟩ => ⟨S8x4x2048x2048x256, .f32⟩
  | .hbm, ⟨75, _⟩ => ⟨S8x4x2048x2048x256, .f32⟩
  | .hbm, ⟨76, _⟩ => ⟨S8x4x2048x2048x256, .f32⟩
  | .hbm, ⟨77, _⟩ => ⟨S8x4x2048x2048x256, .f32⟩
  | .hbm, ⟨78, _⟩ => ⟨S_, .f32⟩
  | .hbm, ⟨79, _⟩ => ⟨S8x4x2048x2048, .f32⟩
  | .hbm, ⟨80, _⟩ => ⟨S8x4x2048x512, .f32⟩
  | .hbm, ⟨81, _⟩ => ⟨S8x2048x4x512, .f32⟩
  | .hbm, ⟨82, _⟩ => ⟨S8x2048x4x512, .f32⟩
  | .hbm, ⟨83, _⟩ => ⟨S_, .f32⟩
  | .hbm, ⟨84, _⟩ => ⟨S8x2048x4, .f32⟩
  | .hbm, ⟨85, _⟩ => ⟨S8x2048x4x1, .f32⟩
  | .hbm, ⟨86, _⟩ => ⟨S_, .f32⟩
  | .hbm, ⟨87, _⟩ => ⟨S8x2048x4x1, .f32⟩
  | .hbm, ⟨88, _⟩ => ⟨S8x2048x4x1, .f32⟩
  | .hbm, ⟨89, _⟩ => ⟨S_, .f32⟩
  | .hbm, ⟨90, _⟩ => ⟨S8x2048x4x1, .f32⟩
  | .hbm, ⟨91, _⟩ => ⟨S8x2048x4x1, .f32⟩
  | .hbm, ⟨92, _⟩ => ⟨S8x2048x4x1, .f32⟩
  | .hbm, ⟨93, _⟩ => ⟨S8x2048x4x512, .f32⟩
  | .hbm, ⟨94, _⟩ => ⟨S8x2048x4x512, .f32⟩
  | .hbm, ⟨95, _⟩ => ⟨S1x1x1x512, .f32⟩
  | .hbm, ⟨96, _⟩ => ⟨S8x2048x4x512, .f32⟩
  | .hbm, ⟨97, _⟩ => ⟨S8x2048x4x512, .f32⟩
  | .hbm, ⟨98, _⟩ => ⟨S16384x2048, .f32⟩
  | .hbm, ⟨99, _⟩ => ⟨S16384x2048, .f32⟩
  | .hbm, ⟨100, _⟩ => ⟨S_, .f32⟩
  | .hbm, ⟨101, _⟩ => ⟨S16384x2048, .f32⟩
  | .hbm, ⟨102, _⟩ => ⟨S16384x2048, .f32⟩
  | .hbm, ⟨103, _⟩ => ⟨S_, .f32⟩
  | .hbm, ⟨104, _⟩ => ⟨S16384x2048, .f32⟩
  | .hbm, ⟨105, _⟩ => ⟨S16384x2048, .f32⟩
  | .hbm, ⟨106, _⟩ => ⟨S16384x2048, .f32⟩
  | .hbm, ⟨107, _⟩ => ⟨S8x2048x4x512, .f32⟩
  | .hbm, ⟨108, _⟩ => ⟨S8x2048x4x512, .f32⟩
  | .hbm, ⟨109, _⟩ => ⟨S16384x2048, .f32⟩
  | .hbm, ⟨110, _⟩ => ⟨S16384x2048, .bf16⟩
  | _, _ => ⟨S16384x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_call1_call0_cst : Ref sig .tc := ⟨.hbm, 46, rfl⟩
abbrev main_call1_call0_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_0 : Ref sig .tc := ⟨.hbm, 62, rfl⟩
abbrev main_call2_v5 : Ref sig .tc := ⟨.hbm, 63, rfl⟩
abbrev main_v31 : Ref sig .tc := ⟨.hbm, 64, rfl⟩
abbrev main_v32 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_2 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_3 : Ref sig .tc := ⟨.hbm, 83, rfl⟩
abbrev main_v45 : Ref sig .tc := ⟨.hbm, 84, rfl⟩
abbrev main_v46 : Ref sig .tc := ⟨.hbm, 85, rfl⟩
abbrev main_cst_4 : Ref sig .tc := ⟨.hbm, 86, rfl⟩
abbrev main_v47 : Ref sig .tc := ⟨.hbm, 87, rfl⟩
abbrev main_v48 : Ref sig .tc := ⟨.hbm, 88, rfl⟩
abbrev main_cst_5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩

abbrev nD : Nat := 1
abbrev τ : Topo := Topo.v7x

variable {F : FTy → Type} [FloatOps F]
-- ==== Merge.lean ====
abbrev S16384x2048 : Shape := ⟨2, ![16384, 2048]⟩
abbrev S2x2048x2048 : Shape := ⟨3, ![2, 2048, 2048]⟩
abbrev S16384x18432 : Shape := ⟨2, ![16384, 18432]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x2048, .f32⟩
  | .hbm, ⟨3, _⟩ => ⟨S16384x18432, .bf16⟩
  | .hbm, ⟨4, _⟩ => ⟨S2x2048x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x2048 : Shape := ⟨2, ![16384, 2048]⟩
abbrev S2x2048x2048 : Shape := ⟨3, ![2, 2048, 2048]⟩
abbrev S16384x18432 : Shape := ⟨2, ![16384, 18432]⟩
abbrev S16384x4096 : Shape := ⟨2, ![16384, 4096]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x2048, .f32⟩
  | .hbm, ⟨3, _⟩ => ⟨S16384x18432, .bf16⟩
  | .hbm, ⟨4, _⟩ => ⟨S16384x2048, .f32⟩
  | .hbm, ⟨5, _⟩ => ⟨S16384x2048, .f32⟩
  | .hbm, ⟨6, _⟩ => ⟨S16384x4096, .bf16⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S16384x2048, .f32⟩
  | .hbm, ⟨18, _⟩ => ⟨S1x2048x2048, .f32⟩
  | .hbm, ⟨19, _⟩ => ⟨S2048x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S8x2048x2048 : Shape := ⟨3, ![8, 2048, 2048]⟩
abbrev S8x6144 : Shape := ⟨2, ![8, 6144]⟩
abbrev S2048 : Shape := ⟨1, ![2048]⟩
abbrev S8x1x6144 : Shape := ⟨3, ![8, 1, 6144]⟩
abbrev S1x2048 : Shape := ⟨2, ![1, 2048]⟩
abbrev S512x2048 : Shape := ⟨2, ![512, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x6144, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S8x1x6144, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S2048x2048 : Shape := ⟨2, ![2048, 2048]⟩
abbrev S8x2048x2048 : Shape := ⟨3, ![8, 2048, 2048]⟩
abbrev S8x6144 : Shape := ⟨2, ![8, 6144]⟩
abbrev S2048 : Shape := ⟨1, ![2048]⟩
abbrev S8x2048 : Shape := ⟨2, ![8, 2048]⟩
abbrev S_ : Shape := ⟨0, ![]⟩
abbrev S8x1x2048 : Shape := ⟨3, ![8, 1, 2048]⟩
abbrev S8x2048x1 : Shape := ⟨3, ![8, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x6144, .f32⟩
  | .hbm, ⟨4, _⟩ => ⟨S2048, .f32⟩
  | .hbm, ⟨5, _⟩ => ⟨S2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S16384x2048, .f32⟩
  | .hbm, ⟨10, _⟩ => ⟨S16384x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | .hbm, ⟨48, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Ada.lean ====
abbrev S8x2048 : Shape := ⟨2, ![8, 2048]⟩
abbrev S2048x6144 : Shape := ⟨2, ![2048, 6144]⟩
abbrev S6144 : Shape := ⟨1, ![6144]⟩
abbrev S1x6144 : Shape := ⟨2, ![1, 6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S2048x6144 : Shape := ⟨2, ![2048, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.GlaBody.lean ====
module

public import proofs.«01_k».proof.Proof.Gen.GlaIdeal.Skeleton
public import Idealize.ShloMosaic.Lib.Pipeline.Value
public import Idealize.ShloMosaic.Lib.Pointwise
public import Idealize.ShloMosaic.Lib.Exec
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # Gated linear attention: what the body computes from its blocks -/

set_option maxRecDepth 16384

noncomputable section

namespace Cert.GlaIdeal.Hand

open Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## Rows and slabs of the buffers -/

/-- The `n` rows of a buffer from row `o` on. -/
def rows {n d : ℕ} {e : EltTy} (x : Vec F ⟨2, ![2048, d]⟩ e) (o : ℕ) : Vec F ⟨2, ![n, d]⟩ e :=
  fun y => x (ix2 ⟨(o + (y 0).val) % 2048, Nat.mod_lt _ (by decide)⟩ (y 1))

/-- Slab `o` of the decays' buffer. -/
def slab (x : Vec F S32x8x256 .f32) (o : ℕ) : Vec F S1x8x256 .f32 :=
  fun y => x (ix3 ⟨o % 32, Nat.mod_lt _ (by decide)⟩ (y 1) (y 2))

/-! ## The first loop: 256 rows at a time -/

/-- The constant zero. -/
abbrev fz : F .f32 := Scalar.ofBits .f32 0x00000000#32

/-- The low-rank gate before its nonlinearity. -/
def gateOf (sm : FVec F S256x128 .f32) (w : FVec F S128x256 .bf16) (b : FVec F S1x256 .f32) : FVec F S256x256 .f32 :=
  addf (matmul dot_S256x128_S128x256_S256x256_1_0_0_1_n_n none (truncf .bf16 sm bitsLt_bf16_f32)
      (shapeCast S128x256 w shapeCasts_S128x256_S128x256) (constant S256x256 .f32 0x00000000#32))
    (broadcastTo S256x256 (shapeCast S1x256 b shapeCasts_S1x256_S1x256) broadcasts_S1x256_S256x256)

/-- The log decay: minus the softplus of minus the gate, over the gate's normaliser. -/
def decayOf (z : FVec F S256x256 .f32) : FVec F S256x256 .f32 :=
  let y := subf (broadcast S256x256 fz) z
  mulf (subf (broadcast S256x256 fz)
      (addf (maximumf y (broadcast S256x256 fz)) (log1p (exp (subf (broadcast S256x256 fz) (absf y))))))
    (broadcast S256x256 (Scalar.ofBits .f32 0x3D800000#32))

/-- Its running sums within the chunks of 64 rows: the lower-triangular blocks of ones against the two halves of the
    log decay. -/
def cumOf (a : FVec F S256x256 .f32) : FVec F S256x256 .f32 :=
  addf (matmul dot_S256x256_S256x256_S256x256_1_0_0_1_n_n none (k0_pay1 (F := F)) (truncf .bf16 a bitsLt_bf16_f32)
      (constant S256x256 .f32 0x00000000#32))
    (matmul dot_S256x256_S256x256_S256x256_1_0_0_1_n_n none (k0_pay1 (F := F))
      (truncf .bf16 (subf a (extf .f32 (truncf .bf16 a bitsLt_bf16_f32) bitsLt_bf16_f32)) bitsLt_bf16_f32)
      (constant S256x256 .f32 0x00000000#32))

/-- The decay of a whole chunk, at each of its rows. -/
def lastOf (u : FVec F S256x256 .f32) : FVec F S256x256 .f32 :=
  let row (w : FVec F S1x256 .f32) : FVec F S64x256 .f32 :=
    broadcastTo S64x256 (shapeCast S1x256 (exp w) shapeCasts_S1x256_S1x256) broadcasts_S1x256_S64x256
  concatenate S256x256 0
    [⟨S64x256, row (extractStridedSlice S1x256 ![63, 0] u slices_S256x256_o63_0_S1x256)⟩,
     ⟨S64x256, row (extractStridedSlice S1x256 ![127, 0] u slices_S256x256_o127_0_S1x256)⟩,
     ⟨S64x256, row (extractStridedSlice S1x256 ![191, 0] u slices_S256x256_o191_0_S1x256)⟩,
     ⟨S64x256, row (extractStridedSlice S1x256 ![255, 0] u slices_S256x256_o255_0_S1x256)⟩]
    concatenates_S64x256_S64x256_S64x256_S64x256_S256x256_d0

/-- The queries, decayed from their chunk's start and scaled. -/
def qeOf (u : FVec F S256x256 .f32) (q : FVec F S256x256 .bf16) : FVec F S256x256 .bf16 :=
  shapeCast S256x256 (truncf .bf16 (mulf (extf .f32 q bitsLt_bf16_f32)
    (mulf (exp u) (broadcast S256x256 (Scalar.ofBits .f32 0x3D800000#32)))) bitsLt_bf16_f32) shapeCasts_S256x256_S256x256

/-- The keys, with the decay from their chunk's start undone. -/
def kwOf (u : FVec F S256x256 .f32) (k : FVec F S256x256 .bf16) : FVec F S256x256 .f32 :=
  mulf (extf .f32 k bitsLt_bf16_f32) (exp (subf (broadcast S256x256 fz) u))

/-- The same, in the products' precision. -/
def kiOf (u : FVec F S256x256 .f32) (k : FVec F S256x256 .bf16) : FVec F S256x256 .bf16 :=
  shapeCast S256x256 (truncf .bf16 (kwOf u k) bitsLt_bf16_f32) shapeCasts_S256x256_S256x256

/-- The keys, decayed to their chunk's end. -/
def kdOf (u : FVec F S256x256 .f32) (k : FVec F S256x256 .bf16) : FVec F S256x256 .bf16 :=
  shapeCast S256x256 (truncf .bf16 (mulf (kwOf u k) (lastOf u)) bitsLt_bf16_f32) shapeCasts_S256x256_S256x256

/-- The decay of chunk `j` of the four, as its slab. -/
def dlOf (u : FVec F S256x256 .f32) : ℕ → FVec F S1x8x256 .f32
  | 0 => shapeCast S1x8x256 (extractStridedSlice S8x256 ![0, 0] (lastOf u) slices_S256x256_o0_0_S8x256) shapeCasts_S8x256_S1x8x256
  | 1 => shapeCast S1x8x256 (extractStridedSlice S8x256 ![64, 0] (lastOf u) slices_S256x256_o64_0_S8x256) shapeCasts_S8x256_S1x8x256
  | 2 => shapeCast S1x8x256 (extractStridedSlice S8x256 ![128, 0] (lastOf u) slices_S256x256_o128_0_S8x256) shapeCasts_S8x256_S1x8x256
  | _ => shapeCast S1x8x256 (extractStridedSlice S8x256 ![192, 0] (lastOf u) slices_S256x256_o192_0_S8x256) shapeCasts_S8x256_S1x8x256

/-- The running sums of block `n` of 256 rows. -/
def cumAt (x4 : Vec F S2048x128 .f32) (x5 : Vec F S128x256 .bf16) (x6 : Vec F S1x256 .f32) (n : ℕ) : FVec F S256x256 .f32 :=
  cumOf (decayOf (gateOf (rows x4 (256 * n)) x5 x6))

/-- The buffer of decayed queries after the first loop. -/
def QE (x0 : Vec F S2048x256 .bf16) (x4 : Vec F S2048x128 .f32) (x5 : Vec F S128x256 .bf16) (x6 : Vec F S1x256 .f32) : Vec F S2048x256 .bf16 :=
  fun y => qeOf (cumAt x4 x5 x6 ((y 0).val / 256)) (rows x0 (256 * ((y 0).val / 256)))
    (ix2 ⟨(y 0).val % 256, Nat.mod_lt _ (by decide)⟩ (y 1))

/-- The buffer of keys after the first loop. -/
def KI (x1 : Vec F S2048x256 .bf16) (x4 : Vec F S2048x128 .f32) (x5 : Vec F S128x256 .bf16) (x6 : Vec F S1x256 .f32) : Vec F S2048x256 .bf16 :=
  fun y => kiOf (cumAt x4 x5 x6 ((y 0).val / 256)) (rows x1 (256 * ((y 0).val / 256)))
    (ix2 ⟨(y 0).val % 256, Nat.mod_lt _ (by decide)⟩ (y 1))

/-- The buffer of decayed keys after the first loop. -/
def KD (x1 : Vec F S2048x256 .bf16) (x4 : Vec F S2048x128 .f32) (x5 : Vec F S128x256 .bf16) (x6 : Vec F S1x256 .f32) : Vec F S2048x256 .bf16 :=
  fun y => kdOf (cumAt x4 x5 x6 ((y 0).val / 256)) (rows x1 (256 * ((y 0).val / 256)))
    (ix2 ⟨(y 0).val % 256, Nat.mod_lt _ (by decide)⟩ (y 1))

/-- The buffer of the chunks' decays after the first loop. -/
def DL (x4 : Vec F S2048x128 .f32) (x5 : Vec F S128x256 .bf16) (x6 : Vec F S1x256 .f32) : Vec F S32x8x256 .f32 :=
  fun y => dlOf (cumAt x4 x5 x6 ((y 0).val / 4)) ((y 0).val % 4) (ix3 0 (y 1) (y 2))

/-! ## The second loop: two chunks at a time -/

/-- The decay's row of a slab. -/
def dRow (d : FVec F S1x8x256 .f32) : FVec F S1x256 .f32 :=
  extractStridedSlice S1x256 ![0, 0] (shapeCast S8x256 d shapeCasts_S1x8x256_S8x256) slices_S8x256_o0_0_S1x256

/-- The scores within a chunk, at or below the diagonal. -/
def attOf (q k : FVec F S64x256 .bf16) : FVec F S64x64 .bf16 :=
  truncf .bf16 (select k0_pay5 (matmul dot_S64x256_S64x256_S64x64_1_1_0_0_n_n none q k (constant S64x64 .f32 0x00000000#32))
    (broadcast S64x64 fz)) bitsLt_bf16_f32

/-- The scores of the second chunk against both. -/
def att2Of (qb kda kib : FVec F S64x256 .bf16) : FVec F S64x128 .bf16 :=
  concatenate S64x128 1 [⟨S64x64, truncf .bf16 (matmul dot_S64x256_S64x256_S64x64_1_1_0_0_n_n none qb kda
      (constant S64x64 .f32 0x00000000#32)) bitsLt_bf16_f32⟩, ⟨S64x64, attOf qb kib⟩] concatenates_S64x64_S64x64_S64x128_d1

/-- A chunk's rows under a decay. -/
def decd (x : FVec F S64x256 .bf16) (d : FVec F S1x256 .f32) : FVec F S64x256 .bf16 :=
  truncf .bf16 (mulf (extf .f32 x bitsLt_bf16_f32) (broadcastTo S64x256 d broadcasts_S1x256_S64x256)) bitsLt_bf16_f32

/-- The queries of both chunks, decayed from the first one's start. -/
def q2Of (qa qb : FVec F S64x256 .bf16) (da : FVec F S1x256 .f32) : FVec F S128x256 .bf16 :=
  concatenate S128x256 0 [⟨S64x256, qa⟩, ⟨S64x256, decd qb da⟩] concatenates_S64x256_S64x256_S128x256_d0

/-- The keys of both chunks, decayed to the second one's end. -/
def kd2Of (kda kdb : FVec F S64x256 .bf16) (db : FVec F S1x256 .f32) : FVec F S128x256 .bf16 :=
  concatenate S128x256 0 [⟨S64x256, decd kda db⟩, ⟨S64x256, kdb⟩] concatenates_S64x256_S64x256_S128x256_d0

/-- The state after two chunks. -/
def stepOf (da db : FVec F S1x256 .f32) (kda kdb : FVec F S64x256 .bf16) (v2 : FVec F S128x512 .bf16) (st : FVec F S512x256 .f32) : FVec F S512x256 .f32 :=
  addf (mulf st (broadcastTo S512x256 (mulf da db) broadcasts_S1x256_S512x256))
    (matmul dot_S128x512_S128x256_S512x256_0_0_1_1_n_n none v2 (kd2Of kda kdb db) (constant S512x256 .f32 0x00000000#32))

/-- The state's part of both chunks' outputs. -/
def o2Of (da : FVec F S1x256 .f32) (qa qb : FVec F S64x256 .bf16) (st : FVec F S512x256 .f32) : FVec F S128x512 .f32 :=
  matmul dot_S128x256_S512x256_S128x512_1_1_0_0_n_n none (q2Of qa qb da) (truncf .bf16 st bitsLt_bf16_f32)
    (constant S128x512 .f32 0x00000000#32)

/-- The first chunk's output before the norm. -/
def oaOf (da : FVec F S1x256 .f32) (qa qb kia : FVec F S64x256 .bf16) (v2 : FVec F S128x512 .bf16) (st : FVec F S512x256 .f32) : FVec F S64x512 .f32 :=
  addf (extractStridedSlice S64x512 ![0, 0] (o2Of da qa qb st) slices_S128x512_o0_0_S64x512)
    (matmul dot_S64x64_S64x512_S64x512_1_0_0_1_n_n none (attOf qa kia)
      (extractStridedSlice S64x512 ![0, 0] v2 slices_S128x512_o0_0_S64x512) (constant S64x512 .f32 0x00000000#32))

/-- The second chunk's output before the norm. -/
def obOf (da : FVec F S1x256 .f32) (qa qb kda kib : FVec F S64x256 .bf16) (v2 : FVec F S128x512 .bf16) (st : FVec F S512x256 .f32) : FVec F S64x512 .f32 :=
  addf (extractStridedSlice S64x512 ![64, 0] (o2Of da qa qb st) slices_S128x512_o64_0_S64x512)
    (matmul dot_S64x128_S128x512_S64x512_1_0_0_1_n_n none (att2Of qb kda kib) v2 (constant S64x512 .f32 0x00000000#32))

/-- The gated norm of a chunk's output. -/
def gnOf (o : FVec F S64x512 .f32) (nw : FVec F S1x512 .f32) (g : FVec F S64x512 .bf16) : FVec F S64x512 .bf16 :=
  let h := mulf (broadcast S64x512 (Scalar.ofBits .f32 0x3F000000#32)) (extf .f32 g bitsLt_bf16_f32)
  let ms := divf (shapeCast S64x1 (multiReduction .add [1] S64 (mulf o o) 0x00000000#32 reduces_S64x512_S64 (.inl rfl) rfl) shapeCasts_S64_S64x1)
    (broadcast S64x1 (Scalar.ofBits .f32 0x44000000#32))
  truncf .bf16 (mulf (mulf (mulf o (broadcastTo S64x512 (rsqrt (addf ms (broadcast S64x1 (Scalar.ofBits .f32 0x358637BD#32)))) broadcasts_S64x1_S64x512))
      (broadcastTo S64x512 (shapeCast S1x512 nw shapeCasts_S1x512_S1x512) broadcasts_S1x512_S64x512))
    (addf h (mulf h (tanh h)))) bitsLt_bf16_f32

section
variable (qe ki kd : Vec F S2048x256 .bf16) (dl : Vec F S32x8x256 .f32) (v g : Vec F S2048x512 .bf16) (nw : Vec F S1x512 .f32)

/-- The state before pair `n` of chunks. -/
def stAt : ℕ → FVec F S512x256 .f32
  | 0 => k0_pay4 (F := F)
  | n + 1 => stepOf (dRow (slab dl (2 * n))) (dRow (slab dl (2 * n + 1))) (rows kd (128 * n)) (rows kd (128 * n + 64)) (rows v (128 * n)) (stAt n)

/-- The first chunk's rows of pair `n`. -/
def yaAt (n : ℕ) : FVec F S64x512 .bf16 :=
  gnOf (oaOf (dRow (slab dl (2 * n))) (rows qe (128 * n)) (rows qe (128 * n + 64)) (rows ki (128 * n)) (rows v (128 * n)) (stAt kd dl v n))
    nw (rows g (128 * n))

/-- The second chunk's rows of pair `n`. -/
def ybAt (n : ℕ) : FVec F S64x512 .bf16 :=
  gnOf (obOf (dRow (slab dl (2 * n))) (rows qe (128 * n)) (rows qe (128 * n + 64)) (rows kd (128 * n)) (rows ki (128 * n + 64)) (rows v (128 * n)) (stAt kd dl v n))
    nw (rows g (128 * n + 64))

/-- The output block after the second loop. -/
def YY : Vec F S2048x512 .bf16 := fun y =>
  if (y 0).val % 128 < 64 then yaAt qe ki kd dl v g nw ((y 0).val / 128) (ix2 ⟨(y 0).val % 64, Nat.mod_lt _ (by decide)⟩ (y 1))
  else ybAt qe ki kd dl v g nw ((y 0).val / 128) (ix2 ⟨(y 0).val % 64, Nat.mod_lt _ (by decide)⟩ (y 1))

end

end Cert.GlaIdeal.Hand
-- ==== Proof.GlaTrip1.lean ====
module

public import proofs.«01_k».proof.Proof.GlaBody
public import Idealize.ShloMosaic.Lib.VecWindow
public import Idealize.ShloMosaic.Lib.WritesUnit
public import Idealize.ShloMosaic.Lib.Exec
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # Gated linear attention: the trips of its two loops -/

set_option maxRecDepth 16384

noncomputable section

namespace Cert.GlaIdeal.Hand

open Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Loads and stores of rows and slabs -/

/-- A load of rows. -/
theorem ld_rows {n d : ℕ} {e : EltTy} {κ : Kind} {sp : Space} (v : View sig κ sp ⟨2, ![2048, d]⟩ e) (f : v.ty.Contents (Elt F))
    {off : Fin 2 → ℕ} (o : ℕ) (hoff : off = ![o, 0]) (inb : ∀ a, off a + (⟨2, ![n, d]⟩ : Shape).size a ≤ (⟨2, ![2048, d]⟩ : Shape).size a) :
    v.readAt (Elt F) (Rect.unit (s := ⟨2, ![2048, d]⟩) off (⟨2, ![n, d]⟩ : Shape).size inb).toLoadRect f = (rows (F := F) (n := n) (v.read (Elt F) f) o : Vec F ⟨2, ![n, d]⟩ e) := by
  subst hoff
  have h0 : o + n ≤ 2048 := inb 0
  funext y
  refine congrArg (v.read (Elt F) f) (funext fun a => Fin.ext ?_)
  have hy : (y 0).val < n := (y 0).isLt
  match a with
  | ⟨0, _⟩ =>
    show o + 1 * (y 0).val = (o + (y 0).val) % 2048
    rw [Nat.mod_eq_of_lt (by omega)]; omega
  | ⟨1, _⟩ =>
    show 0 + 1 * (y 1).val = (y 1).val
    omega

/-- A load of a slab. -/
theorem ld_slab {κ : Kind} {sp : Space} (v : View sig κ sp S32x8x256 .f32) (f : v.ty.Contents (Elt F))
    {off : Fin 3 → ℕ} (o : ℕ) (hoff : off = ![o, 0, 0]) (inb : ∀ a, off a + S1x8x256.size a ≤ S32x8x256.size a) :
    v.readAt (Elt F) (Rect.unit (s := S32x8x256) off S1x8x256.size inb).toLoadRect f = (slab (v.read (Elt F) f) o : Vec F S1x8x256 .f32) := by
  subst hoff
  have h0 : o + 1 ≤ 32 := inb 0
  funext y
  refine congrArg (v.read (Elt F) f) (funext fun a => Fin.ext ?_)
  have hy : (y 0).val < 1 := (y 0).isLt
  match a with
  | ⟨0, _⟩ =>
    show o + 1 * (y 0).val = o % 32
    rw [Nat.mod_eq_of_lt (by omega)]; omega
  | ⟨1, _⟩ =>
    show 0 + 1 * (y 1).val = (y 1).val
    omega
  | ⟨2, _⟩ =>
    show 0 + 1 * (y 2).val = (y 2).val
    omega

/-- A store of the rows that follow those already right. -/
theorem ext_rows {n d : ℕ} {e : EltTy} {κ : Kind} {sp : Space} (v : View sig κ sp ⟨2, ![2048, d]⟩ e) (f : v.ty.Contents (Elt F))
    (G : Vec F ⟨2, ![2048, d]⟩ e) {off : Fin 2 → ℕ} (o : ℕ) (hoff : off = ![o, 0])
    (inb : ∀ a, off a + (⟨2, ![n, d]⟩ : Shape).size a ≤ (⟨2, ![2048, d]⟩ : Shape).size a)
    (p : Vec F ⟨2, ![n, d]⟩ e) (L : List (View.Piece (Elt F) ⟨2, ![2048, d]⟩ e)) (hp : p = rows (F := F) G o)
    (hL : ∀ y, (y 0).val < o → v.read (Elt F) (v.writes (Elt F) f L) y = G y) (y : (⟨2, ![2048, d]⟩ : Shape).Idx) (hy : (y 0).val < o + n) :
    v.read (Elt F) (v.writes (Elt F) f (⟨Rect.unit (s := ⟨2, ![2048, d]⟩) off (⟨2, ![n, d]⟩ : Shape).size inb, p⟩ :: L)) y = G y := by
  subst hoff
  have h0 : o + n ≤ 2048 := inb 0
  by_cases h : (y 0).val < o
  · rw [View.read_writes_cons_unit_of_not_mem v f inb p L y rfl 0 (Or.inl h)]
    exact hL y h
  · rw [View.read_writes_cons_unit_of_mem v f inb p L y (ix2 ⟨(y 0).val - o, by omega⟩ (y 1)) rfl (fun a => by
      match a with
      | ⟨0, _⟩ =>
        show (y 0).val = o + ((y 0).val - o)
        omega
      | ⟨1, _⟩ =>
        show (y 1).val = 0 + (y 1).val
        omega), hp]
    refine congrArg G (funext fun a => Fin.ext ?_)
    match a with
    | ⟨0, _⟩ =>
      show (o + ((y 0).val - o)) % 2048 = (y 0).val
      rw [Nat.mod_eq_of_lt (by omega)]; omega
    | ⟨1, _⟩ => rfl

/-- A store of the slab that follows those already right. -/
theorem ext_slab {κ : Kind} {sp : Space} (v : View sig κ sp S32x8x256 .f32) (f : v.ty.Contents (Elt F))
    (G : Vec F S32x8x256 .f32) {off : Fin 3 → ℕ} (o : ℕ) (hoff : off = ![o, 0, 0]) (inb : ∀ a, off a + S1x8x256.size a ≤ S32x8x256.size a)
    (p : Vec F S1x8x256 .f32) (L : List (View.Piece (Elt F) S32x8x256 .f32)) (hp : p = slab G o)
    (hL : ∀ y, (y 0).val < o → v.read (Elt F) (v.writes (Elt F) f L) y = G y) (y : S32x8x256.Idx) (hy : (y 0).val < o + 1) :
    v.read (Elt F) (v.writes (Elt F) f (⟨Rect.unit (s := S32x8x256) off S1x8x256.size inb, p⟩ :: L)) y = G y := by
  subst hoff
  have h0 : o + 1 ≤ 32 := inb 0
  by_cases h : (y 0).val < o
  · rw [View.read_writes_cons_unit_of_not_mem v f inb p L y rfl 0 (Or.inl h)]
    exact hL y h
  · rw [View.read_writes_cons_unit_of_mem v f inb p L y (ix3 ⟨0, by decide⟩ (y 1) (y 2)) rfl (fun a => by
      match a with
      | ⟨0, _⟩ =>
        show (y 0).val = o + 0
        omega
      | ⟨1, _⟩ =>
        show (y 1).val = 0 + (y 1).val
        omega
      | ⟨2, _⟩ =>
        show (y 2).val = 0 + (y 2).val
        omega), hp]
    refine congrArg G (funext fun a => Fin.ext ?_)
    match a with
    | ⟨0, _⟩ =>
      show o % 32 = (y 0).val
      rw [Nat.mod_eq_of_lt (by omega)]; omega
    | ⟨1, _⟩ => rfl
    | ⟨2, _⟩ => rfl

/-! ## What the buffers of the first loop are, block by block -/

theorem rows_QE (x0 : Vec F S2048x256 .bf16) (x4 : Vec F S2048x128 .f32) (x5 : Vec F S128x256 .bf16) (x6 : Vec F S1x256 .f32) (n : ℕ) (hn : n < 8) :
    rows (n := 256) (QE x0 x4 x5 x6) (256 * n) = qeOf (cumAt x4 x5 x6 n) (rows x0 (256 * n)) := by
  funext y
  have hy : (y 0).val < 256 := (y 0).isLt
  have e : (256 * n + (y 0).val) % 2048 / 256 = n := by omega
  have e' : (256 * n + (y 0).val) % 2048 % 256 = (y 0).val := by omega
  show qeOf (cumAt x4 x5 x6 ((256 * n + (y 0).val) % 2048 / 256)) (rows x0 (256 * ((256 * n + (y 0).val) % 2048 / 256)))
    (ix2 ⟨(256 * n + (y 0).val) % 2048 % 256, _⟩ (y 1)) = _
  rw [e]
  refine congrArg _ (funext fun a => Fin.ext ?_)
  match a with
  | ⟨0, _⟩ => exact e'
  | ⟨1, _⟩ => rfl

theorem rows_KI (x1 : Vec F S2048x256 .bf16) (x4 : Vec F S2048x128 .f32) (x5 : Vec F S128x256 .bf16) (x6 : Vec F S1x256 .f32) (n : ℕ) (hn : n < 8) :
    rows (n := 256) (KI x1 x4 x5 x6) (256 * n) = kiOf (cumAt x4 x5 x6 n) (rows x1 (256 * n)) := by
  funext y
  have hy : (y 0).val < 256 := (y 0).isLt
  have e : (256 * n + (y 0).val) % 2048 / 256 = n := by omega
  have e' : (256 * n + (y 0).val) % 2048 % 256 = (y 0).val := by omega
  show kiOf (cumAt x4 x5 x6 ((256 * n + (y 0).val) % 2048 / 256)) (rows x1 (256 * ((256 * n + (y 0).val) % 2048 / 256)))
    (ix2 ⟨(256 * n + (y 0).val) % 2048 % 256, _⟩ (y 1)) = _
  rw [e]
  refine congrArg _ (funext fun a => Fin.ext ?_)
  match a with
  | ⟨0, _⟩ => exact e'
  | ⟨1, _⟩ => rfl

theorem rows_KD (x1 : Vec F S2048x256 .bf16) (x4 : Vec F S2048x128 .f32) (x5 : Vec F S128x256 .bf16) (x6 : Vec F S1x256 .f32) (n : ℕ) (hn : n < 8) :
    rows (n := 256) (KD x1 x4 x5 x6) (256 * n) = kdOf (cumAt x4 x5 x6 n) (rows x1 (256 * n)) := by
  funext y
  have hy : (y 0).val < 256 := (y 0).isLt
  have e : (256 * n + (y 0).val) % 2048 / 256 = n := by omega
  have e' : (256 * n + (y 0).val) % 2048 % 256 = (y 0).val := by omega
  show kdOf (cumAt x4 x5 x6 ((256 * n + (y 0).val) % 2048 / 256)) (rows x1 (256 * ((256 * n + (y 0).val) % 2048 / 256)))
    (ix2 ⟨(256 * n + (y 0).val) % 2048 % 256, _⟩ (y 1)) = _
  rw [e]
  refine congrArg _ (funext fun a => Fin.ext ?_)
  match a with
  | ⟨0, _⟩ => exact e'
  | ⟨1, _⟩ => rfl

theorem slab_DL (x4 : Vec F S2048x128 .f32) (x5 : Vec F S128x256 .bf16) (x6 : Vec F S1x256 .f32) (n j : ℕ) (hn : n < 8) (hj : j < 4) :
    slab (DL x4 x5 x6) (4 * n + j) = dlOf (cumAt x4 x5 x6 n) j := by
  funext y
  have hy : (y 0).val < 1 := (y 0).isLt
  have e : (4 * n + j) % 32 / 4 = n := by omega
  have e' : (4 * n + j) % 32 % 4 = j := by omega
  show dlOf (cumAt x4 x5 x6 ((4 * n + j) % 32 / 4)) ((4 * n + j) % 32 % 4) (ix3 0 (y 1) (y 2)) = _
  rw [e, e']
  refine congrArg _ (funext fun a => Fin.ext ?_)
  match a with
  | ⟨0, _⟩ =>
    show 0 = (y 0).val
    omega
  | ⟨1, _⟩ => rfl
  | ⟨2, _⟩ => rfl

/-! ## The trips -/

theorem off1 : ∀ (k : Fin k0_t1_loop.trips) (b : Fin 4), k0_off1 k (BitVec.ofNat 32 b.val) = ![256 * (4 * k.val + b.val), 0] := by decide +kernel
theorem off2 : ∀ (k : Fin k0_t1_loop.trips) (b : Fin 4), k0_off2 k (BitVec.ofNat 32 b.val) = ![256 * (4 * k.val + b.val), 0] := by decide +kernel
theorem off3 : ∀ (k : Fin k0_t1_loop.trips) (b j : Fin 4), k0_off3 k (BitVec.ofNat 32 b.val) (BitVec.ofNat 32 j.val) = ![4 * (4 * k.val + b.val) + j.val, 0, 0] := by decide +kernel

/-- The first loop's invariant before trip `k`: the blocks as given, and the scratch buffers right up to the trip's rows. -/
abbrev inv1 (c : Dev nD) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (k : ℕ) : sProp 𝕄 :=
  iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg11.view.loc (c : Thread nD τ) ↦[arg11.view.set]{fullShare} f) ∗ ⌜∀ y, (y 0).val < 1024 * k → arg11.view.read (Elt F) f y = QE (arg2.view.read (Elt F) X2) (arg6.view.read (Elt F) X6) (arg7.view.read (Elt F) X7) (arg8.view.read (Elt F) X8) y⌝) ∗ (∃ f, (arg12.view.loc (c : Thread nD τ) ↦[arg12.view.set]{fullShare} f) ∗ ⌜∀ y, (y 0).val < 1024 * k → arg12.view.read (Elt F) f y = KI (arg3.view.read (Elt F) X3) (arg6.view.read (Elt F) X6) (arg7.view.read (Elt F) X7) (arg8.view.read (Elt F) X8) y⌝) ∗ (∃ f, (arg13.view.loc (c : Thread nD τ) ↦[arg13.view.set]{fullShare} f) ∗ ⌜∀ y, (y 0).val < 1024 * k → arg13.view.read (Elt F) f y = KD (arg3.view.read (Elt F) X3) (arg6.view.read (Elt F) X6) (arg7.view.read (Elt F) X7) (arg8.view.read (Elt F) X8) y⌝) ∗ (∃ f, (arg14.view.loc (c : Thread nD τ) ↦[arg14.view.set]{fullShare} f) ∗ ⌜∀ y, (y 0).val < 16 * k → arg14.view.read (Elt F) f y = DL (arg6.view.read (Elt F) X6) (arg7.view.read (Elt F) X7) (arg8.view.read (Elt F) X8) y⌝))

set_option maxHeartbeats 800000 in
/-- One trip of the first loop. -/
theorem trip1 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (k : Fin k0_t1_loop.trips) (E : Set ℕ) :
    inv1 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 k.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k PUnit.unit)
        (fun _ => inv1 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 (k.val + 1)) := by
  have hk : k.val < 2 := Nat.lt_of_lt_of_le k.isLt k0_t1_abs.2.1
  have e60 : (View.readAt (Elt F) arg6.view (Rect.unit (s := S2048x128) (k0_off1 k 0#32) S256x128.size (k0_off1_inb k 0)).toLoadRect X6) = rows (arg6.view.read (Elt F) X6) (256 * (4 * k.val + 0)) :=
    ld_rows arg6.view X6 (256 * (4 * k.val + 0)) (off1 k 0) (k0_off1_inb k 0)
  have e20 : (View.readAt (Elt F) arg2.view (Rect.unit (s := S2048x256) (k0_off2 k 0#32) S256x256.size (k0_off2_inb k 0)).toLoadRect X2) = rows (arg2.view.read (Elt F) X2) (256 * (4 * k.val + 0)) :=
    ld_rows arg2.view X2 (256 * (4 * k.val + 0)) (off2 k 0) (k0_off2_inb k 0)
  have e30 : (View.readAt (Elt F) arg3.view (Rect.unit (s := S2048x256) (k0_off2 k 0#32) S256x256.size (k0_off2_inb k 0)).toLoadRect X3) = rows (arg3.view.read (Elt F) X3) (256 * (4 * k.val + 0)) :=
    ld_rows arg3.view X3 (256 * (4 * k.val + 0)) (off2 k 0) (k0_off2_inb k 0)
  have e61 : (View.readAt (Elt F) arg6.view (Rect.unit (s := S2048x128) (k0_off1 k 1#32) S256x128.size (k0_off1_inb k 1)).toLoadRect X6) = rows (arg6.view.read (Elt F) X6) (256 * (4 * k.val + 1)) :=
    ld_rows arg6.view X6 (256 * (4 * k.val + 1)) (off1 k 1) (k0_off1_inb k 1)
  have e21 : (View.readAt (Elt F) arg2.view (Rect.unit (s := S2048x256) (k0_off2 k 1#32) S256x256.size (k0_off2_inb k 1)).toLoadRect X2) = rows (arg2.view.read (Elt F) X2) (256 * (4 * k.val + 1)) :=
    ld_rows arg2.view X2 (256 * (4 * k.val + 1)) (off2 k 1) (k0_off2_inb k 1)
  have e31 : (View.readAt (Elt F) arg3.view (Rect.unit (s := S2048x256) (k0_off2 k 1#32) S256x256.size (k0_off2_inb k 1)).toLoadRect X3) = rows (arg3.view.read (Elt F) X3) (256 * (4 * k.val + 1)) :=
    ld_rows arg3.view X3 (256 * (4 * k.val + 1)) (off2 k 1) (k0_off2_inb k 1)
  have e62 : (View.readAt (Elt F) arg6.view (Rect.unit (s := S2048x128) (k0_off1 k 2#32) S256x128.size (k0_off1_inb k 2)).toLoadRect X6) = rows (arg6.view.read (Elt F) X6) (256 * (4 * k.val + 2)) :=
    ld_rows arg6.view X6 (256 * (4 * k.val + 2)) (off1 k 2) (k0_off1_inb k 2)
  have e22 : (View.readAt (Elt F) arg2.view (Rect.unit (s := S2048x256) (k0_off2 k 2#32) S256x256.size (k0_off2_inb k 2)).toLoadRect X2) = rows (arg2.view.read (Elt F) X2) (256 * (4 * k.val + 2)) :=
    ld_rows arg2.view X2 (256 * (4 * k.val + 2)) (off2 k 2) (k0_off2_inb k 2)
  have e32 : (View.readAt (Elt F) arg3.view (Rect.unit (s := S2048x256) (k0_off2 k 2#32) S256x256.size (k0_off2_inb k 2)).toLoadRect X3) = rows (arg3.view.read (Elt F) X3) (256 * (4 * k.val + 2)) :=
    ld_rows arg3.view X3 (256 * (4 * k.val + 2)) (off2 k 2) (k0_off2_inb k 2)
  have e63 : (View.readAt (Elt F) arg6.view (Rect.unit (s := S2048x128) (k0_off1 k 3#32) S256x128.size (k0_off1_inb k 3)).toLoadRect X6) = rows (arg6.view.read (Elt F) X6) (256 * (4 * k.val + 3)) :=
    ld_rows arg6.view X6 (256 * (4 * k.val + 3)) (off1 k 3) (k0_off1_inb k 3)
  have e23 : (View.readAt (Elt F) arg2.view (Rect.unit (s := S2048x256) (k0_off2 k 3#32) S256x256.size (k0_off2_inb k 3)).toLoadRect X2) = rows (arg2.view.read (Elt F) X2) (256 * (4 * k.val + 3)) :=
    ld_rows arg2.view X2 (256 * (4 * k.val + 3)) (off2 k 3) (k0_off2_inb k 3)
  have e33 : (View.readAt (Elt F) arg3.view (Rect.unit (s := S2048x256) (k0_off2 k 3#32) S256x256.size (k0_off2_inb k 3)).toLoadRect X3) = rows (arg3.view.read (Elt F) X3) (256 * (4 * k.val + 3)) :=
    ld_rows arg3.view X3 (256 * (4 * k.val + 3)) (off2 k 3) (k0_off2_inb k 3)
  have e7 : (View.readAt (Elt F) arg7.view (Rect.unit (s := S128x256) ![0, 0] S128x256.size inb_S128x256_S128x256_0_0).toLoadRect X7) = (arg7.view.read (Elt F) X7) := View.readAt_full arg7.view X7 inb_S128x256_S128x256_0_0
  have e8 : (View.readAt (Elt F) arg8.view (Rect.unit (s := S1x256) ![0, 0] S1x256.size inb_S1x256_S1x256_0_0).toLoadRect X8) = (arg8.view.read (Elt F) X8) := View.readAt_full arg8.view X8 inb_S1x256_S1x256_0_0
  unfold k0_t1_body
  unfold inv1
  iintro ⟨H2, H3, H6, H7, H8, ⟨%f11, H11, %h11⟩, ⟨%f12, H12, %h12⟩, ⟨%f13, H13, %h13⟩, ⟨%f14, H14, %h14⟩⟩
  sl_exec
  sl_step
  isplitl [H2]; · iexact H2
  isplitl [H3]; · iexact H3
  isplitl [H6]; · iexact H6
  isplitl [H7]; · iexact H7
  isplitl [H8]; · iexact H8
  isplitl [H11]
  · iexists _; isplitl [H11]; · iexact H11
    ipureintro
    intro y hy
    refine ext_rows arg11.view f11 _ (256 * (4 * k.val + 3)) (off2 k 3) (k0_off2_inb k 3) _ _ ?_ ?_ y (by omega)
    · exact Eq.trans (b := qeOf (cumAt (arg6.view.read (Elt F) X6) (arg7.view.read (Elt F) X7) (arg8.view.read (Elt F) X8) (4 * k.val + 3)) (rows (arg2.view.read (Elt F) X2) (256 * (4 * k.val + 3)))) rfl (rows_QE (arg2.view.read (Elt F) X2) (arg6.view.read (Elt F) X6) (arg7.view.read (Elt F) X7) (arg8.view.read (Elt F) X8) (4 * k.val + 3) (by omega)).symm
    clear hy y; intro y hy
    refine ext_rows arg11.view f11 _ (256 * (4 * k.val + 2)) (off2 k 2) (k0_off2_inb k 2) _ _ ?_ ?_ y (by omega)
    · exact Eq.trans (b := qeOf (cumAt (arg6.view.read (Elt F) X6) (arg7.view.read (Elt F) X7) (arg8.view.read (Elt F) X8) (4 * k.val + 2)) (rows (arg2.view.read (Elt F) X2) (256 * (4 * k.val + 2)))) rfl (rows_QE (arg2.view.read (Elt F) X2) (arg6.view.read (Elt F) X6) (arg7.view.read (Elt F) X7) (arg8.view.read (Elt F) X8) (4 * k.val + 2) (by omega)).symm
    clear hy y; intro y hy
    refine ext_rows arg11.view f11 _ (256 * (4 * k.val + 1)) (off2 k 1) (k0_off2_inb k 1) _ _ ?_ ?_ y (by omega)
    · exact Eq.trans (b := qeOf (cumAt (arg6.view.read (Elt F) X6) (arg7.view.read (Elt F) X7) (arg8.view.read (Elt F) X8) (4 * k.val + 1)) (rows (arg2.view.read (Elt F) X2) (256 * (4 * k.val + 1)))) rfl (rows_QE (arg2.view.read (Elt F) X2) (arg6.view.read (Elt F) X6) (arg7.view.read (Elt F) X7) (arg8.view.read (Elt F) X8) (4 * k.val + 1) (by omega)).symm
    clear hy y; intro y hy
    refine ext_rows arg11.view f11 _ (256 * (4 * k.val + 0)) (off2 k 0) (k0_off2_inb k 0) _ _ ?_ ?_ y (by omega)
    · exact Eq.trans (b := qeOf (cumAt (arg6.view.read (Elt F) X6) (arg7.view.read (Elt F) X7) (arg8.view.read (Elt F) X8) (4 * k.val + 0)) (rows (arg2.view.read (Elt F) X2) (256 * (4 * k.val + 0)))) rfl (rows_QE (arg2.view.read (Elt F) X2) (arg6.view.read (Elt F) X6) (arg7.view.read (Elt F) X7) (arg8.view.read (Elt F) X8) (4 * k.val + 0) (by omega)).symm
    clear hy y; intro y hy
    exact h11 y (by omega)
  isplitl [H12]
  · iexists _; isplitl [H12]; · iexact H12
    ipureintro
    intro y hy
    refine ext_rows arg12.view f12 _ (256 * (4 * k.val + 3)) (off2 k 3) (k0_off2_inb k 3) _ _ ?_ ?_ y (by omega)
    · exact Eq.trans (b := kiOf (cumAt (arg6.view.read (Elt F) X6) (arg7.view.read (Elt F) X7) (arg8.view.read (Elt F) X8) (4 * k.val + 3)) (rows (arg3.view.read (Elt F) X3) (256 * (4 * k.val + 3)))) rfl (rows_KI (arg3.view.read (Elt F) X3) (arg6.view.read (Elt F) X6) (arg7.view.read (Elt F) X7) (arg8.view.read (Elt F) X8) (4 * k.val + 3) (by omega)).symm
    clear hy y; intro y hy
    refine ext_rows arg12.view f12 _ (256 * (4 * k.val + 2)) (off2 k 2) (k0_off2_inb k 2) _ _ ?_ ?_ y (by omega)
    · exact Eq.trans (b := kiOf (cumAt (arg6.view.read (Elt F) X6) (arg7.view.read (Elt F) X7) (arg8.view.read (Elt F) X8) (4 * k.val + 2)) (rows (arg3.view.read (Elt F) X3) (256 * (4 * k.val + 2)))) rfl (rows_KI (arg3.view.read (Elt F) X3) (arg6.view.read (Elt F) X6) (arg7.view.read (Elt F) X7) (arg8.view.read (Elt F) X8) (4 * k.val + 2) (by omega)).symm
    clear hy y; intro y hy
    refine ext_rows arg12.view f12 _ (256 * (4 * k.val + 1)) (off2 k 1) (k0_off2_inb k 1) _ _ ?_ ?_ y (by omega)
    · exact Eq.trans (b := kiOf (cumAt (arg6.view.read (Elt F) X6) (arg7.view.read (Elt F) X7) (arg8.view.read (Elt F) X8) (4 * k.val + 1)) (rows (arg3.view.read (Elt F) X3) (256 * (4 * k.val + 1)))) rfl (rows_KI (arg3.view.read (Elt F) X3) (arg6.view.read (Elt F) X6) (arg7.view.read (Elt F) X7) (arg8.view.read (Elt F) X8) (4 * k.val + 1) (by omega)).symm
    clear hy y; intro y hy
    refine ext_rows arg12.view f12 _ (256 * (4 * k.val + 0)) (off2 k 0) (k0_off2_inb k 0) _ _ ?_ ?_ y (by omega)
    · exact Eq.trans (b := kiOf (cumAt (arg6.view.read (Elt F) X6) (arg7.view.read (Elt F) X7) (arg8.view.read (Elt F) X8) (4 * k.val + 0)) (rows (arg3.view.read (Elt F) X3) (256 * (4 * k.val + 0)))) rfl (rows_KI (arg3.view.read (Elt F) X3) (arg6.view.read (Elt F) X6) (arg7.view.read (Elt F) X7) (arg8.view.read (Elt F) X8) (4 * k.val + 0) (by omega)).symm
    clear hy y; intro y hy
    exact h12 y (by omega)
  isplitl [H13]
  · iexists _; isplitl [H13]; · iexact H13
    ipureintro
    intro y hy
    refine ext_rows arg13.view f13 _ (256 * (4 * k.val + 3)) (off2 k 3) (k0_off2_inb k 3) _ _ ?_ ?_ y (by omega)
    · exact Eq.trans (b := kdOf (cumAt (arg6.view.read (Elt F) X6) (arg7.view.read (Elt F) X7) (arg8.view.read (Elt F) X8) (4 * k.val + 3)) (rows (arg3.view.read (Elt F) X3) (256 * (4 * k.val + 3)))) rfl (rows_KD (arg3.view.read (Elt F) X3) (arg6.view.read (Elt F) X6) (arg7.view.read (Elt F) X7) (arg8.view.read (Elt F) X8) (4 * k.val + 3) (by omega)).symm
    clear hy y; intro y hy
    refine ext_rows arg13.view f13 _ (256 * (4 * k.val + 2)) (off2 k 2) (k0_off2_inb k 2) _ _ ?_ ?_ y (by omega)
    · exact Eq.trans (b := kdOf (cumAt (arg6.view.read (Elt F) X6) (arg7.view.read (Elt F) X7) (arg8.view.read (Elt F) X8) (4 * k.val + 2)) (rows (arg3.view.read (Elt F) X3) (256 * (4 * k.val + 2)))) rfl (rows_KD (arg3.view.read (Elt F) X3) (arg6.view.read (Elt F) X6) (arg7.view.read (Elt F) X7) (arg8.view.read (Elt F) X8) (4 * k.val + 2) (by omega)).symm
    clear hy y; intro y hy
    refine ext_rows arg13.view f13 _ (256 * (4 * k.val + 1)) (off2 k 1) (k0_off2_inb k 1) _ _ ?_ ?_ y (by omega)
    · exact Eq.trans (b := kdOf (cumAt (arg6.view.read (Elt F) X6) (arg7.view.read (Elt F) X7) (arg8.view.read (Elt F) X8) (4 * k.val + 1)) (rows (arg3.view.read (Elt F) X3) (256 * (4 * k.val + 1)))) rfl (rows_KD (arg3.view.read (Elt F) X3) (arg6.view.read (Elt F) X6) (arg7.view.read (Elt F) X7) (arg8.view.read (Elt F) X8) (4 * k.val + 1) (by omega)).symm
    clear hy y; intro y hy
    refine ext_rows arg13.view f13 _ (256 * (4 * k.val + 0)) (off2 k 0) (k0_off2_inb k 0) _ _ ?_ ?_ y (by omega)
    · exact Eq.trans (b := kdOf (cumAt (arg6.view.read (Elt F) X6) (arg7.view.read (Elt F) X7) (arg8.view.read (Elt F) X8) (4 * k.val + 0)) (rows (arg3.view.read (Elt F) X3) (256 * (4 * k.val + 0)))) rfl (rows_KD (arg3.view.read (Elt F) X3) (arg6.view.read (Elt F) X6) (arg7.view.read (Elt F) X7) (arg8.view.read (Elt F) X8) (4 * k.val + 0) (by omega)).symm
    clear hy y; intro y hy
    exact h13 y (by omega)
  iexists _; isplitl [H14]; · iexact H14
  ipureintro
  intro y hy
  refine ext_slab arg14.view f14 _ (4 * (4 * k.val + 3) + 3) (off3 k 3 3) (k0_off3_inb k 3 3) _ _ ?_ ?_ y (by omega)
  · exact Eq.trans (b := dlOf (cumAt (arg6.view.read (Elt F) X6) (arg7.view.read (Elt F) X7) (arg8.view.read (Elt F) X8) (4 * k.val + 3)) 3) rfl (slab_DL (arg6.view.read (Elt F) X6) (arg7.view.read (Elt F) X7) (arg8.view.read (Elt F) X8) (4 * k.val + 3) 3 (by omega) (by omega)).symm
  clear hy y; intro y hy
  refine ext_slab arg14.view f14 _ (4 * (4 * k.val + 3) + 2) (off3 k 3 2) (k0_off3_inb k 3 2) _ _ ?_ ?_ y (by omega)
  · exact Eq.trans (b := dlOf (cumAt (arg6.view.read (Elt F) X6) (arg7.view.read (Elt F) X7) (arg8.view.read (Elt F) X8) (4 * k.val + 3)) 2) rfl (slab_DL (arg6.view.read (Elt F) X6) (arg7.view.read (Elt F) X7) (arg8.view.read (Elt F) X8) (4 * k.val + 3) 2 (by omega) (by omega)).symm
  clear hy y; intro y hy
  refine ext_slab arg14.view f14 _ (4 * (4 * k.val + 3) + 1) (off3 k 3 1) (k0_off3_inb k 3 1) _ _ ?_ ?_ y (by omega)
  · exact Eq.trans (b := dlOf (cumAt (arg6.view.read (Elt F) X6) (arg7.view.read (Elt F) X7) (arg8.view.read (Elt F) X8) (4 * k.val + 3)) 1) rfl (slab_DL (arg6.view.read (Elt F) X6) (arg7.view.read (Elt F) X7) (arg8.view.read (Elt F) X8) (4 * k.val + 3) 1 (by omega) (by omega)).symm
  clear hy y; intro y hy
  refine ext_slab arg14.view f14 _ (4 * (4 * k.val + 3) + 0) (off3 k 3 0) (k0_off3_inb k 3 0) _ _ ?_ ?_ y (by omega)
  · exact Eq.trans (b := dlOf (cumAt (arg6.view.read (Elt F) X6) (arg7.view.read (Elt F) X7) (arg8.view.read (Elt F) X8) (4 * k.val + 3)) 0) rfl (slab_DL (arg6.view.read (Elt F) X6) (arg7.view.read (Elt F) X7) (arg8.view.read (Elt F) X8) (4 * k.val + 3) 0 (by omega) (by omega)).symm
  clear hy y; intro y hy
  refine ext_slab arg14.view f14 _ (4 * (4 * k.val + 2) + 3) (off3 k 2 3) (k0_off3_inb k 2 3) _ _ ?_ ?_ y (by omega)
  · exact Eq.trans (b := dlOf (cumAt (arg6.view.read (Elt F) X6) (arg7.view.read (Elt F) X7) (arg8.view.read (Elt F) X8) (4 * k.val + 2)) 3) rfl (slab_DL (arg6.view.read (Elt F) X6) (arg7.view.read (Elt F) X7) (arg8.view.read (Elt F) X8) (4 * k.val + 2) 3 (by omega) (by omega)).symm
  clear hy y; intro y hy
  refine ext_slab arg14.view f14 _ (4 * (4 * k.val + 2) + 2) (off3 k 2 2) (k0_off3_inb k 2 2) _ _ ?_ ?_ y (by omega)
  · exact Eq.trans (b := dlOf (cumAt (arg6.view.read (Elt F) X6) (arg7.view.read (Elt F) X7) (arg8.view.read (Elt F) X8) (4 * k.val + 2)) 2) rfl (slab_DL (arg6.view.read (Elt F) X6) (arg7.view.read (Elt F) X7) (arg8.view.read (Elt F) X8) (4 * k.val + 2) 2 (by omega) (by omega)).symm
  clear hy y; intro y hy
  refine ext_slab arg14.view f14 _ (4 * (4 * k.val + 2) + 1) (off3 k 2 1) (k0_off3_inb k 2 1) _ _ ?_ ?_ y (by omega)
  · exact Eq.trans (b := dlOf (cumAt (arg6.view.read (Elt F) X6) (arg7.view.read (Elt F) X7) (arg8.view.read (Elt F) X8) (4 * k.val + 2)) 1) rfl (slab_DL (arg6.view.read (Elt F) X6) (arg7.view.read (Elt F) X7) (arg8.view.read (Elt F) X8) (4 * k.val + 2) 1 (by omega) (by omega)).symm
  clear hy y; intro y hy
  refine ext_slab arg14.view f14 _ (4 * (4 * k.val + 2) + 0) (off3 k 2 0) (k0_off3_inb k 2 0) _ _ ?_ ?_ y (by omega)
  · exact Eq.trans (b := dlOf (cumAt (arg6.view.read (Elt F) X6) (arg7.view.read (Elt F) X7) (arg8.view.read (Elt F) X8) (4 * k.val + 2)) 0) rfl (slab_DL (arg6.view.read (Elt F) X6) (arg7.view.read (Elt F) X7) (arg8.view.read (Elt F) X8) (4 * k.val + 2) 0 (by omega) (by omega)).symm
  clear hy y; intro y hy
  refine ext_slab arg14.view f14 _ (4 * (4 * k.val + 1) + 3) (off3 k 1 3) (k0_off3_inb k 1 3) _ _ ?_ ?_ y (by omega)
  · exact Eq.trans (b := dlOf (cumAt (arg6.view.read (Elt F) X6) (arg7.view.read (Elt F) X7) (arg8.view.read (Elt F) X8) (4 * k.val + 1)) 3) rfl (slab_DL (arg6.view.read (Elt F) X6) (arg7.view.read (Elt F) X7) (arg8.view.read (Elt F) X8) (4 * k.val + 1) 3 (by omega) (by omega)).symm
  clear hy y; intro y hy
  refine ext_slab arg14.view f14 _ (4 * (4 * k.val + 1) + 2) (off3 k 1 2) (k0_off3_inb k 1 2) _ _ ?_ ?_ y (by omega)
  · exact Eq.trans (b := dlOf (cumAt (arg6.view.read (Elt F) X6) (arg7.view.read (Elt F) X7) (arg8.view.read (Elt F) X8) (4 * k.val + 1)) 2) rfl (slab_DL (arg6.view.read (Elt F) X6) (arg7.view.read (Elt F) X7) (arg8.view.read (Elt F) X8) (4 * k.val + 1) 2 (by omega) (by omega)).symm
  clear hy y; intro y hy
  refine ext_slab arg14.view f14 _ (4 * (4 * k.val + 1) + 1) (off3 k 1 1) (k0_off3_inb k 1 1) _ _ ?_ ?_ y (by omega)
  · exact Eq.trans (b := dlOf (cumAt (arg6.view.read (Elt F) X6) (arg7.view.read (Elt F) X7) (arg8.view.read (Elt F) X8) (4 * k.val + 1)) 1) rfl (slab_DL (arg6.view.read (Elt F) X6) (arg7.view.read (Elt F) X7) (arg8.view.read (Elt F) X8) (4 * k.val + 1) 1 (by omega) (by omega)).symm
  clear hy y; intro y hy
  refine ext_slab arg14.view f14 _ (4 * (4 * k.val + 1) + 0) (off3 k 1 0) (k0_off3_inb k 1 0) _ _ ?_ ?_ y (by omega)
  · exact Eq.trans (b := dlOf (cumAt (arg6.view.read (Elt F) X6) (arg7.view.read (Elt F) X7) (arg8.view.read (Elt F) X8) (4 * k.val + 1)) 0) rfl (slab_DL (arg6.view.read (Elt F) X6) (arg7.view.read (Elt F) X7) (arg8.view.read (Elt F) X8) (4 * k.val + 1) 0 (by omega) (by omega)).symm
  clear hy y; intro y hy
  refine ext_slab arg14.view f14 _ (4 * (4 * k.val + 0) + 3) (off3 k 0 3) (k0_off3_inb k 0 3) _ _ ?_ ?_ y (by omega)
  · exact Eq.trans (b := dlOf (cumAt (arg6.view.read (Elt F) X6) (arg7.view.read (Elt F) X7) (arg8.view.read (Elt F) X8) (4 * k.val + 0)) 3) rfl (slab_DL (arg6.view.read (Elt F) X6) (arg7.view.read (Elt F) X7) (arg8.view.read (Elt F) X8) (4 * k.val + 0) 3 (by omega) (by omega)).symm
  clear hy y; intro y hy
  refine ext_slab arg14.view f14 _ (4 * (4 * k.val + 0) + 2) (off3 k 0 2) (k0_off3_inb k 0 2) _ _ ?_ ?_ y (by omega)
  · exact Eq.trans (b := dlOf (cumAt (arg6.view.read (Elt F) X6) (arg7.view.read (Elt F) X7) (arg8.view.read (Elt F) X8) (4 * k.val + 0)) 2) rfl (slab_DL (arg6.view.read (Elt F) X6) (arg7.view.read (Elt F) X7) (arg8.view.read (Elt F) X8) (4 * k.val + 0) 2 (by omega) (by omega)).symm
  clear hy y; intro y hy
  refine ext_slab arg14.view f14 _ (4 * (4 * k.val + 0) + 1) (off3 k 0 1) (k0_off3_inb k 0 1) _ _ ?_ ?_ y (by omega)
  · exact Eq.trans (b := dlOf (cumAt (arg6.view.read (Elt F) X6) (arg7.view.read (Elt F) X7) (arg8.view.read (Elt F) X8) (4 * k.val + 0)) 1) rfl (slab_DL (arg6.view.read (Elt F) X6) (arg7.view.read (Elt F) X7) (arg8.view.read (Elt F) X8) (4 * k.val + 0) 1 (by omega) (by omega)).symm
  clear hy y; intro y hy
  refine ext_slab arg14.view f14 _ (4 * (4 * k.val + 0) + 0) (off3 k 0 0) (k0_off3_inb k 0 0) _ _ ?_ ?_ y (by omega)
  · exact Eq.trans (b := dlOf (cumAt (arg6.view.read (Elt F) X6) (arg7.view.read (Elt F) X7) (arg8.view.read (Elt F) X8) (4 * k.val + 0)) 0) rfl (slab_DL (arg6.view.read (Elt F) X6) (arg7.view.read (Elt F) X7) (arg8.view.read (Elt F) X8) (4 * k.val + 0) 0 (by omega) (by omega)).symm
  clear hy y; intro y hy
  exact h14 y (by omega)

end Cert.GlaIdeal.Hand
-- ==== Proof.GlaTrip2.lean ====
module

public import proofs.«01_k».proof.Proof.GlaTrip1
public import Idealize.ShloMosaic.Lib.Exec
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # Gated linear attention: the second loop's trip -/

set_option maxRecDepth 16384

noncomputable section

namespace Cert.GlaIdeal.Hand

open Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (qe ki kd : Vec F S2048x256 .bf16) (dl : Vec F S32x8x256 .f32) (v g : Vec F S2048x512 .bf16) (nw : Vec F S1x512 .f32)

theorem rows_YYa (n : ℕ) (hn : n < 16) : rows (n := 64) (YY qe ki kd dl v g nw) (128 * n) = yaAt qe ki kd dl v g nw n := by
  funext y
  have hy : (y 0).val < 64 := (y 0).isLt
  have e0 : (128 * n + (y 0).val) % 2048 % 128 < 64 := by omega
  have e : (128 * n + (y 0).val) % 2048 / 128 = n := by omega
  have e' : (128 * n + (y 0).val) % 2048 % 64 = (y 0).val := by omega
  refine (if_pos e0).trans ?_
  show yaAt qe ki kd dl v g nw ((128 * n + (y 0).val) % 2048 / 128) (ix2 ⟨(128 * n + (y 0).val) % 2048 % 64, _⟩ (y 1)) = _
  rw [e]
  refine congrArg _ (funext fun a => Fin.ext ?_)
  match a with
  | ⟨0, _⟩ => exact e'
  | ⟨1, _⟩ => rfl

theorem rows_YYb (n : ℕ) (hn : n < 16) : rows (n := 64) (YY qe ki kd dl v g nw) (128 * n + 64) = ybAt qe ki kd dl v g nw n := by
  funext y
  have hy : (y 0).val < 64 := (y 0).isLt
  have e0 : ¬ (128 * n + 64 + (y 0).val) % 2048 % 128 < 64 := by omega
  have e : (128 * n + 64 + (y 0).val) % 2048 / 128 = n := by omega
  have e' : (128 * n + 64 + (y 0).val) % 2048 % 64 = (y 0).val := by omega
  refine (if_neg e0).trans ?_
  show ybAt qe ki kd dl v g nw ((128 * n + 64 + (y 0).val) % 2048 / 128) (ix2 ⟨(128 * n + 64 + (y 0).val) % 2048 % 64, _⟩ (y 1)) = _
  rw [e]
  refine congrArg _ (funext fun a => Fin.ext ?_)
  match a with
  | ⟨0, _⟩ => exact e'
  | ⟨1, _⟩ => rfl

end

theorem off4 : ∀ (k : Fin k0_t2_loop.trips) (j : Fin 8), k0_off4 k (BitVec.ofNat 32 j.val) = ![2 * (8 * k.val + j.val), 0, 0] := by decide +kernel
theorem off5 : ∀ (k : Fin k0_t2_loop.trips) (j : Fin 8), k0_off5 k (BitVec.ofNat 32 j.val) = ![2 * (8 * k.val + j.val) + 1, 0, 0] := by decide +kernel
theorem off6 : ∀ (k : Fin k0_t2_loop.trips) (j : Fin 8), k0_off6 k (BitVec.ofNat 32 j.val) = ![128 * (8 * k.val + j.val), 0] := by decide +kernel
theorem off7 : ∀ (k : Fin k0_t2_loop.trips) (j : Fin 8), k0_off7 k (BitVec.ofNat 32 j.val) = ![128 * (8 * k.val + j.val) + 64, 0] := by decide +kernel
theorem off8 : ∀ (k : Fin k0_t2_loop.trips) (j : Fin 8), k0_off8 k (BitVec.ofNat 32 j.val) = ![128 * (8 * k.val + j.val), 0] := by decide +kernel
theorem off9 : ∀ (k : Fin k0_t2_loop.trips) (j : Fin 8), k0_off9 k (BitVec.ofNat 32 j.val) = ![128 * (8 * k.val + j.val), 0] := by decide +kernel
theorem off10 : ∀ (k : Fin k0_t2_loop.trips) (j : Fin 8), k0_off10 k (BitVec.ofNat 32 j.val) = ![128 * (8 * k.val + j.val) + 64, 0] := by decide +kernel

/-- The second loop's invariant before trip `k`: the blocks and scratch as given, the state after the pairs done, and the
    output right up to the trip's rows. -/
abbrev inv2 (c : Dev nD) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X4 : BufTy.Contents (Elt F) arg4.view.ty) (X5 : BufTy.Contents (Elt F) arg5.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (k : ℕ) : sProp 𝕄 :=
  iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f) ∗ ⌜arg15.view.read (Elt F) f = stAt (arg13.view.read (Elt F) X13) (arg14.view.read (Elt F) X14) (arg4.view.read (Elt F) X4) (8 * k)⌝) ∗
    (∃ f, (arg10.view.loc (c : Thread nD τ) ↦[arg10.view.set]{fullShare} f) ∗ ⌜∀ y, (y 0).val < 1024 * k → arg10.view.read (Elt F) f y = YY (arg11.view.read (Elt F) X11) (arg12.view.read (Elt F) X12) (arg13.view.read (Elt F) X13) (arg14.view.read (Elt F) X14) (arg4.view.read (Elt F) X4) (arg5.view.read (Elt F) X5) (arg9.view.read (Elt F) X9) y⌝))

set_option maxHeartbeats 1600000 in
/-- One trip of the second loop. -/
theorem trip2 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X4 : BufTy.Contents (Elt F) arg4.view.ty) (X5 : BufTy.Contents (Elt F) arg5.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t2_loop.trips) (E : Set ℕ) :
    inv2 (F := F) c arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 k.val
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k PUnit.unit)
        (fun _ => inv2 (F := F) c arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 (k.val + 1)) := by
  have hk : k.val < 2 := Nat.lt_of_lt_of_le k.isLt k0_t2_abs.2.1
  have d0a : View.readAt (Elt F) arg14.view (Rect.unit (s := S32x8x256) (k0_off4 k 0#32) S1x8x256.size (k0_off4_inb k 0)).toLoadRect X14 = slab (arg14.view.read (Elt F) X14) (2 * (8 * k.val + 0)) :=
    ld_slab arg14.view X14 (2 * (8 * k.val + 0)) (off4 k 0) (k0_off4_inb k 0)
  have d0b : View.readAt (Elt F) arg14.view (Rect.unit (s := S32x8x256) (k0_off5 k 0#32) S1x8x256.size (k0_off5_inb k 0)).toLoadRect X14 = slab (arg14.view.read (Elt F) X14) (2 * (8 * k.val + 0) + 1) :=
    ld_slab arg14.view X14 (2 * (8 * k.val + 0) + 1) (off5 k 0) (k0_off5_inb k 0)
  have s110a : View.readAt (Elt F) arg11.view (Rect.unit (s := S2048x256) (k0_off6 k 0#32) S64x256.size (k0_off6_inb k 0)).toLoadRect X11 = rows (n := 64) (arg11.view.read (Elt F) X11) (128 * (8 * k.val + 0)) :=
    ld_rows arg11.view X11 (128 * (8 * k.val + 0)) (off6 k 0) (k0_off6_inb k 0)
  have s110b : View.readAt (Elt F) arg11.view (Rect.unit (s := S2048x256) (k0_off7 k 0#32) S64x256.size (k0_off7_inb k 0)).toLoadRect X11 = rows (n := 64) (arg11.view.read (Elt F) X11) (128 * (8 * k.val + 0) + 64) :=
    ld_rows arg11.view X11 (128 * (8 * k.val + 0) + 64) (off7 k 0) (k0_off7_inb k 0)
  have s120a : View.readAt (Elt F) arg12.view (Rect.unit (s := S2048x256) (k0_off6 k 0#32) S64x256.size (k0_off6_inb k 0)).toLoadRect X12 = rows (n := 64) (arg12.view.read (Elt F) X12) (128 * (8 * k.val + 0)) :=
    ld_rows arg12.view X12 (128 * (8 * k.val + 0)) (off6 k 0) (k0_off6_inb k 0)
  have s120b : View.readAt (Elt F) arg12.view (Rect.unit (s := S2048x256) (k0_off7 k 0#32) S64x256.size (k0_off7_inb k 0)).toLoadRect X12 = rows (n := 64) (arg12.view.read (Elt F) X12) (128 * (8 * k.val + 0) + 64) :=
    ld_rows arg12.view X12 (128 * (8 * k.val + 0) + 64) (off7 k 0) (k0_off7_inb k 0)
  have s130a : View.readAt (Elt F) arg13.view (Rect.unit (s := S2048x256) (k0_off6 k 0#32) S64x256.size (k0_off6_inb k 0)).toLoadRect X13 = rows (n := 64) (arg13.view.read (Elt F) X13) (128 * (8 * k.val + 0)) :=
    ld_rows arg13.view X13 (128 * (8 * k.val + 0)) (off6 k 0) (k0_off6_inb k 0)
  have s130b : View.readAt (Elt F) arg13.view (Rect.unit (s := S2048x256) (k0_off7 k 0#32) S64x256.size (k0_off7_inb k 0)).toLoadRect X13 = rows (n := 64) (arg13.view.read (Elt F) X13) (128 * (8 * k.val + 0) + 64) :=
    ld_rows arg13.view X13 (128 * (8 * k.val + 0) + 64) (off7 k 0) (k0_off7_inb k 0)
  have v0 : View.readAt (Elt F) arg4.view (Rect.unit (s := S2048x512) (k0_off8 k 0#32) S128x512.size (k0_off8_inb k 0)).toLoadRect X4 = rows (n := 128) (arg4.view.read (Elt F) X4) (128 * (8 * k.val + 0)) :=
    ld_rows arg4.view X4 (128 * (8 * k.val + 0)) (off8 k 0) (k0_off8_inb k 0)
  have g0a : View.readAt (Elt F) arg5.view (Rect.unit (s := S2048x512) (k0_off9 k 0#32) S64x512.size (k0_off9_inb k 0)).toLoadRect X5 = rows (n := 64) (arg5.view.read (Elt F) X5) (128 * (8 * k.val + 0)) :=
    ld_rows arg5.view X5 (128 * (8 * k.val + 0)) (off9 k 0) (k0_off9_inb k 0)
  have g0b : View.readAt (Elt F) arg5.view (Rect.unit (s := S2048x512) (k0_off10 k 0#32) S64x512.size (k0_off10_inb k 0)).toLoadRect X5 = rows (n := 64) (arg5.view.read (Elt F) X5) (128 * (8 * k.val + 0) + 64) :=
    ld_rows arg5.view X5 (128 * (8 * k.val + 0) + 64) (off10 k 0) (k0_off10_inb k 0)
  have d1a : View.readAt (Elt F) arg14.view (Rect.unit (s := S32x8x256) (k0_off4 k 1#32) S1x8x256.size (k0_off4_inb k 1)).toLoadRect X14 = slab (arg14.view.read (Elt F) X14) (2 * (8 * k.val + 1)) :=
    ld_slab arg14.view X14 (2 * (8 * k.val + 1)) (off4 k 1) (k0_off4_inb k 1)
  have d1b : View.readAt (Elt F) arg14.view (Rect.unit (s := S32x8x256) (k0_off5 k 1#32) S1x8x256.size (k0_off5_inb k 1)).toLoadRect X14 = slab (arg14.view.read (Elt F) X14) (2 * (8 * k.val + 1) + 1) :=
    ld_slab arg14.view X14 (2 * (8 * k.val + 1) + 1) (off5 k 1) (k0_off5_inb k 1)
  have s111a : View.readAt (Elt F) arg11.view (Rect.unit (s := S2048x256) (k0_off6 k 1#32) S64x256.size (k0_off6_inb k 1)).toLoadRect X11 = rows (n := 64) (arg11.view.read (Elt F) X11) (128 * (8 * k.val + 1)) :=
    ld_rows arg11.view X11 (128 * (8 * k.val + 1)) (off6 k 1) (k0_off6_inb k 1)
  have s111b : View.readAt (Elt F) arg11.view (Rect.unit (s := S2048x256) (k0_off7 k 1#32) S64x256.size (k0_off7_inb k 1)).toLoadRect X11 = rows (n := 64) (arg11.view.read (Elt F) X11) (128 * (8 * k.val + 1) + 64) :=
    ld_rows arg11.view X11 (128 * (8 * k.val + 1) + 64) (off7 k 1) (k0_off7_inb k 1)
  have s121a : View.readAt (Elt F) arg12.view (Rect.unit (s := S2048x256) (k0_off6 k 1#32) S64x256.size (k0_off6_inb k 1)).toLoadRect X12 = rows (n := 64) (arg12.view.read (Elt F) X12) (128 * (8 * k.val + 1)) :=
    ld_rows arg12.view X12 (128 * (8 * k.val + 1)) (off6 k 1) (k0_off6_inb k 1)
  have s121b : View.readAt (Elt F) arg12.view (Rect.unit (s := S2048x256) (k0_off7 k 1#32) S64x256.size (k0_off7_inb k 1)).toLoadRect X12 = rows (n := 64) (arg12.view.read (Elt F) X12) (128 * (8 * k.val + 1) + 64) :=
    ld_rows arg12.view X12 (128 * (8 * k.val + 1) + 64) (off7 k 1) (k0_off7_inb k 1)
  have s131a : View.readAt (Elt F) arg13.view (Rect.unit (s := S2048x256) (k0_off6 k 1#32) S64x256.size (k0_off6_inb k 1)).toLoadRect X13 = rows (n := 64) (arg13.view.read (Elt F) X13) (128 * (8 * k.val + 1)) :=
    ld_rows arg13.view X13 (128 * (8 * k.val + 1)) (off6 k 1) (k0_off6_inb k 1)
  have s131b : View.readAt (Elt F) arg13.view (Rect.unit (s := S2048x256) (k0_off7 k 1#32) S64x256.size (k0_off7_inb k 1)).toLoadRect X13 = rows (n := 64) (arg13.view.read (Elt F) X13) (128 * (8 * k.val + 1) + 64) :=
    ld_rows arg13.view X13 (128 * (8 * k.val + 1) + 64) (off7 k 1) (k0_off7_inb k 1)
  have v1 : View.readAt (Elt F) arg4.view (Rect.unit (s := S2048x512) (k0_off8 k 1#32) S128x512.size (k0_off8_inb k 1)).toLoadRect X4 = rows (n := 128) (arg4.view.read (Elt F) X4) (128 * (8 * k.val + 1)) :=
    ld_rows arg4.view X4 (128 * (8 * k.val + 1)) (off8 k 1) (k0_off8_inb k 1)
  have g1a : View.readAt (Elt F) arg5.view (Rect.unit (s := S2048x512) (k0_off9 k 1#32) S64x512.size (k0_off9_inb k 1)).toLoadRect X5 = rows (n := 64) (arg5.view.read (Elt F) X5) (128 * (8 * k.val + 1)) :=
    ld_rows arg5.view X5 (128 * (8 * k.val + 1)) (off9 k 1) (k0_off9_inb k 1)
  have g1b : View.readAt (Elt F) arg5.view (Rect.unit (s := S2048x512) (k0_off10 k 1#32) S64x512.size (k0_off10_inb k 1)).toLoadRect X5 = rows (n := 64) (arg5.view.read (Elt F) X5) (128 * (8 * k.val + 1) + 64) :=
    ld_rows arg5.view X5 (128 * (8 * k.val + 1) + 64) (off10 k 1) (k0_off10_inb k 1)
  have d2a : View.readAt (Elt F) arg14.view (Rect.unit (s := S32x8x256) (k0_off4 k 2#32) S1x8x256.size (k0_off4_inb k 2)).toLoadRect X14 = slab (arg14.view.read (Elt F) X14) (2 * (8 * k.val + 2)) :=
    ld_slab arg14.view X14 (2 * (8 * k.val + 2)) (off4 k 2) (k0_off4_inb k 2)
  have d2b : View.readAt (Elt F) arg14.view (Rect.unit (s := S32x8x256) (k0_off5 k 2#32) S1x8x256.size (k0_off5_inb k 2)).toLoadRect X14 = slab (arg14.view.read (Elt F) X14) (2 * (8 * k.val + 2) + 1) :=
    ld_slab arg14.view X14 (2 * (8 * k.val + 2) + 1) (off5 k 2) (k0_off5_inb k 2)
  have s112a : View.readAt (Elt F) arg11.view (Rect.unit (s := S2048x256) (k0_off6 k 2#32) S64x256.size (k0_off6_inb k 2)).toLoadRect X11 = rows (n := 64) (arg11.view.read (Elt F) X11) (128 * (8 * k.val + 2)) :=
    ld_rows arg11.view X11 (128 * (8 * k.val + 2)) (off6 k 2) (k0_off6_inb k 2)
  have s112b : View.readAt (Elt F) arg11.view (Rect.unit (s := S2048x256) (k0_off7 k 2#32) S64x256.size (k0_off7_inb k 2)).toLoadRect X11 = rows (n := 64) (arg11.view.read (Elt F) X11) (128 * (8 * k.val + 2) + 64) :=
    ld_rows arg11.view X11 (128 * (8 * k.val + 2) + 64) (off7 k 2) (k0_off7_inb k 2)
  have s122a : View.readAt (Elt F) arg12.view (Rect.unit (s := S2048x256) (k0_off6 k 2#32) S64x256.size (k0_off6_inb k 2)).toLoadRect X12 = rows (n := 64) (arg12.view.read (Elt F) X12) (128 * (8 * k.val + 2)) :=
    ld_rows arg12.view X12 (128 * (8 * k.val + 2)) (off6 k 2) (k0_off6_inb k 2)
  have s122b : View.readAt (Elt F) arg12.view (Rect.unit (s := S2048x256) (k0_off7 k 2#32) S64x256.size (k0_off7_inb k 2)).toLoadRect X12 = rows (n := 64) (arg12.view.read (Elt F) X12) (128 * (8 * k.val + 2) + 64) :=
    ld_rows arg12.view X12 (128 * (8 * k.val + 2) + 64) (off7 k 2) (k0_off7_inb k 2)
  have s132a : View.readAt (Elt F) arg13.view (Rect.unit (s := S2048x256) (k0_off6 k 2#32) S64x256.size (k0_off6_inb k 2)).toLoadRect X13 = rows (n := 64) (arg13.view.read (Elt F) X13) (128 * (8 * k.val + 2)) :=
    ld_rows arg13.view X13 (128 * (8 * k.val + 2)) (off6 k 2) (k0_off6_inb k 2)
  have s132b : View.readAt (Elt F) arg13.view (Rect.unit (s := S2048x256) (k0_off7 k 2#32) S64x256.size (k0_off7_inb k 2)).toLoadRect X13 = rows (n := 64) (arg13.view.read (Elt F) X13) (128 * (8 * k.val + 2) + 64) :=
    ld_rows arg13.view X13 (128 * (8 * k.val + 2) + 64) (off7 k 2) (k0_off7_inb k 2)
  have v2 : View.readAt (Elt F) arg4.view (Rect.unit (s := S2048x512) (k0_off8 k 2#32) S128x512.size (k0_off8_inb k 2)).toLoadRect X4 = rows (n := 128) (arg4.view.read (Elt F) X4) (128 * (8 * k.val + 2)) :=
    ld_rows arg4.view X4 (128 * (8 * k.val + 2)) (off8 k 2) (k0_off8_inb k 2)
  have g2a : View.readAt (Elt F) arg5.view (Rect.unit (s := S2048x512) (k0_off9 k 2#32) S64x512.size (k0_off9_inb k 2)).toLoadRect X5 = rows (n := 64) (arg5.view.read (Elt F) X5) (128 * (8 * k.val + 2)) :=
    ld_rows arg5.view X5 (128 * (8 * k.val + 2)) (off9 k 2) (k0_off9_inb k 2)
  have g2b : View.readAt (Elt F) arg5.view (Rect.unit (s := S2048x512) (k0_off10 k 2#32) S64x512.size (k0_off10_inb k 2)).toLoadRect X5 = rows (n := 64) (arg5.view.read (Elt F) X5) (128 * (8 * k.val + 2) + 64) :=
    ld_rows arg5.view X5 (128 * (8 * k.val + 2) + 64) (off10 k 2) (k0_off10_inb k 2)
  have d3a : View.readAt (Elt F) arg14.view (Rect.unit (s := S32x8x256) (k0_off4 k 3#32) S1x8x256.size (k0_off4_inb k 3)).toLoadRect X14 = slab (arg14.view.read (Elt F) X14) (2 * (8 * k.val + 3)) :=
    ld_slab arg14.view X14 (2 * (8 * k.val + 3)) (off4 k 3) (k0_off4_inb k 3)
  have d3b : View.readAt (Elt F) arg14.view (Rect.unit (s := S32x8x256) (k0_off5 k 3#32) S1x8x256.size (k0_off5_inb k 3)).toLoadRect X14 = slab (arg14.view.read (Elt F) X14) (2 * (8 * k.val + 3) + 1) :=
    ld_slab arg14.view X14 (2 * (8 * k.val + 3) + 1) (off5 k 3) (k0_off5_inb k 3)
  have s113a : View.readAt (Elt F) arg11.view (Rect.unit (s := S2048x256) (k0_off6 k 3#32) S64x256.size (k0_off6_inb k 3)).toLoadRect X11 = rows (n := 64) (arg11.view.read (Elt F) X11) (128 * (8 * k.val + 3)) :=
    ld_rows arg11.view X11 (128 * (8 * k.val + 3)) (off6 k 3) (k0_off6_inb k 3)
  have s113b : View.readAt (Elt F) arg11.view (Rect.unit (s := S2048x256) (k0_off7 k 3#32) S64x256.size (k0_off7_inb k 3)).toLoadRect X11 = rows (n := 64) (arg11.view.read (Elt F) X11) (128 * (8 * k.val + 3) + 64) :=
    ld_rows arg11.view X11 (128 * (8 * k.val + 3) + 64) (off7 k 3) (k0_off7_inb k 3)
  have s123a : View.readAt (Elt F) arg12.view (Rect.unit (s := S2048x256) (k0_off6 k 3#32) S64x256.size (k0_off6_inb k 3)).toLoadRect X12 = rows (n := 64) (arg12.view.read (Elt F) X12) (128 * (8 * k.val + 3)) :=
    ld_rows arg12.view X12 (128 * (8 * k.val + 3)) (off6 k 3) (k0_off6_inb k 3)
  have s123b : View.readAt (Elt F) arg12.view (Rect.unit (s := S2048x256) (k0_off7 k 3#32) S64x256.size (k0_off7_inb k 3)).toLoadRect X12 = rows (n := 64) (arg12.view.read (Elt F) X12) (128 * (8 * k.val + 3) + 64) :=
    ld_rows arg12.view X12 (128 * (8 * k.val + 3) + 64) (off7 k 3) (k0_off7_inb k 3)
  have s133a : View.readAt (Elt F) arg13.view (Rect.unit (s := S2048x256) (k0_off6 k 3#32) S64x256.size (k0_off6_inb k 3)).toLoadRect X13 = rows (n := 64) (arg13.view.read (Elt F) X13) (128 * (8 * k.val + 3)) :=
    ld_rows arg13.view X13 (128 * (8 * k.val + 3)) (off6 k 3) (k0_off6_inb k 3)
  have s133b : View.readAt (Elt F) arg13.view (Rect.unit (s := S2048x256) (k0_off7 k 3#32) S64x256.size (k0_off7_inb k 3)).toLoadRect X13 = rows (n := 64) (arg13.view.read (Elt F) X13) (128 * (8 * k.val + 3) + 64) :=
    ld_rows arg13.view X13 (128 * (8 * k.val + 3) + 64) (off7 k 3) (k0_off7_inb k 3)
  have v3 : View.readAt (Elt F) arg4.view (Rect.unit (s := S2048x512) (k0_off8 k 3#32) S128x512.size (k0_off8_inb k 3)).toLoadRect X4 = rows (n := 128) (arg4.view.read (Elt F) X4) (128 * (8 * k.val + 3)) :=
    ld_rows arg4.view X4 (128 * (8 * k.val + 3)) (off8 k 3) (k0_off8_inb k 3)
  have g3a : View.readAt (Elt F) arg5.view (Rect.unit (s := S2048x512) (k0_off9 k 3#32) S64x512.size (k0_off9_inb k 3)).toLoadRect X5 = rows (n := 64) (arg5.view.read (Elt F) X5) (128 * (8 * k.val + 3)) :=
    ld_rows arg5.view X5 (128 * (8 * k.val + 3)) (off9 k 3) (k0_off9_inb k 3)
  have g3b : View.readAt (Elt F) arg5.view (Rect.unit (s := S2048x512) (k0_off10 k 3#32) S64x512.size (k0_off10_inb k 3)).toLoadRect X5 = rows (n := 64) (arg5.view.read (Elt F) X5) (128 * (8 * k.val + 3) + 64) :=
    ld_rows arg5.view X5 (128 * (8 * k.val + 3) + 64) (off10 k 3) (k0_off10_inb k 3)
  have d4a : View.readAt (Elt F) arg14.view (Rect.unit (s := S32x8x256) (k0_off4 k 4#32) S1x8x256.size (k0_off4_inb k 4)).toLoadRect X14 = slab (arg14.view.read (Elt F) X14) (2 * (8 * k.val + 4)) :=
    ld_slab arg14.view X14 (2 * (8 * k.val + 4)) (off4 k 4) (k0_off4_inb k 4)
  have d4b : View.readAt (Elt F) arg14.view (Rect.unit (s := S32x8x256) (k0_off5 k 4#32) S1x8x256.size (k0_off5_inb k 4)).toLoadRect X14 = slab (arg14.view.read (Elt F) X14) (2 * (8 * k.val + 4) + 1) :=
    ld_slab arg14.view X14 (2 * (8 * k.val + 4) + 1) (off5 k 4) (k0_off5_inb k 4)
  have s114a : View.readAt (Elt F) arg11.view (Rect.unit (s := S2048x256) (k0_off6 k 4#32) S64x256.size (k0_off6_inb k 4)).toLoadRect X11 = rows (n := 64) (arg11.view.read (Elt F) X11) (128 * (8 * k.val + 4)) :=
    ld_rows arg11.view X11 (128 * (8 * k.val + 4)) (off6 k 4) (k0_off6_inb k 4)
  have s114b : View.readAt (Elt F) arg11.view (Rect.unit (s := S2048x256) (k0_off7 k 4#32) S64x256.size (k0_off7_inb k 4)).toLoadRect X11 = rows (n := 64) (arg11.view.read (Elt F) X11) (128 * (8 * k.val + 4) + 64) :=
    ld_rows arg11.view X11 (128 * (8 * k.val + 4) + 64) (off7 k 4) (k0_off7_inb k 4)
  have s124a : View.readAt (Elt F) arg12.view (Rect.unit (s := S2048x256) (k0_off6 k 4#32) S64x256.size (k0_off6_inb k 4)).toLoadRect X12 = rows (n := 64) (arg12.view.read (Elt F) X12) (128 * (8 * k.val + 4)) :=
    ld_rows arg12.view X12 (128 * (8 * k.val + 4)) (off6 k 4) (k0_off6_inb k 4)
  have s124b : View.readAt (Elt F) arg12.view (Rect.unit (s := S2048x256) (k0_off7 k 4#32) S64x256.size (k0_off7_inb k 4)).toLoadRect X12 = rows (n := 64) (arg12.view.read (Elt F) X12) (128 * (8 * k.val + 4) + 64) :=
    ld_rows arg12.view X12 (128 * (8 * k.val + 4) + 64) (off7 k 4) (k0_off7_inb k 4)
  have s134a : View.readAt (Elt F) arg13.view (Rect.unit (s := S2048x256) (k0_off6 k 4#32) S64x256.size (k0_off6_inb k 4)).toLoadRect X13 = rows (n := 64) (arg13.view.read (Elt F) X13) (128 * (8 * k.val + 4)) :=
    ld_rows arg13.view X13 (128 * (8 * k.val + 4)) (off6 k 4) (k0_off6_inb k 4)
  have s134b : View.readAt (Elt F) arg13.view (Rect.unit (s := S2048x256) (k0_off7 k 4#32) S64x256.size (k0_off7_inb k 4)).toLoadRect X13 = rows (n := 64) (arg13.view.read (Elt F) X13) (128 * (8 * k.val + 4) + 64) :=
    ld_rows arg13.view X13 (128 * (8 * k.val + 4) + 64) (off7 k 4) (k0_off7_inb k 4)
  have v4 : View.readAt (Elt F) arg4.view (Rect.unit (s := S2048x512) (k0_off8 k 4#32) S128x512.size (k0_off8_inb k 4)).toLoadRect X4 = rows (n := 128) (arg4.view.read (Elt F) X4) (128 * (8 * k.val + 4)) :=
    ld_rows arg4.view X4 (128 * (8 * k.val + 4)) (off8 k 4) (k0_off8_inb k 4)
  have g4a : View.readAt (Elt F) arg5.view (Rect.unit (s := S2048x512) (k0_off9 k 4#32) S64x512.size (k0_off9_inb k 4)).toLoadRect X5 = rows (n := 64) (arg5.view.read (Elt F) X5) (128 * (8 * k.val + 4)) :=
    ld_rows arg5.view X5 (128 * (8 * k.val + 4)) (off9 k 4) (k0_off9_inb k 4)
  have g4b : View.readAt (Elt F) arg5.view (Rect.unit (s := S2048x512) (k0_off10 k 4#32) S64x512.size (k0_off10_inb k 4)).toLoadRect X5 = rows (n := 64) (arg5.view.read (Elt F) X5) (128 * (8 * k.val + 4) + 64) :=
    ld_rows arg5.view X5 (128 * (8 * k.val + 4) + 64) (off10 k 4) (k0_off10_inb k 4)
  have d5a : View.readAt (Elt F) arg14.view (Rect.unit (s := S32x8x256) (k0_off4 k 5#32) S1x8x256.size (k0_off4_inb k 5)).toLoadRect X14 = slab (arg14.view.read (Elt F) X14) (2 * (8 * k.val + 5)) :=
    ld_slab arg14.view X14 (2 * (8 * k.val + 5)) (off4 k 5) (k0_off4_inb k 5)
  have d5b : View.readAt (Elt F) arg14.view (Rect.unit (s := S32x8x256) (k0_off5 k 5#32) S1x8x256.size (k0_off5_inb k 5)).toLoadRect X14 = slab (arg14.view.read (Elt F) X14) (2 * (8 * k.val + 5) + 1) :=
    ld_slab arg14.view X14 (2 * (8 * k.val + 5) + 1) (off5 k 5) (k0_off5_inb k 5)
  have s115a : View.readAt (Elt F) arg11.view (Rect.unit (s := S2048x256) (k0_off6 k 5#32) S64x256.size (k0_off6_inb k 5)).toLoadRect X11 = rows (n := 64) (arg11.view.read (Elt F) X11) (128 * (8 * k.val + 5)) :=
    ld_rows arg11.view X11 (128 * (8 * k.val + 5)) (off6 k 5) (k0_off6_inb k 5)
  have s115b : View.readAt (Elt F) arg11.view (Rect.unit (s := S2048x256) (k0_off7 k 5#32) S64x256.size (k0_off7_inb k 5)).toLoadRect X11 = rows (n := 64) (arg11.view.read (Elt F) X11) (128 * (8 * k.val + 5) + 64) :=
    ld_rows arg11.view X11 (128 * (8 * k.val + 5) + 64) (off7 k 5) (k0_off7_inb k 5)
  have s125a : View.readAt (Elt F) arg12.view (Rect.unit (s := S2048x256) (k0_off6 k 5#32) S64x256.size (k0_off6_inb k 5)).toLoadRect X12 = rows (n := 64) (arg12.view.read (Elt F) X12) (128 * (8 * k.val + 5)) :=
    ld_rows arg12.view X12 (128 * (8 * k.val + 5)) (off6 k 5) (k0_off6_inb k 5)
  have s125b : View.readAt (Elt F) arg12.view (Rect.unit (s := S2048x256) (k0_off7 k 5#32) S64x256.size (k0_off7_inb k 5)).toLoadRect X12 = rows (n := 64) (arg12.view.read (Elt F) X12) (128 * (8 * k.val + 5) + 64) :=
    ld_rows arg12.view X12 (128 * (8 * k.val + 5) + 64) (off7 k 5) (k0_off7_inb k 5)
  have s135a : View.readAt (Elt F) arg13.view (Rect.unit (s := S2048x256) (k0_off6 k 5#32) S64x256.size (k0_off6_inb k 5)).toLoadRect X13 = rows (n := 64) (arg13.view.read (Elt F) X13) (128 * (8 * k.val + 5)) :=
    ld_rows arg13.view X13 (128 * (8 * k.val + 5)) (off6 k 5) (k0_off6_inb k 5)
  have s135b : View.readAt (Elt F) arg13.view (Rect.unit (s := S2048x256) (k0_off7 k 5#32) S64x256.size (k0_off7_inb k 5)).toLoadRect X13 = rows (n := 64) (arg13.view.read (Elt F) X13) (128 * (8 * k.val + 5) + 64) :=
    ld_rows arg13.view X13 (128 * (8 * k.val + 5) + 64) (off7 k 5) (k0_off7_inb k 5)
  have v5 : View.readAt (Elt F) arg4.view (Rect.unit (s := S2048x512) (k0_off8 k 5#32) S128x512.size (k0_off8_inb k 5)).toLoadRect X4 = rows (n := 128) (arg4.view.read (Elt F) X4) (128 * (8 * k.val + 5)) :=
    ld_rows arg4.view X4 (128 * (8 * k.val + 5)) (off8 k 5) (k0_off8_inb k 5)
  have g5a : View.readAt (Elt F) arg5.view (Rect.unit (s := S2048x512) (k0_off9 k 5#32) S64x512.size (k0_off9_inb k 5)).toLoadRect X5 = rows (n := 64) (arg5.view.read (Elt F) X5) (128 * (8 * k.val + 5)) :=
    ld_rows arg5.view X5 (128 * (8 * k.val + 5)) (off9 k 5) (k0_off9_inb k 5)
  have g5b : View.readAt (Elt F) arg5.view (Rect.unit (s := S2048x512) (k0_off10 k 5#32) S64x512.size (k0_off10_inb k 5)).toLoadRect X5 = rows (n := 64) (arg5.view.read (Elt F) X5) (128 * (8 * k.val + 5) + 64) :=
    ld_rows arg5.view X5 (128 * (8 * k.val + 5) + 64) (off10 k 5) (k0_off10_inb k 5)
  have d6a : View.readAt (Elt F) arg14.view (Rect.unit (s := S32x8x256) (k0_off4 k 6#32) S1x8x256.size (k0_off4_inb k 6)).toLoadRect X14 = slab (arg14.view.read (Elt F) X14) (2 * (8 * k.val + 6)) :=
    ld_slab arg14.view X14 (2 * (8 * k.val + 6)) (off4 k 6) (k0_off4_inb k 6)
  have d6b : View.readAt (Elt F) arg14.view (Rect.unit (s := S32x8x256) (k0_off5 k 6#32) S1x8x256.size (k0_off5_inb k 6)).toLoadRect X14 = slab (arg14.view.read (Elt F) X14) (2 * (8 * k.val + 6) + 1) :=
    ld_slab arg14.view X14 (2 * (8 * k.val + 6) + 1) (off5 k 6) (k0_off5_inb k 6)
  have s116a : View.readAt (Elt F) arg11.view (Rect.unit (s := S2048x256) (k0_off6 k 6#32) S64x256.size (k0_off6_inb k 6)).toLoadRect X11 = rows (n := 64) (arg11.view.read (Elt F) X11) (128 * (8 * k.val + 6)) :=
    ld_rows arg11.view X11 (128 * (8 * k.val + 6)) (off6 k 6) (k0_off6_inb k 6)
  have s116b : View.readAt (Elt F) arg11.view (Rect.unit (s := S2048x256) (k0_off7 k 6#32) S64x256.size (k0_off7_inb k 6)).toLoadRect X11 = rows (n := 64) (arg11.view.read (Elt F) X11) (128 * (8 * k.val + 6) + 64) :=
    ld_rows arg11.view X11 (128 * (8 * k.val + 6) + 64) (off7 k 6) (k0_off7_inb k 6)
  have s126a : View.readAt (Elt F) arg12.view (Rect.unit (s := S2048x256) (k0_off6 k 6#32) S64x256.size (k0_off6_inb k 6)).toLoadRect X12 = rows (n := 64) (arg12.view.read (Elt F) X12) (128 * (8 * k.val + 6)) :=
    ld_rows arg12.view X12 (128 * (8 * k.val + 6)) (off6 k 6) (k0_off6_inb k 6)
  have s126b : View.readAt (Elt F) arg12.view (Rect.unit (s := S2048x256) (k0_off7 k 6#32) S64x256.size (k0_off7_inb k 6)).toLoadRect X12 = rows (n := 64) (arg12.view.read (Elt F) X12) (128 * (8 * k.val + 6) + 64) :=
    ld_rows arg12.view X12 (128 * (8 * k.val + 6) + 64) (off7 k 6) (k0_off7_inb k 6)
  have s136a : View.readAt (Elt F) arg13.view (Rect.unit (s := S2048x256) (k0_off6 k 6#32) S64x256.size (k0_off6_inb k 6)).toLoadRect X13 = rows (n := 64) (arg13.view.read (Elt F) X13) (128 * (8 * k.val + 6)) :=
    ld_rows arg13.view X13 (128 * (8 * k.val + 6)) (off6 k 6) (k0_off6_inb k 6)
  have s136b : View.readAt (Elt F) arg13.view (Rect.unit (s := S2048x256) (k0_off7 k 6#32) S64x256.size (k0_off7_inb k 6)).toLoadRect X13 = rows (n := 64) (arg13.view.read (Elt F) X13) (128 * (8 * k.val + 6) + 64) :=
    ld_rows arg13.view X13 (128 * (8 * k.val + 6) + 64) (off7 k 6) (k0_off7_inb k 6)
  have v6 : View.readAt (Elt F) arg4.view (Rect.unit (s := S2048x512) (k0_off8 k 6#32) S128x512.size (k0_off8_inb k 6)).toLoadRect X4 = rows (n := 128) (arg4.view.read (Elt F) X4) (128 * (8 * k.val + 6)) :=
    ld_rows arg4.view X4 (128 * (8 * k.val + 6)) (off8 k 6) (k0_off8_inb k 6)
  have g6a : View.readAt (Elt F) arg5.view (Rect.unit (s := S2048x512) (k0_off9 k 6#32) S64x512.size (k0_off9_inb k 6)).toLoadRect X5 = rows (n := 64) (arg5.view.read (Elt F) X5) (128 * (8 * k.val + 6)) :=
    ld_rows arg5.view X5 (128 * (8 * k.val + 6)) (off9 k 6) (k0_off9_inb k 6)
  have g6b : View.readAt (Elt F) arg5.view (Rect.unit (s := S2048x512) (k0_off10 k 6#32) S64x512.size (k0_off10_inb k 6)).toLoadRect X5 = rows (n := 64) (arg5.view.read (Elt F) X5) (128 * (8 * k.val + 6) + 64) :=
    ld_rows arg5.view X5 (128 * (8 * k.val + 6) + 64) (off10 k 6) (k0_off10_inb k 6)
  have d7a : View.readAt (Elt F) arg14.view (Rect.unit (s := S32x8x256) (k0_off4 k 7#32) S1x8x256.size (k0_off4_inb k 7)).toLoadRect X14 = slab (arg14.view.read (Elt F) X14) (2 * (8 * k.val + 7)) :=
    ld_slab arg14.view X14 (2 * (8 * k.val + 7)) (off4 k 7) (k0_off4_inb k 7)
  have d7b : View.readAt (Elt F) arg14.view (Rect.unit (s := S32x8x256) (k0_off5 k 7#32) S1x8x256.size (k0_off5_inb k 7)).toLoadRect X14 = slab (arg14.view.read (Elt F) X14) (2 * (8 * k.val + 7) + 1) :=
    ld_slab arg14.view X14 (2 * (8 * k.val + 7) + 1) (off5 k 7) (k0_off5_inb k 7)
  have s117a : View.readAt (Elt F) arg11.view (Rect.unit (s := S2048x256) (k0_off6 k 7#32) S64x256.size (k0_off6_inb k 7)).toLoadRect X11 = rows (n := 64) (arg11.view.read (Elt F) X11) (128 * (8 * k.val + 7)) :=
    ld_rows arg11.view X11 (128 * (8 * k.val + 7)) (off6 k 7) (k0_off6_inb k 7)
  have s117b : View.readAt (Elt F) arg11.view (Rect.unit (s := S2048x256) (k0_off7 k 7#32) S64x256.size (k0_off7_inb k 7)).toLoadRect X11 = rows (n := 64) (arg11.view.read (Elt F) X11) (128 * (8 * k.val + 7) + 64) :=
    ld_rows arg11.view X11 (128 * (8 * k.val + 7) + 64) (off7 k 7) (k0_off7_inb k 7)
  have s127a : View.readAt (Elt F) arg12.view (Rect.unit (s := S2048x256) (k0_off6 k 7#32) S64x256.size (k0_off6_inb k 7)).toLoadRect X12 = rows (n := 64) (arg12.view.read (Elt F) X12) (128 * (8 * k.val + 7)) :=
    ld_rows arg12.view X12 (128 * (8 * k.val + 7)) (off6 k 7) (k0_off6_inb k 7)
  have s127b : View.readAt (Elt F) arg12.view (Rect.unit (s := S2048x256) (k0_off7 k 7#32) S64x256.size (k0_off7_inb k 7)).toLoadRect X12 = rows (n := 64) (arg12.view.read (Elt F) X12) (128 * (8 * k.val + 7) + 64) :=
    ld_rows arg12.view X12 (128 * (8 * k.val + 7) + 64) (off7 k 7) (k0_off7_inb k 7)
  have s137a : View.readAt (Elt F) arg13.view (Rect.unit (s := S2048x256) (k0_off6 k 7#32) S64x256.size (k0_off6_inb k 7)).toLoadRect X13 = rows (n := 64) (arg13.view.read (Elt F) X13) (128 * (8 * k.val + 7)) :=
    ld_rows arg13.view X13 (128 * (8 * k.val + 7)) (off6 k 7) (k0_off6_inb k 7)
  have s137b : View.readAt (Elt F) arg13.view (Rect.unit (s := S2048x256) (k0_off7 k 7#32) S64x256.size (k0_off7_inb k 7)).toLoadRect X13 = rows (n := 64) (arg13.view.read (Elt F) X13) (128 * (8 * k.val + 7) + 64) :=
    ld_rows arg13.view X13 (128 * (8 * k.val + 7) + 64) (off7 k 7) (k0_off7_inb k 7)
  have v7 : View.readAt (Elt F) arg4.view (Rect.unit (s := S2048x512) (k0_off8 k 7#32) S128x512.size (k0_off8_inb k 7)).toLoadRect X4 = rows (n := 128) (arg4.view.read (Elt F) X4) (128 * (8 * k.val + 7)) :=
    ld_rows arg4.view X4 (128 * (8 * k.val + 7)) (off8 k 7) (k0_off8_inb k 7)
  have g7a : View.readAt (Elt F) arg5.view (Rect.unit (s := S2048x512) (k0_off9 k 7#32) S64x512.size (k0_off9_inb k 7)).toLoadRect X5 = rows (n := 64) (arg5.view.read (Elt F) X5) (128 * (8 * k.val + 7)) :=
    ld_rows arg5.view X5 (128 * (8 * k.val + 7)) (off9 k 7) (k0_off9_inb k 7)
  have g7b : View.readAt (Elt F) arg5.view (Rect.unit (s := S2048x512) (k0_off10 k 7#32) S64x512.size (k0_off10_inb k 7)).toLoadRect X5 = rows (n := 64) (arg5.view.read (Elt F) X5) (128 * (8 * k.val + 7) + 64) :=
    ld_rows arg5.view X5 (128 * (8 * k.val + 7) + 64) (off10 k 7) (k0_off10_inb k 7)
  have e9 : (View.readAt (Elt F) arg9.view (Rect.unit (s := S1x512) ![0, 0] S1x512.size inb_S1x512_S1x512_0_0).toLoadRect X9) = (arg9.view.read (Elt F) X9) := View.readAt_full arg9.view X9 inb_S1x512_S1x512_0_0
  unfold k0_t2_body
  unfold inv2
  iintro ⟨H4, H5, H9, H11, H12, H13, H14, ⟨%f15, H15, %h15⟩, ⟨%f10, H10, %h10⟩⟩
  have e15 : (View.readAt (Elt F) arg15.view (Rect.unit (s := S512x256) ![0, 0] S512x256.size inb_S512x256_S512x256_0_0).toLoadRect f15) = stAt (arg13.view.read (Elt F) X13) (arg14.view.read (Elt F) X14) (arg4.view.read (Elt F) X4) (8 * k.val) :=
    (View.readAt_full arg15.view f15 inb_S512x256_S512x256_0_0).trans h15
  sl_exec
  sl_step
  isplitl [H4]; · iexact H4
  isplitl [H5]; · iexact H5
  isplitl [H9]; · iexact H9
  isplitl [H11]; · iexact H11
  isplitl [H12]; · iexact H12
  isplitl [H13]; · iexact H13
  isplitl [H14]; · iexact H14
  isplitl [H15]
  · iexists _; isplitl [H15]; · iexact H15
    ipureintro
    rw [View.read_writes_full]
    rw [show 8 * (k.val + 1) = 8 * k.val + 7 + 1 from by omega]
    exact Eq.trans (b := shapeCast S512x256 (stAt (arg13.view.read (Elt F) X13) (arg14.view.read (Elt F) X14) (arg4.view.read (Elt F) X4) (8 * k.val + 7 + 1)) shapeCasts_S512x256_S512x256) rfl (shapeCast_self _ _)
  iexists _; isplitl [H10]; · iexact H10
  ipureintro
  intro y hy
  refine ext_rows arg10.view f10 _ (128 * (8 * k.val + 7) + 64) (off10 k 7) (k0_off10_inb k 7) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 7)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 7) (by omega)).symm
    rfl
  clear hy y; intro y hy
  refine ext_rows arg10.view f10 _ (128 * (8 * k.val + 7)) (off9 k 7) (k0_off9_inb k 7) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 7)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 7) (by omega)).symm
    rfl
  clear hy y; intro y hy
  refine ext_rows arg10.view f10 _ (128 * (8 * k.val + 6) + 64) (off10 k 6) (k0_off10_inb k 6) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 6)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 6) (by omega)).symm
    rfl
  clear hy y; intro y hy
  refine ext_rows arg10.view f10 _ (128 * (8 * k.val + 6)) (off9 k 6) (k0_off9_inb k 6) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 6)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 6) (by omega)).symm
    rfl
  clear hy y; intro y hy
  refine ext_rows arg10.view f10 _ (128 * (8 * k.val + 5) + 64) (off10 k 5) (k0_off10_inb k 5) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 5)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 5) (by omega)).symm
    rfl
  clear hy y; intro y hy
  refine ext_rows arg10.view f10 _ (128 * (8 * k.val + 5)) (off9 k 5) (k0_off9_inb k 5) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 5)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 5) (by omega)).symm
    rfl
  clear hy y; intro y hy
  refine ext_rows arg10.view f10 _ (128 * (8 * k.val + 4) + 64) (off10 k 4) (k0_off10_inb k 4) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 4)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 4) (by omega)).symm
    rfl
  clear hy y; intro y hy
  refine ext_rows arg10.view f10 _ (128 * (8 * k.val + 4)) (off9 k 4) (k0_off9_inb k 4) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 4)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 4) (by omega)).symm
    rfl
  clear hy y; intro y hy
  refine ext_rows arg10.view f10 _ (128 * (8 * k.val + 3) + 64) (off10 k 3) (k0_off10_inb k 3) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 3)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 3) (by omega)).symm
    rfl
  clear hy y; intro y hy
  refine ext_rows arg10.view f10 _ (128 * (8 * k.val + 3)) (off9 k 3) (k0_off9_inb k 3) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 3)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 3) (by omega)).symm
    rfl
  clear hy y; intro y hy
  refine ext_rows arg10.view f10 _ (128 * (8 * k.val + 2) + 64) (off10 k 2) (k0_off10_inb k 2) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 2)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 2) (by omega)).symm
    rfl
  clear hy y; intro y hy
  refine ext_rows arg10.view f10 _ (128 * (8 * k.val + 2)) (off9 k 2) (k0_off9_inb k 2) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 2)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 2) (by omega)).symm
    rfl
  clear hy y; intro y hy
  refine ext_rows arg10.view f10 _ (128 * (8 * k.val + 1) + 64) (off10 k 1) (k0_off10_inb k 1) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 1)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 1) (by omega)).symm
    rfl
  clear hy y; intro y hy
  refine ext_rows arg10.view f10 _ (128 * (8 * k.val + 1)) (off9 k 1) (k0_off9_inb k 1) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 1)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 1) (by omega)).symm
    rfl
  clear hy y; intro y hy
  refine ext_rows arg10.view f10 _ (128 * (8 * k.val + 0) + 64) (off10 k 0) (k0_off10_inb k 0) _ _ ?_ ?_ y (by omega)
  · refine Eq.trans (b := ybAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 0)) ?_ (rows_YYb (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 0) (by omega)).symm
    rfl
  clear hy y; intro y hy
  refine ext_rows arg10.view f10 _ (128 * (8 * k.val + 0)) (off9 k 0) (k0_off9_inb k 0) _ _ ?_ ?_ y (by omega)
  · refine Eq.trans (b := yaAt (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 0)) ?_ (rows_YYa (arg11.view.read (Elt F) X11) (arg12.view.read (Elt F) X12) (arg13.view.read (Elt F) X13) (arg14.view.read (Elt F) X14) (arg4.view.read (Elt F) X4) (arg5.view.read (Elt F) X5) (arg9.view.read (Elt F) X9) (8 * k.val + 0) (by omega)).symm
    rfl
  clear hy y; intro y hy
  exact h10 y (by omega)

end Cert.GlaIdeal.Hand
-- ==== Proof.GlaRun.lean ====
module

public import proofs.«01_k».proof.Proof.GlaTrip2
public import Idealize.ShloMosaic.Lib.Exec
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # Gated linear attention: the body's run -/

set_option maxRecDepth 16384

noncomputable section

namespace Cert.GlaIdeal.Hand

open Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The trips of loop 1. -/
theorem trips1 : k0_t1_loop.trips = 2 := by decide +kernel

/-- Loop 1 takes its invariant from the start to the end. -/
theorem loop1 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (E : Set ℕ) {β : Type} (kk : PUnit → Prog (TpuEff nD τ sig (Elt F) Λ₀ .tc) β) (Q : β → sProp 𝕄) :
    inv1 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 0
      ⊢ iprop((inv1 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 2 -∗ wp frame (wpE (defs₀ (F := F)) Variants.none (c : Thread nD τ) none) E (kk PUnit.unit) Q)
        -∗ wp frame (wpE (defs₀ (F := F)) Variants.none (c : Thread nD τ) none) E
          (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15) >>= kk) Q) := by
  have h := Scf.wp_for_bind (Q := Q) (kk := kk) frame (wpE (defs₀ (F := F)) Variants.none (c : Thread nD τ) none) E k0_t1_loop.lb k0_t1_loop.ub k0_t1_loop.st k0_t1_ok PUnit.unit
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15) (fun k _ => inv1 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 k)
    (fun k _ => trip1 c i arg2 harg2 arg3 harg3 arg4 harg4 arg5 harg5 arg6 harg6 arg7 harg7 arg8 harg8 arg9 harg9 arg10 harg10 arg11 harg11 arg12 harg12 arg13 harg13 arg14 harg14 arg15 harg15 X2 X3 X6 X7 X8 k E)
  have e : Scf.trips k0_t1_loop.lb k0_t1_loop.ub k0_t1_loop.st = 2 := trips1
  rw [e] at h
  refine h.trans ?_
  iintro H Hk
  iapply H
  iintro %a
  iexact Hk

/-- The trips of loop 2. -/
theorem trips2 : k0_t2_loop.trips = 2 := by decide +kernel

/-- Loop 2 takes its invariant from the start to the end. -/
theorem loop2 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole) (X4 : BufTy.Contents (Elt F) arg4.view.ty) (X5 : BufTy.Contents (Elt F) arg5.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) {β : Type} (kk : PUnit → Prog (TpuEff nD τ sig (Elt F) Λ₀ .tc) β) (Q : β → sProp 𝕄) :
    inv2 (F := F) c arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 0
      ⊢ iprop((inv2 (F := F) c arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 2 -∗ wp frame (wpE (defs₀ (F := F)) Variants.none (c : Thread nD τ) none) E (kk PUnit.unit) Q)
        -∗ wp frame (wpE (defs₀ (F := F)) Variants.none (c : Thread nD τ) none) E
          (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15) >>= kk) Q) := by
  have h := Scf.wp_for_bind (Q := Q) (kk := kk) frame (wpE (defs₀ (F := F)) Variants.none (c : Thread nD τ) none) E k0_t2_loop.lb k0_t2_loop.ub k0_t2_loop.st k0_t2_ok PUnit.unit
    (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15) (fun k _ => inv2 (F := F) c arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 k)
    (fun k _ => trip2 c i arg2 harg2 arg3 harg3 arg4 harg4 arg5 harg5 arg6 harg6 arg7 harg7 arg8 harg8 arg9 harg9 arg10 harg10 arg11 harg11 arg12 harg12 arg13 harg13 arg14 harg14 arg15 harg15 X4 X5 X9 X11 X12 X13 X14 k E)
  have e : Scf.trips k0_t2_loop.lb k0_t2_loop.ub k0_t2_loop.st = 2 := trips2
  rw [e] at h
  refine h.trans ?_
  iintro H Hk
  iapply H
  iintro %a
  iexact Hk

/-- What the body leaves in the output's block. -/
def outOf (x0 : Vec F S2048x256 .bf16) (x1 : Vec F S2048x256 .bf16) (x2 : Vec F S2048x512 .bf16) (x3 : Vec F S2048x512 .bf16) (x4 : Vec F S2048x128 .f32) (x5 : Vec F S128x256 .bf16) (x6 : Vec F S1x256 .f32) (x7 : Vec F S1x512 .f32) : Vec F S2048x512 .bf16 :=
  YY (QE x0 x4 x5 x6) (KI x1 x4 x5 x6) (KD x1 x4 x5 x6) (DL x4 x5 x6) x2 x3 x7

set_option maxHeartbeats 1600000 in
/-- The body's run: from the inputs' blocks it fills the output's. -/
theorem run (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S32x8x256 .f32) (harg14 : arg14.IsWhole) (arg15 : Memref sig .tc .vmem S512x256 .f32) (harg15 : arg15.IsWhole)
    (x0 : Vec F S2048x256 .bf16) (x1 : Vec F S2048x256 .bf16) (x2 : Vec F S2048x512 .bf16) (x3 : Vec F S2048x512 .bf16) (x4 : Vec F S2048x128 .f32) (x5 : Vec F S128x256 .bf16) (x6 : Vec F S1x256 .f32) (x7 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outOf x0 x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) E (cc0_gla i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_gla_eq_skeleton]; unfold cc0_gla_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst e2 e3 e4 e5 e6 e7 e8 e9
  iapply (loop1 c i arg2 harg2 arg3 harg3 arg4 harg4 arg5 harg5 arg6 harg6 arg7 harg7 arg8 harg8 arg9 harg9 arg10 harg10 arg11 harg11 arg12 harg12 arg13 harg13 arg14 harg14 arg15 harg15 f2 f3 f6 f7 f8 E _ _) $$ [H2 H3 H6 H7 H8 H11 H12 H13 H14]
  · unfold inv1
    isplitl [H2]; · iexact H2
    isplitl [H3]; · iexact H3
    isplitl [H6]; · iexact H6
    isplitl [H7]; · iexact H7
    isplitl [H8]; · iexact H8
    isplitl [H11]
    · iexists f11; isplitl [H11]; · iexact H11
      ipureintro; intro y hy; omega
    isplitl [H12]
    · iexists f12; isplitl [H12]; · iexact H12
      ipureintro; intro y hy; omega
    isplitl [H13]
    · iexists f13; isplitl [H13]; · iexact H13
      ipureintro; intro y hy; omega
    iexists f14; isplitl [H14]; · iexact H14
    ipureintro; intro y hy; omega
  unfold inv1
  iintro ⟨H2, H3, H6, H7, H8, ⟨%g11, H11, %h11⟩, ⟨%g12, H12, %h12⟩, ⟨%g13, H13, %h13⟩, ⟨%g14, H14, %h14⟩⟩
  have r11 : arg11.view.read (Elt F) g11 = QE (arg2.view.read (Elt F) f2) (arg6.view.read (Elt F) f6) (arg7.view.read (Elt F) f7) (arg8.view.read (Elt F) f8) := funext fun y => h11 y (by
    have : (y 0).val < 2048 := (y 0).isLt
    omega)
  have r12 : arg12.view.read (Elt F) g12 = KI (arg3.view.read (Elt F) f3) (arg6.view.read (Elt F) f6) (arg7.view.read (Elt F) f7) (arg8.view.read (Elt F) f8) := funext fun y => h12 y (by
    have : (y 0).val < 2048 := (y 0).isLt
    omega)
  have r13 : arg13.view.read (Elt F) g13 = KD (arg3.view.read (Elt F) f3) (arg6.view.read (Elt F) f6) (arg7.view.read (Elt F) f7) (arg8.view.read (Elt F) f8) := funext fun y => h13 y (by
    have : (y 0).val < 2048 := (y 0).isLt
    omega)
  have r14 : arg14.view.read (Elt F) g14 = DL (arg6.view.read (Elt F) f6) (arg7.view.read (Elt F) f7) (arg8.view.read (Elt F) f8) := funext fun y => h14 y (by
    have : (y 0).val < 32 := (y 0).isLt
    omega)
  sl_exec
  iapply (loop2 c i arg2 harg2 arg3 harg3 arg4 harg4 arg5 harg5 arg6 harg6 arg7 harg7 arg8 harg8 arg9 harg9 arg10 harg10 arg11 harg11 arg12 harg12 arg13 harg13 arg14 harg14 arg15 harg15 f4 f5 f9 g11 g12 g13 g14 E _ _) $$ [H4 H5 H9 H11 H12 H13 H14 H15 H10]
  · unfold inv2
    isplitl [H4]; · iexact H4
    isplitl [H5]; · iexact H5
    isplitl [H9]; · iexact H9
    isplitl [H11]; · iexact H11
    isplitl [H12]; · iexact H12
    isplitl [H13]; · iexact H13
    isplitl [H14]; · iexact H14
    isplitl [H15]
    · iexists _; isplitl [H15]; · iexact H15
      ipureintro
      exact View.read_writes_full (Val := Elt F) arg15.view _ inb_S512x256_S512x256_0_0 (k0_pay4 (F := F)) []
    iexists f10; isplitl [H10]; · iexact H10
    ipureintro; intro y hy; omega
  unfold inv2
  iintro ⟨H4, H5, H9, H11, H12, H13, H14, ⟨%g15, H15, %h15⟩, ⟨%g10, H10, %h10⟩⟩
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists g10; isplitr; swap; · iexact H10
    ipureintro
    rw [r11, r12, r13, r14] at h10
    exact funext fun y => h10 y (by
      have : (y 0).val < 2048 := (y 0).isLt
      omega)
  isplitl [H11]
  · iexists _; iexists g11; isplitr; · ipureintro; rfl
    iexact H11
  isplitl [H12]
  · iexists _; iexists g12; isplitr; · ipureintro; rfl
    iexact H12
  isplitl [H13]
  · iexists _; iexists g13; isplitr; · ipureintro; rfl
    iexact H13
  isplitl [H14]
  · iexists _; iexists g14; isplitr; · ipureintro; rfl
    iexact H14
  iexists _; iexists g15; isplitr; · ipureintro; rfl
  iexact H15

end Cert.GlaIdeal.Hand
-- ==== Proof.GlaFrame.lean ====
module

public import proofs.«01_k».proof.Proof.GlaRun
public import proofs.«01_k».proof.Proof.Gen.GlaIdeal.Frame.Runs
public import Idealize.ShloMosaic.Lib.Exec
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # Gated linear attention: the pipeline's run and the frame -/

set_option maxRecDepth 16384

noncomputable section

namespace Cert.GlaIdeal.Hand

open Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in the output's block. -/
def outAt (c : Dev nD) (t : Fin cfg0.N) : Vec F S2048x512 .bf16 :=
  outOf (iblk m c 0 t) (iblk m c 1 t) (iblk m c 2 t) (iblk m c 3 t) (iblk m c 4 t) (iblk m c 5 t) (iblk m c 6 t) (iblk m c 7 t)

/-- The proof data: each input's buffer at its block, the output's at what the body leaves; the scratch holds anything between
    points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

/-- The arrays start as the host code leaves them. -/
theorem A_eq (c : Dev nD) (w : Fin cfg0.W) : (dats m 0 c).A w = V m c (Pipeline.arrRef spec0 w) := by
  dsimp only [dats]

/-- A point leaves input 0's block as it was. -/
theorem after_0 (c : Dev nD) (t : Fin cfg0.N) : (dats m 0 c).after 0 t = iblk m c 0 t := by dsimp only [dats]
/-- A point leaves input 1's block as it was. -/
theorem after_1 (c : Dev nD) (t : Fin cfg0.N) : (dats m 0 c).after 1 t = iblk m c 1 t := by dsimp only [dats]
/-- A point leaves input 2's block as it was. -/
theorem after_2 (c : Dev nD) (t : Fin cfg0.N) : (dats m 0 c).after 2 t = iblk m c 2 t := by dsimp only [dats]
/-- A point leaves input 3's block as it was. -/
theorem after_3 (c : Dev nD) (t : Fin cfg0.N) : (dats m 0 c).after 3 t = iblk m c 3 t := by dsimp only [dats]
/-- A point leaves input 4's block as it was. -/
theorem after_4 (c : Dev nD) (t : Fin cfg0.N) : (dats m 0 c).after 4 t = iblk m c 4 t := by dsimp only [dats]
/-- A point leaves input 5's block as it was. -/
theorem after_5 (c : Dev nD) (t : Fin cfg0.N) : (dats m 0 c).after 5 t = iblk m c 5 t := by dsimp only [dats]
/-- A point leaves input 6's block as it was. -/
theorem after_6 (c : Dev nD) (t : Fin cfg0.N) : (dats m 0 c).after 6 t = iblk m c 6 t := by dsimp only [dats]
/-- A point leaves input 7's block as it was. -/
theorem after_7 (c : Dev nD) (t : Fin cfg0.N) : (dats m 0 c).after 7 t = iblk m c 7 t := by dsimp only [dats]
/-- After a point the output's window holds its block. -/
theorem after_8 (c : Dev nD) (t : Fin cfg0.N) : (dats m 0 c).after 8 t = outAt m c t := by dsimp only [dats]

/-- Before a point, input 0's window holds its block. -/
theorem before_0 (c : Dev nD) (t : Fin cfg0.N) (d) : (dats m 0 c).before 0 t d = iblk m c 0 t :=
  before0_0_of m (dats m 0 c) (A_eq m c 0) (after_0 m c) t d
/-- Before a point, input 1's window holds its block. -/
theorem before_1 (c : Dev nD) (t : Fin cfg0.N) (d) : (dats m 0 c).before 1 t d = iblk m c 1 t :=
  before0_1_of m (dats m 0 c) (A_eq m c 1) (after_1 m c) t d
/-- Before a point, input 2's window holds its block. -/
theorem before_2 (c : Dev nD) (t : Fin cfg0.N) (d) : (dats m 0 c).before 2 t d = iblk m c 2 t :=
  before0_2_of m (dats m 0 c) (A_eq m c 2) (after_2 m c) t d
/-- Before a point, input 3's window holds its block. -/
theorem before_3 (c : Dev nD) (t : Fin cfg0.N) (d) : (dats m 0 c).before 3 t d = iblk m c 3 t :=
  before0_3_of m (dats m 0 c) (A_eq m c 3) (after_3 m c) t d
/-- Before a point, input 4's window holds its block. -/
theorem before_4 (c : Dev nD) (t : Fin cfg0.N) (d) : (dats m 0 c).before 4 t d = iblk m c 4 t :=
  before0_4_of m (dats m 0 c) (A_eq m c 4) (after_4 m c) t d
/-- Before a point, input 5's window holds its block. -/
theorem before_5 (c : Dev nD) (t : Fin cfg0.N) (d) : (dats m 0 c).before 5 t d = iblk m c 5 t :=
  before0_5_of m (dats m 0 c) (A_eq m c 5) (after_5 m c) t d
/-- Before a point, input 6's window holds its block. -/
theorem before_6 (c : Dev nD) (t : Fin cfg0.N) (d) : (dats m 0 c).before 6 t d = iblk m c 6 t :=
  before0_6_of m (dats m 0 c) (A_eq m c 6) (after_6 m c) t d
/-- Before a point, input 7's window holds its block. -/
theorem before_7 (c : Dev nD) (t : Fin cfg0.N) (d) : (dats m 0 c).before 7 t d = iblk m c 7 t :=
  before0_7_of m (dats m 0 c) (A_eq m c 7) (after_7 m c) t d

/-! ## The body at a point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it leaves there. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8,
    show (dats m 0 c).Φ t.castSucc = Pipeline.ΦA spec0 c from rfl, PhiA0_eq]
  unfold outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body that a grid point runs. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, the arrays at the pipeline's contents and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The run, the arrays at the pipeline's contents. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.GlaIdeal.Hand

end
-- ==== Proof.Scalars.lean ====
module

public import Idealize.ShloMosaic.Lib.Pipeline.ValueKit
public import Idealize.ShloMosaic.Lib.IdealHost

@[expose] public section

/-! # Scalar identities over the extended reals

The kernels spell the logistic function through `tanh`; the references divide by one plus an exponential. -/

noncomputable section

namespace Cert.Scalars

open Idealize.ShloMosaic

/-- The f32 pattern `0x3F000000` is one half. -/
theorem ofBits_half : Ideal.ofBits .f32 0x3F000000#32 = (((1 : ℝ) / 2 : ℝ) : EReal) := by
  simp [Ideal.ofBits, Ideal.ieee, -EReal.coe_mul]; norm_num

/-- On the reals, `1/2 + 1/2·tanh (x/2)` is `1 / (1 + e⁻ˣ)`. -/
theorem half_tanh (x : ℝ) : 1 / 2 + 1 / 2 * Real.tanh (1 / 2 * x) = (1 + Real.exp (-x))⁻¹ := by
  have hp : 0 < Real.exp (1 / 2 * x) := Real.exp_pos _
  have hn : 0 < Real.exp (-(1 / 2 * x)) := Real.exp_pos _
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add]; simp
  rw [Real.tanh_eq_sinh_div_cosh, Real.sinh_eq, Real.cosh_eq, e1]
  generalize Real.exp (1 / 2 * x) = a at *
  generalize Real.exp (-(1 / 2 * x)) = b at *
  have hab : a + b ≠ 0 := by positivity
  have hb2 : 1 + b * b ≠ 0 := by positivity
  field_simp
  nlinarith [e2]

/-- `1/2 + 1/2·tanh (x/2)` is the logistic function, the infinities included. -/
theorem sigmoid_eq (x : EReal) :
    (((1 : ℝ) / 2 : ℝ) : EReal) + (((1 : ℝ) / 2 : ℝ) : EReal) * Ideal.tanh ((((1 : ℝ) / 2 : ℝ) : EReal) * x)
      = Ideal.div 1 (1 + Ideal.exp (-x)) := by
  have hh : (0 : ℝ) < 1 / 2 := by norm_num
  change _ = Ideal.logistic x
  induction x with
  | bot =>
    rw [EReal.coe_mul_bot_of_pos hh, Ideal.tanh_bot, Ideal.logistic_bot, ← EReal.coe_one, ← EReal.coe_neg,
      ← EReal.coe_mul, ← EReal.coe_add]
    norm_num
  | coe r =>
    rw [← EReal.coe_mul, Ideal.tanh_coe, ← EReal.coe_mul, ← EReal.coe_add, Ideal.logistic_coe, half_tanh]
  | top =>
    rw [EReal.coe_mul_top_of_pos hh, Ideal.tanh_top, Ideal.logistic_top, ← EReal.coe_one, ← EReal.coe_mul, ← EReal.coe_add]
    norm_num

/-- `h + h·tanh h` at `h = x/2` is `x` times the logistic function of `x`, but at `-∞`. -/
theorem silu_eq (x : EReal) (hx : x ≠ ⊥) :
    (((1 : ℝ) / 2 : ℝ) : EReal) * x + (((1 : ℝ) / 2 : ℝ) : EReal) * x * Ideal.tanh ((((1 : ℝ) / 2 : ℝ) : EReal) * x)
      = x * Ideal.div 1 (1 + Ideal.exp (-x)) := by
  have hh : (0 : ℝ) < 1 / 2 := by norm_num
  change _ = x * Ideal.logistic x
  induction x with
  | bot => exact absurd rfl hx
  | coe r =>
    rw [← EReal.coe_mul, Ideal.tanh_coe, ← EReal.coe_mul, ← EReal.coe_add, Ideal.logistic_coe, ← EReal.coe_mul, ← half_tanh]
    congr 1; ring
  | top =>
    rw [EReal.coe_mul_top_of_pos hh, Ideal.tanh_top, Ideal.logistic_top]
    norm_num

end Cert.Scalars
-- ==== Proof.GlaReal.lean ====
module

public import proofs.«01_k».proof.Proof.Scalars

@[expose] public section

/-! # Gated linear attention over the reals

Keys and values enter a state that decays; a query reads it. Taken in pairs of chunks of 64 rows, with the decays
counted from the chunks' starts, the outputs are those of the sum over all earlier rows. -/

noncomputable section

namespace Cert.GlaReal

open Idealize.ShloMosaic
open scoped BigOperators

/-! ## Reals among the extended reals -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x3D800000` is one sixteenth. -/
theorem ofBits_sixteenth : Ideal.ofBits .f32 0x3D800000#32 = (((1 : ℝ) / 16 : ℝ) : EReal) := by
  simp [Ideal.ofBits, Ideal.ieee, -EReal.coe_mul]; norm_num

/-- The f32 pattern `0x41800000` is sixteen. -/
theorem ofBits_sixteen : Ideal.ofBits .f32 0x41800000#32 = ((16 : ℝ) : EReal) := by
  simp [Ideal.ofBits, Ideal.ieee, -EReal.coe_mul]; norm_num

/-- The f32 pattern `0xFF800000` is minus infinity. -/
theorem ofBits_bot : Ideal.ofBits .f32 0xFF800000#32 = ⊥ := by
  simp [Ideal.ofBits, Ideal.ieee]

/-- Minus the softplus of minus `z`: the logarithm of its logistic function. -/
def logSig (z : EReal) : EReal := -(max (-z) 0 + Ideal.log1p (Ideal.exp (-(max (-z) (- -z)))))

/-- The log decay of a gate: a sixteenth of the logarithm of its logistic function. -/
def lgt (z : EReal) : EReal := Ideal.div (logSig z) (Ideal.ofBits .f32 0x41800000#32)

/-- The kernel's spelling of the log decay. -/
theorem lgt_eq (z : EReal) :
    (0 - (max (0 - z) 0 + Ideal.log1p (Ideal.exp (0 - max (0 - z) (-(0 - z)))))) * Ideal.ofBits .f32 0x3D800000#32 = lgt z := by
  unfold lgt logSig
  rw [ofBits_sixteen, Ideal.div_coe (by norm_num), ofBits_sixteenth]
  simp only [zero_sub]

/-- At a real gate the log decay is real. -/
theorem lgt_real (z : ℝ) : ∃ r : ℝ, lgt z = r := by
  unfold lgt logSig Ideal.log1p
  rw [ofBits_sixteen, Ideal.div_coe (by norm_num), ← EReal.coe_neg, ← EReal.coe_neg, ← EReal.coe_zero, ← EReal.coe_strictMono.monotone.map_max,
    ← EReal.coe_strictMono.monotone.map_max, ← EReal.coe_neg, Ideal.exp_coe, ← EReal.coe_one, ← EReal.coe_add, Ideal.log_coe,
    if_neg (by have := Real.exp_pos (-(max (-z) (- -z))); linarith), ← EReal.coe_add, ← EReal.coe_neg, ← EReal.coe_mul]
  exact ⟨_, rfl⟩

/-! ## The attention -/

variable (q k la : ℕ → Fin 256 → ℝ) (v : ℕ → Fin 512 → ℝ)

/-- The log decay's sum over the first `n` rows. -/
def P (n : ℕ) (d : Fin 256) : ℝ := ∑ r ∈ Finset.range n, la r d

/-- What row `s` adds to row `r`'s output. -/
def T (r : ℕ) (j : Fin 512) (s : ℕ) : ℝ :=
  (∑ d, q r d * (1 / 16) * k s d * Real.exp (P la (r + 1) d - P la (s + 1) d)) * v s j

/-- Row `r`'s output: the sum over the rows up to it. -/
def O (r : ℕ) (j : Fin 512) : ℝ := ∑ s ∈ Finset.range (r + 1), T q k la v r j s

/-- The state before row `128·n`. -/
def St (n : ℕ) (j : Fin 512) (d : Fin 256) : ℝ :=
  ∑ s ∈ Finset.range (128 * n), v s j * (k s d * Real.exp (P la (128 * n) d - P la (s + 1) d))

/-- The log decay's sum from the start of the row's chunk. -/
def ce (r : ℕ) (d : Fin 256) : ℝ := P la (r + 1) d - P la (64 * (r / 64)) d

/-- A chunk's decay. -/
def dl (c : ℕ) (d : Fin 256) : ℝ := Real.exp (P la (64 * c + 64) d - P la (64 * c) d)

/-- The query, decayed from its chunk's start and scaled. -/
def qe (r : ℕ) (d : Fin 256) : ℝ := q r d * (Real.exp (ce la r d) * (1 / 16))

/-- The key, the decay from its chunk's start undone. -/
def ki (r : ℕ) (d : Fin 256) : ℝ := k r d * Real.exp (-(ce la r d))

/-- The key, decayed to its chunk's end. -/
def kd (r : ℕ) (d : Fin 256) : ℝ := ki k la r d * dl la (r / 64) d

/-- The log decay's sum over a stretch of rows. -/
theorem P_sub (m c : ℕ) (d : Fin 256) : ∑ p ∈ Finset.range c, la (m + p) d = P la (m + c) d - P la m d := by
  unfold P
  rw [Finset.sum_range_add]
  ring

/-- A decayed key by the sums. -/
theorem kd_eq (r : ℕ) (d : Fin 256) : kd k la r d = k r d * Real.exp (P la (64 * (r / 64) + 64) d - P la (r + 1) d) := by
  unfold kd ki dl ce
  rw [mul_assoc, ← Real.exp_add]
  congr 2
  ring

/-- Two chunks on, the state. -/
theorem St_step (n : ℕ) (j : Fin 512) (d : Fin 256) :
    St k la v n j d * (dl la (2 * n) d * dl la (2 * n + 1) d)
        + ∑ s : Fin 128, v (128 * n + s.val) j * (if s.val < 64 then kd k la (128 * n + s.val) d * dl la (2 * n + 1) d else kd k la (128 * n + s.val) d)
      = St k la v (n + 1) j d := by
  rw [Fin.sum_univ_eq_sum_range (fun s => v (128 * n + s) j * (if s < 64 then kd k la (128 * n + s) d * dl la (2 * n + 1) d else kd k la (128 * n + s) d)) 128]
  unfold St
  rw [show 128 * (n + 1) = 128 * n + 128 by ring, Finset.sum_range_add, Finset.sum_mul]
  congr 1
  · refine Finset.sum_congr rfl fun s _ => ?_
    unfold dl
    rw [← Real.exp_add, mul_assoc, mul_assoc, ← Real.exp_add, show 64 * (2 * n + 1) + 64 = 128 * n + 128 by ring,
      show 64 * (2 * n + 1) = 128 * n + 64 by ring, show 64 * (2 * n) = 128 * n by ring]
    congr 3
    ring
  · refine Finset.sum_congr rfl fun s hs => ?_
    have := Finset.mem_range.1 hs
    congr 1
    rw [kd_eq]
    split
    · unfold dl
      rw [mul_assoc, ← Real.exp_add, show 64 * (2 * n + 1) + 64 = 128 * n + 128 by ring,
        show 64 * (2 * n + 1) = 128 * n + 64 by ring, show 64 * ((128 * n + s) / 64) = 128 * n by omega]
      congr 2
      ring
    · rw [show 64 * ((128 * n + s) / 64) + 64 = 128 * n + 128 by omega]

/-- What a row reads from the state. -/
theorem read_St (n r : ℕ) (j : Fin 512) (a : Fin 256 → ℝ)
    (ha : ∀ d, a d = q r d * (1 / 16) * Real.exp (P la (r + 1) d - P la (128 * n) d)) :
    ∑ d, a d * St k la v n j d = ∑ s ∈ Finset.range (128 * n), T q k la v r j s := by
  unfold St T
  simp only [Finset.mul_sum, Finset.sum_mul]
  rw [Finset.sum_comm]
  refine Finset.sum_congr rfl fun s _ => Finset.sum_congr rfl fun d _ => ?_
  rw [ha, show P la (r + 1) d - P la (s + 1) d = (P la (r + 1) d - P la (128 * n) d) + (P la (128 * n) d - P la (s + 1) d) by ring,
    Real.exp_add]
  ring

/-- What a row reads from another of its chunk. -/
theorem read_ki (r s : ℕ) (j : Fin 512) (h : r / 64 = s / 64) :
    (∑ d, qe q la r d * ki k la s d) * v s j = T q k la v r j s := by
  unfold T
  congr 1
  refine Finset.sum_congr rfl fun d _ => ?_
  unfold qe ki ce
  rw [h, show P la (r + 1) d - P la (s + 1) d = (P la (r + 1) d - P la (64 * (s / 64)) d) + -(P la (s + 1) d - P la (64 * (s / 64)) d) by ring,
    Real.exp_add]
  ring

/-- What a row reads from another of the chunk before. -/
theorem read_kd (r s : ℕ) (j : Fin 512) (h : r / 64 = s / 64 + 1) :
    (∑ d, qe q la r d * kd k la s d) * v s j = T q k la v r j s := by
  unfold T
  congr 1
  refine Finset.sum_congr rfl fun d _ => ?_
  rw [kd_eq]
  unfold qe ce
  rw [h, show 64 * (s / 64 + 1) = 64 * (s / 64) + 64 by ring,
    show P la (r + 1) d - P la (s + 1) d = (P la (r + 1) d - P la (64 * (s / 64) + 64) d) + (P la (64 * (s / 64) + 64) d - P la (s + 1) d) by ring,
    Real.exp_add]
  ring

/-- A sum over a chunk, cut at a row. -/
theorem sum_cut (f : ℕ → ℝ) (i m : ℕ) (hi : i < m) :
    (∑ s : Fin m, if s.val ≤ i then f s.val else 0) = ∑ p ∈ Finset.range (i + 1), f p := by
  rw [Fin.sum_univ_eq_sum_range (fun s => if s ≤ i then f s else 0) m, show m = (i + 1) + (m - (i + 1)) by omega,
    Finset.sum_range_add, Finset.sum_eq_zero (s := Finset.range (m - (i + 1))), add_zero]
  · exact Finset.sum_congr rfl fun p hp => if_pos (by have := Finset.mem_range.1 hp; omega)
  · exact fun p _ => if_neg (by omega)

/-- The first chunk's output. -/
theorem out_a (n i : ℕ) (hi : i < 64) (j : Fin 512) :
    ∑ d, qe q la (128 * n + i) d * St k la v n j d
        + ∑ s : Fin 64, (if s.val ≤ i then ∑ d, qe q la (128 * n + i) d * ki k la (128 * n + s.val) d else 0) * v (128 * n + s.val) j
      = O q k la v (128 * n + i) j := by
  unfold O
  rw [read_St q k la v n (128 * n + i), add_assoc (128 * n), Finset.sum_range_add, ← sum_cut (fun p => T q k la v (128 * n + i) j (128 * n + p)) i 64 hi]
  · congr 1
    refine Finset.sum_congr rfl fun s _ => ?_
    have := s.isLt
    split
    · exact read_ki q k la v _ _ j (by omega)
    · exact zero_mul _
  · intro d
    unfold qe ce
    rw [show 64 * ((128 * n + i) / 64) = 128 * n by omega]
    ring

/-- The second chunk's output. -/
theorem out_b (n i : ℕ) (hi : i < 64) (j : Fin 512) :
    ∑ d, qe q la (128 * n + 64 + i) d * dl la (2 * n) d * St k la v n j d
        + ∑ s : Fin 128, (if s.val < 64 then ∑ d, qe q la (128 * n + 64 + i) d * kd k la (128 * n + s.val) d
            else if s.val - 64 ≤ i then ∑ d, qe q la (128 * n + 64 + i) d * ki k la (128 * n + s.val) d else 0) * v (128 * n + s.val) j
      = O q k la v (128 * n + 64 + i) j := by
  unfold O
  rw [read_St q k la v n (128 * n + 64 + i), show 128 * n + 64 + i + 1 = 128 * n + (64 + i + 1) by ring, Finset.sum_range_add,
    ← sum_cut (fun p => T q k la v (128 * n + 64 + i) j (128 * n + p)) (64 + i) 128 (by omega)]
  · congr 1
    refine Finset.sum_congr rfl fun s _ => ?_
    have := s.isLt
    split
    · rw [if_pos (by omega)]
      exact read_kd q k la v _ _ j (by omega)
    · split
      · rw [if_pos (by omega)]
        exact read_ki q k la v _ _ j (by omega)
      · rw [if_neg (by omega)]
        exact zero_mul _
  · intro d
    unfold qe ce dl
    rw [show 64 * ((128 * n + 64 + i) / 64) = 128 * n + 64 by omega, show 64 * (2 * n) = 128 * n by ring,
      show P la (128 * n + 64 + i + 1) d - P la (128 * n) d = (P la (128 * n + 64 + i + 1) d - P la (128 * n + 64) d) + (P la (128 * n + 64) d - P la (128 * n) d) by ring,
      Real.exp_add]
    ring

/-! ## The gated norm -/

/-- Column `j` of the gated norm of a row, at a weight and a gate. -/
def gn (o : Fin 512 → EReal) (j : Fin 512) (w g : EReal) : EReal :=
  o j * Ideal.rsqrt (Ideal.div (∑ x, o x * o x) (Ideal.ofBits .f32 0x44000000#32) + Ideal.ofBits .f32 0x358637BD#32) * w
    * (g * Ideal.div 1 (1 + Ideal.exp (-g)))

end Cert.GlaReal
-- ==== Proof.Sums.lean ====
module

public import proofs.«01_k».proof.Proof.Scalars
public import Idealize.ShloMosaic.Lib.WordCmp

@[expose] public section

/-! # The decay of a row and its running sums

The kernel sums the decay over a triangle of a 256-row tile, in three parts (a value and what is left of it); the
reference takes a running sum over chunks of 128 rows. Both are the sum of the decays from the start of the chunk. -/

set_option maxRecDepth 16384

noncomputable section

namespace Cert.Sums

open Idealize.ShloMosaic Idealize.ShloMosaic.WordCmp
open scoped BigOperators

/-- `-eᵃ · softplus z`. -/
def decay (a z : EReal) : EReal := -Ideal.exp a * (max z 0 + Ideal.log1p (Ideal.exp (-(max z (-z)))))

/-- An exponential is not negative. -/
theorem exp_nonneg (a : EReal) : 0 ≤ Ideal.exp a := by
  induction a with
  | bot => simp
  | coe r => rw [Ideal.exp_coe]; exact EReal.coe_nonneg.2 (Real.exp_pos r).le
  | top => simp

/-- `log (1 + a)` is not negative for `a ≥ 0`. -/
theorem log1p_nonneg (a : EReal) (h : 0 ≤ a) : 0 ≤ Ideal.log1p a := by
  unfold Ideal.log1p
  induction a with
  | bot => simp at h
  | coe r =>
    have hr : 0 ≤ r := EReal.coe_nonneg.1 h
    rw [← EReal.coe_one, ← EReal.coe_add, Ideal.log_coe, if_neg (by linarith)]
    exact EReal.coe_nonneg.2 (Real.log_nonneg (by linarith))
  | top => rw [← EReal.coe_one, EReal.coe_add_top]; simp

/-- The decay is never plus infinity: it is at most zero. -/
theorem decay_ne_top (a z : EReal) : decay a z ≠ ⊤ := by
  have h : decay a z ≤ 0 := by
    unfold decay
    rw [EReal.neg_mul, EReal.neg_le, neg_zero]
    exact mul_nonneg (exp_nonneg a) (add_nonneg (le_max_right _ _) (log1p_nonneg _ (exp_nonneg _)))
  exact fun e => absurd (e ▸ h) (by simp)

/-- A value below plus infinity, what is left of it, and what is left of that: together the value. -/
theorem split3 (g : EReal) (h : g ≠ ⊤) : g + (g - g) + (g - g - (g - g)) = g := by
  induction g with
  | bot => simp
  | coe r => rw [← EReal.coe_sub, ← EReal.coe_sub, ← EReal.coe_add, ← EReal.coe_add]; congr 1; ring
  | top => exact absurd rfl h

/-- The sums of the three parts over a selection are the sum of the values over it. -/
theorem sum_split3 {ι : Type*} (s : Finset ι) (p : ι → Prop) [DecidablePred p] (g : ι → EReal) (h : ∀ i, g i ≠ ⊤) :
    (∑ i ∈ s, if p i then g i else 0) + (∑ i ∈ s, if p i then g i - g i else 0)
        + (∑ i ∈ s, if p i then g i - g i - (g i - g i) else 0) = ∑ i ∈ s, if p i then g i else 0 := by
  rw [← Finset.sum_add_distrib, ← Finset.sum_add_distrib]
  refine Finset.sum_congr rfl fun i _ => ?_
  split
  · exact split3 _ (h i)
  · simp

/-- The triangle of a tile of two chunks: the entries of `i`'s chunk up to `i`. -/
theorem sum_tri (f : ℕ → EReal) (i : ℕ) (hi : i < 256) :
    (∑ s : Fin 256, if i / 128 = s.val / 128 ∧ s.val ≤ i then f s.val else 0)
      = ∑ p ∈ Finset.range (i % 128 + 1), f (i / 128 * 128 + p) := by
  rw [Fin.sum_univ_eq_sum_range (fun s => if i / 128 = s / 128 ∧ s ≤ i then f s else 0) 256,
    show 256 = i / 128 * 128 + ((i % 128 + 1) + (255 - i)) by omega, Finset.sum_range_add, Finset.sum_range_add,
    Finset.sum_eq_zero (s := Finset.range (i / 128 * 128)), zero_add,
    Finset.sum_eq_zero (s := Finset.range (255 - i)), add_zero]
  · refine Finset.sum_congr rfl fun p hp => if_pos ?_
    have := Finset.mem_range.1 hp
    omega
  · exact fun p hp => if_neg (by omega)
  · intro p hp
    have := Finset.mem_range.1 hp
    exact if_neg (by omega)

/-- The test of the triangle, on the words that the kernel compares. -/
theorem mask_word (i s : ℕ) (hi : i < 256) (hs : s < 256) :
    IntOp.andi (IntOp.cmpi .eq (IntOp.shrsi .vector (BitVec.ofNat 32 i) 7#32) (IntOp.shrsi .vector (BitVec.ofNat 32 s) 7#32))
      (IntOp.cmpi .sle (BitVec.ofNat 32 s) (BitVec.ofNat 32 i)) = if i / 128 = s / 128 ∧ s ≤ i then 1#1 else 0#1 := by
  have hsh : ∀ n : ℕ, n < 256 → IntOp.shrsi .vector (BitVec.ofNat 32 n) 7#32 = BitVec.ofNat 32 (n / 128) := by
    decide +kernel
  rw [hsh i hi, hsh s hs, cmpi_eq_ofNat (by omega) (by omega), cmpi_sle_ofNat (by omega) (by omega)]
  by_cases h1 : i / 128 = s / 128 <;> by_cases h2 : s ≤ i <;> simp [h1, h2, IntOp.andi]

/-- One tile of 256 rows of the narrow result, in one lane: the raw value, its logistic function, or the running sum of the decay. -/
theorem tile (raw : Fin 256 → EReal) (a d : EReal) (i : Fin 256) (l : Fin 128) :
    (Scalar.select (IntOp.cmpi .slt (BitVec.ofNat 32 l.val) 16#32) (raw i)
      (Scalar.select (IntOp.cmpi .slt (BitVec.ofNat 32 l.val) 32#32)
        (Ideal.ofBits .f32 0x3F000000#32 + Ideal.ofBits .f32 0x3F000000#32 * Ideal.tanh (Ideal.ofBits .f32 0x3F000000#32 * raw i))
        ((∑ s : Fin 256, Scalar.select
              (IntOp.andi (IntOp.cmpi .eq (IntOp.shrsi .vector (BitVec.ofNat 32 i.val) 7#32) (IntOp.shrsi .vector (BitVec.ofNat 32 s.val) 7#32))
                (IntOp.cmpi .sle (BitVec.ofNat 32 s.val) (BitVec.ofNat 32 i.val)))
              ((0 - Ideal.exp a) * (max (raw s + d) 0 + Ideal.log1p (Ideal.exp (0 - max (raw s + d) (-(raw s + d)))))) 0)
          + (∑ s : Fin 256, Scalar.select
              (IntOp.andi (IntOp.cmpi .eq (IntOp.shrsi .vector (BitVec.ofNat 32 i.val) 7#32) (IntOp.shrsi .vector (BitVec.ofNat 32 s.val) 7#32))
                (IntOp.cmpi .sle (BitVec.ofNat 32 s.val) (BitVec.ofNat 32 i.val)))
              ((0 - Ideal.exp a) * (max (raw s + d) 0 + Ideal.log1p (Ideal.exp (0 - max (raw s + d) (-(raw s + d)))))
                - (0 - Ideal.exp a) * (max (raw s + d) 0 + Ideal.log1p (Ideal.exp (0 - max (raw s + d) (-(raw s + d)))))) 0)
          + (∑ s : Fin 256, Scalar.select
              (IntOp.andi (IntOp.cmpi .eq (IntOp.shrsi .vector (BitVec.ofNat 32 i.val) 7#32) (IntOp.shrsi .vector (BitVec.ofNat 32 s.val) 7#32))
                (IntOp.cmpi .sle (BitVec.ofNat 32 s.val) (BitVec.ofNat 32 i.val)))
              ((0 - Ideal.exp a) * (max (raw s + d) 0 + Ideal.log1p (Ideal.exp (0 - max (raw s + d) (-(raw s + d)))))
                - (0 - Ideal.exp a) * (max (raw s + d) 0 + Ideal.log1p (Ideal.exp (0 - max (raw s + d) (-(raw s + d)))))
                - ((0 - Ideal.exp a) * (max (raw s + d) 0 + Ideal.log1p (Ideal.exp (0 - max (raw s + d) (-(raw s + d)))))
                  - (0 - Ideal.exp a) * (max (raw s + d) 0 + Ideal.log1p (Ideal.exp (0 - max (raw s + d) (-(raw s + d))))))) 0))) : EReal)
      = if l.val < 16 then raw i
        else if l.val < 32 then Ideal.div 1 (1 + Ideal.exp (-raw i))
        else ∑ p ∈ Finset.range (i.val % 128 + 1),
          if hp : i.val / 128 * 128 + p < 256 then decay a (raw ⟨i.val / 128 * 128 + p, hp⟩ + d) else 0 := by
  have hd : ∀ s, (0 - Ideal.exp a) * (max (raw s + d) 0 + Ideal.log1p (Ideal.exp (0 - max (raw s + d) (-(raw s + d))))) = decay a (raw s + d) :=
    fun s => by rw [zero_sub, zero_sub]; rfl
  have hsel : ∀ (P : Prop) [Decidable P] (u v : EReal), Scalar.select (if P then 1#1 else 0#1) u v = if P then u else v := by
    intro P _ u v
    by_cases hP : P
    · simp [hP, Scalar.select]
    · simp [hP, Scalar.select]
  have hl : ∀ n : ℕ, n < 128 → IntOp.cmpi .slt (BitVec.ofNat 32 l.val) (BitVec.ofNat 32 n) = if l.val < n then 1#1 else 0#1 := by
    intro n hn
    have := l.isLt
    rw [cmpi_slt_ofNat (by omega) (by omega)]
    by_cases h : l.val < n <;> simp [h]
  rw [hl 16 (by omega), hl 32 (by omega), hsel, hsel, Cert.Scalars.ofBits_half, Cert.Scalars.sigmoid_eq]
  refine if_congr Iff.rfl rfl (if_congr Iff.rfl rfl ?_)
  have hm : ∀ s : Fin 256, _ := fun s => mask_word i.val s.val i.isLt s.isLt
  simp only [hd, hm, hsel]
  rw [sum_split3 Finset.univ (fun s : Fin 256 => i.val / 128 = s.val / 128 ∧ s.val ≤ i.val) _ fun s => decay_ne_top a (raw s + d)]
  refine Eq.trans ?_ (sum_tri (fun s => if hp : s < 256 then decay a (raw ⟨s, hp⟩ + d) else 0) i.val i.isLt)
  exact Finset.sum_congr rfl fun s _ => by rw [dif_pos s.isLt]

/-- The shape of a window that runs over the third of four axes. -/
def windowEquiv (n : ℕ) : (⟨4, ![1, 1, n, 1]⟩ : Shape).Idx ≃ Fin n where
  toFun w := w 2
  invFun c := ix4 0 0 c 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv _ := rfl

/-- A fold that adds is a sum. -/
theorem foldl_add {n : ℕ} (f : Fin n → EReal) (v : EReal) :
    (List.finRange n).foldl (fun r i => r + f i) v = v + ∑ i, f i := by
  rw [Fin.sum_univ_def]
  generalize List.finRange n = l
  induction l generalizing v with
  | nil => simp
  | cons a l ih => simp only [List.foldl_cons, List.map_cons, List.sum_cons, ih, add_assoc]

/-- The window of `n` that ends at `j`, over a sequence padded low by one less than `n`. -/
theorem sum_window (f : ℕ → EReal) (n m j : ℕ) (hm : m + 1 = n) (hj : j < n) :
    (∑ c ∈ Finset.range n, if m ≤ j + c then f (j + c - m) else 0) = ∑ p ∈ Finset.range (j + 1), f p := by
  rw [show n = (m - j) + (j + 1) by omega, Finset.sum_range_add, Finset.sum_eq_zero, zero_add]
  · refine Finset.sum_congr rfl fun p hp => ?_
    rw [if_pos (by omega)]
    congr 1
    omega
  · intro p hp
    have := Finset.mem_range.1 hp
    exact if_neg (by omega)

/-- A window of the whole length over the third axis, padded low by one less: the running sum over that axis. -/
theorem cumsum4 {B A n L m : ℕ} (hm : m + 1 = n) (x : FVec Ideal ⟨4, ![B, A, n, L]⟩ .f32) (init : FVec Ideal ⟨0, ![]⟩ .f32) (hinit : init ix0 = (0 : EReal))
    (h : (⟨4, ![B, A, n, L]⟩ : Shape).ReduceWindows ![1, 1, n, 1] ![1, 1, 1, 1] ![0, 0, m, 0] ![0, 0, 0, 0] ⟨4, ![B, A, n, L]⟩)
    (hu : 0 < (⟨0, ![]⟩ : Shape).numel) (f : ℕ → EReal)
    (b : Fin B) (a : Fin A) (j : Fin n) (l : Fin L) (hf : ∀ p : Fin n, x (ix4 b a p l) = f p.val) :
    (Host.reduceWindowAdd (F := Ideal) (φ := .f32) ![1, 1, n, 1] ![1, 1, 1, 1] ![0, 0, m, 0] ![0, 0, 0, 0] x init h hu (ix4 b a j l) : EReal)
      = ∑ p ∈ Finset.range (j.val + 1), f p := by
  have hv : init (Shape.Idx.first hu) = (0 : EReal) := (congrArg init (Subsingleton.elim _ _)).trans hinit
  have hj := j.isLt
  change Host.reduceWindow (· + ·) _ _ _ _ x (fun _ : (⟨0, ![]⟩ : Shape).Idx => init (Shape.Idx.first hu)) h hu (ix4 b a j l) = _
  unfold Host.reduceWindow
  simp only [hv]
  refine (foldl_add _ _).trans ?_
  rw [zero_add]
  refine (Fintype.sum_equiv ((Shape.rowMajor ⟨4, ![1, 1, n, 1]⟩).symm.trans (windowEquiv n)) _
    (fun c : Fin n => if m ≤ j.val + c.val then f (j.val + c.val - m) else 0) ?_).trans ?_
  · intro e
    let w : (⟨4, ![1, 1, n, 1]⟩ : Shape).Idx := (Shape.rowMajor ⟨4, ![1, 1, n, 1]⟩).symm e
    have hw0 : (w 0).val = 0 := congrArg Fin.val (Subsingleton.elim (α := Fin 1) (w 0) 0)
    have hw1 : (w 1).val = 0 := congrArg Fin.val (Subsingleton.elim (α := Fin 1) (w 1) 0)
    have hw3 : (w 3).val = 0 := congrArg Fin.val (Subsingleton.elim (α := Fin 1) (w 3) 0)
    have hw2 : (w 2).val < n := (w 2).isLt
    have hb := b.isLt
    have ha := a.isLt
    have hl := l.isLt
    change _ = if m ≤ j.val + (w 2).val then f (j.val + (w 2).val - m) else 0
    split
    · next hin =>
      have h2 : m ≤ j.val * 1 + (w 2).val ∧ j.val * 1 + (w 2).val - m < n := hin 2
      rw [if_pos (by omega), ← show (⟨j.val + (w 2).val - m, by omega⟩ : Fin n).val = j.val + (w 2).val - m from rfl, ← hf]
      refine congrArg x (funext fun q => Fin.ext ?_)
      match q with
      | ⟨0, _⟩ =>
        change b.val * 1 + (w 0).val - 0 = b.val
        omega
      | ⟨1, _⟩ =>
        change a.val * 1 + (w 1).val - 0 = a.val
        omega
      | ⟨2, _⟩ =>
        change j.val * 1 + (w 2).val - m = j.val + (w 2).val - m
        omega
      | ⟨3, _⟩ =>
        change l.val * 1 + (w 3).val - 0 = l.val
        omega
    · next hin =>
      rw [if_neg fun hle => hin fun q => by
        match q with
        | ⟨0, _⟩ =>
          change 0 ≤ b.val * 1 + (w 0).val ∧ b.val * 1 + (w 0).val - 0 < B
          omega
        | ⟨1, _⟩ =>
          change 0 ≤ a.val * 1 + (w 1).val ∧ a.val * 1 + (w 1).val - 0 < A
          omega
        | ⟨2, _⟩ =>
          change m ≤ j.val * 1 + (w 2).val ∧ j.val * 1 + (w 2).val - m < n
          omega
        | ⟨3, _⟩ =>
          change 0 ≤ l.val * 1 + (w 3).val ∧ l.val * 1 + (w 3).val - 0 < L
          omega]
  · exact (Fin.sum_univ_eq_sum_range (fun c => if m ≤ j.val + c then f (j.val + c - m) else 0) n).trans (sum_window f n m j.val hm hj)

end Cert.Sums
-- ==== Proof.GlaPure.lean ====
module

public import proofs.«01_k».proof.Proof.GlaBody
public import proofs.«01_k».proof.Proof.GlaReal
public import proofs.«01_k».proof.Proof.Sums

@[expose] public section

/-! # Gated linear attention: the body's values at an index -/

set_option maxRecDepth 16384

noncomputable section

namespace Cert.GlaIdeal.Hand

open Cert.GlaIdeal.Gen
open Idealize.ShloMosaic Idealize.ShloMosaic.TcCoe Idealize.ShloMosaic.Tactic Idealize.ShloMosaic.WordCmp
open Cert.GlaReal (lgt gn coe_sum)
open scoped BigOperators

/-- The log decay of a block at an index. -/
theorem decay_apply (sm : FVec Ideal S256x128 .f32) (w : FVec Ideal S128x256 .bf16) (b : FVec Ideal S1x256 .f32) (i d : Fin 256) :
    decayOf (gateOf sm w b) (ix2 i d) = (lgt ((∑ c : Fin 128, sm (ix2 i c) * w (ix2 c d)) + b (ix2 0 d)) : EReal) := by
  rw [← Cert.GlaReal.lgt_eq]
  unfold decayOf gateOf
  pointwise []
  rfl

/-- The test of the triangle, on the words that the body compares. -/
theorem mask_word (i s : ℕ) (hi : i < 256) (hs : s < 256) :
    IntOp.andi (IntOp.cmpi .eq (IntOp.shrsi .vector (BitVec.ofNat 32 i) 6#32) (IntOp.shrsi .vector (BitVec.ofNat 32 s) 6#32))
      (IntOp.cmpi .sle (BitVec.ofNat 32 s) (BitVec.ofNat 32 i)) = if i / 64 = s / 64 ∧ s ≤ i then 1#1 else 0#1 := by
  have hsh : ∀ n : ℕ, n < 256 → IntOp.shrsi .vector (BitVec.ofNat 32 n) 6#32 = BitVec.ofNat 32 (n / 64) := by
    decide +kernel
  rw [hsh i hi, hsh s hs, cmpi_eq_ofNat (by omega) (by omega), cmpi_sle_ofNat (by omega) (by omega)]
  by_cases h1 : i / 64 = s / 64 <;> by_cases h2 : s ≤ i <;> simp [h1, h2, IntOp.andi]

/-- The triangle of a block of four chunks: the entries of `i`'s chunk up to `i`. -/
theorem sum_tri (f : ℕ → ℝ) (i : ℕ) (hi : i < 256) :
    (∑ s : Fin 256, if i / 64 = s.val / 64 ∧ s.val ≤ i then f s.val else 0)
      = ∑ p ∈ Finset.range (i % 64 + 1), f (64 * (i / 64) + p) := by
  rw [Fin.sum_univ_eq_sum_range (fun s => if i / 64 = s / 64 ∧ s ≤ i then f s else 0) 256,
    show 256 = 64 * (i / 64) + ((i % 64 + 1) + (255 - i)) by omega, Finset.sum_range_add, Finset.sum_range_add,
    Finset.sum_eq_zero (s := Finset.range (64 * (i / 64))), zero_add,
    Finset.sum_eq_zero (s := Finset.range (255 - i)), add_zero]
  · refine Finset.sum_congr rfl fun p hp => if_pos ?_
    have := Finset.mem_range.1 hp
    omega
  · exact fun p hp => if_neg (by omega)
  · intro p hp
    have := Finset.mem_range.1 hp
    exact if_neg (by omega)

/-- The running sums of a block of real decays at an index: what is left of a real by itself is zero. -/
theorem cum_apply (a : FVec Ideal S256x256 .f32) (f : ℕ → ℝ) (i d : Fin 256) (ha : ∀ s : Fin 256, (a (ix2 s d) : EReal) = (f s.val : ℝ)) :
    cumOf a (ix2 i d) = ((∑ p ∈ Finset.range (i.val % 64 + 1), f (64 * (i.val / 64) + p) : ℝ) : EReal) := by
  rw [← sum_tri f i.val i.isLt, coe_sum]
  unfold cumOf
  pointwise [k0_pay1]
  have hm : ∀ s : Fin 256, _ := fun s => mask_word i.val s.val i.isLt s.isLt
  simp only [hm, ha]
  rw [← Finset.sum_add_distrib]
  refine Finset.sum_congr rfl fun s _ => ?_
  split
  · change (f s.val : EReal) + ((f s.val : EReal) - (f s.val : EReal)) = _
    rw [← EReal.coe_sub, ← EReal.coe_add]
    congr 1
    ring
  · exact (add_zero (0 : EReal)).trans EReal.coe_zero.symm

/-- A chunk's decay at each of its rows. -/
theorem last_apply (u : FVec Ideal S256x256 .f32) (i d : Fin 256) :
    lastOf u (ix2 i d) = (Ideal.exp (u (ix2 ⟨64 * (i.val / 64) + 63, by omega⟩ d)) : EReal) := by
  unfold lastOf
  pointwise []
  have hi := i.isLt
  refine Eq.trans ?_ (congrArg (fun r => Ideal.exp (u (ix2 r d))) (a₁ := ⟨if i.val < 64 then 63 else if i.val - 64 < 64 then 127 else if i.val - 64 - 64 < 64 then 191 else 255, by split <;> (try split) <;> (try split) <;> omega⟩) (Fin.ext ?_))
  · split
    · rfl
    · split
      · rfl
      · split <;> rfl
  · change (if i.val < 64 then 63 else if i.val - 64 < 64 then 127 else if i.val - 64 - 64 < 64 then 191 else 255) = 64 * (i.val / 64) + 63
    split
    · omega
    · split
      · omega
      · split <;> omega

/-- The decayed queries at an index. -/
theorem qe_apply (u : FVec Ideal S256x256 .f32) (q : FVec Ideal S256x256 .bf16) (i d : Fin 256) :
    qeOf u q (ix2 i d) = (q (ix2 i d) * (Ideal.exp (u (ix2 i d)) * Ideal.ofBits .f32 0x3D800000#32) : EReal) := by
  unfold qeOf
  pointwise []

/-- The keys at an index. -/
theorem ki_apply (u : FVec Ideal S256x256 .f32) (k : FVec Ideal S256x256 .bf16) (i d : Fin 256) :
    kiOf u k (ix2 i d) = (k (ix2 i d) * Ideal.exp (0 - u (ix2 i d)) : EReal) := by
  unfold kiOf kwOf
  pointwise []

/-- The decayed keys at an index. -/
theorem kd_apply (u : FVec Ideal S256x256 .f32) (k : FVec Ideal S256x256 .bf16) (i d : Fin 256) :
    kdOf u k (ix2 i d) = (k (ix2 i d) * Ideal.exp (0 - u (ix2 i d)) * lastOf u (ix2 i d) : EReal) := by
  unfold kdOf kwOf
  pointwise []

/-- A chunk's slab at an index. -/
theorem dl_apply (u : FVec Ideal S256x256 .f32) (j : ℕ) (hj : j < 4) (e : Fin 8) (d : Fin 256) :
    dlOf u j (ix3 0 e d) = (lastOf u (ix2 ⟨64 * j + e.val, by omega⟩ d) : EReal) := by
  match j, hj with
  | 0, _ => unfold dlOf; pointwise []
  | 1, _ => unfold dlOf; pointwise []
  | 2, _ => unfold dlOf; pointwise []
  | 3, _ => unfold dlOf; pointwise []

/-- The decay's row at an index. -/
theorem dRow_apply (x : FVec Ideal S1x8x256 .f32) (d : Fin 256) : dRow x (ix2 0 d) = (x (ix3 0 0 d) : EReal) := by
  unfold dRow
  pointwise []

/-- The scores within a chunk at an index. -/
theorem att_apply (q k : FVec Ideal S64x256 .bf16) (i s : Fin 64) :
    attOf q k (ix2 i s) = (if s.val ≤ i.val then ∑ d : Fin 256, q (ix2 i d) * k (ix2 s d) else 0 : EReal) := by
  unfold attOf
  pointwise [k0_pay5]
  have hi := i.isLt
  have hs := s.isLt
  rw [cmpi_sle_ofNat (by omega) (by omega)]
  by_cases h : s.val ≤ i.val
  · simp [h, Scalar.select]
  · simp [h, Scalar.select]

/-- The second chunk's scores at an index. -/
theorem att2_apply (q a b : FVec Ideal S64x256 .bf16) (i : Fin 64) (s : Fin 128) :
    att2Of q a b (ix2 i s) = (if h : s.val < 64 then ∑ d : Fin 256, q (ix2 i d) * a (ix2 ⟨s.val, h⟩ d)
      else if s.val - 64 ≤ i.val then ∑ d : Fin 256, q (ix2 i d) * b (ix2 ⟨s.val - 64, by omega⟩ d) else 0 : EReal) := by
  unfold att2Of
  pointwise [att_apply]

/-- The state after two chunks at an index. -/
theorem step_apply (da db : FVec Ideal S1x256 .f32) (a b : FVec Ideal S64x256 .bf16) (v : FVec Ideal S128x512 .bf16) (st : FVec Ideal S512x256 .f32)
    (j : Fin 512) (d : Fin 256) :
    stepOf da db a b v st (ix2 j d) = (st (ix2 j d) * (da (ix2 0 d) * db (ix2 0 d))
      + ∑ s : Fin 128, v (ix2 s j) * (if h : s.val < 64 then a (ix2 ⟨s.val, h⟩ d) * db (ix2 0 d) else b (ix2 ⟨s.val - 64, by omega⟩ d)) : EReal) := by
  unfold stepOf kd2Of decd
  pointwise []

/-- The first chunk's output at an index. -/
theorem oa_apply (da : FVec Ideal S1x256 .f32) (qa qb ki : FVec Ideal S64x256 .bf16) (v : FVec Ideal S128x512 .bf16) (st : FVec Ideal S512x256 .f32)
    (i : Fin 64) (j : Fin 512) :
    oaOf da qa qb ki v st (ix2 i j) = ((∑ d : Fin 256, qa (ix2 i d) * st (ix2 j d))
      + ∑ s : Fin 64, attOf qa ki (ix2 i s) * v (ix2 ⟨s.val, by omega⟩ j) : EReal) := by
  unfold oaOf o2Of q2Of decd
  pointwise []

/-- The second chunk's output at an index. -/
theorem ob_apply (da : FVec Ideal S1x256 .f32) (qa qb kd ki : FVec Ideal S64x256 .bf16) (v : FVec Ideal S128x512 .bf16) (st : FVec Ideal S512x256 .f32)
    (i : Fin 64) (j : Fin 512) :
    obOf da qa qb kd ki v st (ix2 i j) = ((∑ d : Fin 256, qb (ix2 i d) * da (ix2 0 d) * st (ix2 j d))
      + ∑ s : Fin 128, att2Of qb kd ki (ix2 i s) * v (ix2 s j) : EReal) := by
  unfold obOf o2Of q2Of decd
  pointwise []

/-- The gated norm at an index; the gate is not minus infinity. -/
theorem gn_apply (o : FVec Ideal S64x512 .f32) (nw : FVec Ideal S1x512 .f32) (g : FVec Ideal S64x512 .bf16) (i : Fin 64) (j : Fin 512)
    (hg : (g (ix2 i j) : EReal) ≠ ⊥) :
    gnOf o nw g (ix2 i j) = (gn (fun x => o (ix2 i x)) j (nw (ix2 0 j)) (g (ix2 i j)) : EReal) := by
  unfold gnOf
  pointwise []
  rw [Cert.Scalars.ofBits_half, Cert.Scalars.silu_eq _ hg]
  rfl

/-! ## The buffers of real blocks -/

section
variable {x0 x1 : FVec Ideal S2048x256 .bf16} {x2 x3 : FVec Ideal S2048x512 .bf16} {x4 : FVec Ideal S2048x128 .f32} {x5 : FVec Ideal S128x256 .bf16} {x6 : FVec Ideal S1x256 .f32} {x7 : FVec Ideal S1x512 .f32}
  {q k la : ℕ → Fin 256 → ℝ} {v : ℕ → Fin 512 → ℝ}
  (hq : ∀ (r : Fin 2048) (d : Fin 256), (x0 (ix2 r d) : EReal) = (q r.val d : ℝ))
  (hk : ∀ (r : Fin 2048) (d : Fin 256), (x1 (ix2 r d) : EReal) = (k r.val d : ℝ))
  (hv : ∀ (r : Fin 2048) (j : Fin 512), (x2 (ix2 r j) : EReal) = (v r.val j : ℝ))
  (hg : ∀ (r : Fin 2048) (j : Fin 512), (x3 (ix2 r j) : EReal) ≠ ⊥)
  (hl : ∀ (r : Fin 2048) (d : Fin 256), (lgt ((∑ c : Fin 128, x4 (ix2 r c) * x5 (ix2 c d)) + x6 (ix2 0 d)) : EReal) = (la r.val d : ℝ))

/-- A row of a buffer's stretch. -/
theorem rows_apply {n d : ℕ} {e : EltTy} (x : Vec Ideal ⟨2, ![2048, d]⟩ e) (o : ℕ) (i : Fin n) (c : Fin d) (h : o + i.val < 2048) :
    rows (n := n) x o (ix2 i c) = x (ix2 ⟨o + i.val, h⟩ c) :=
  congrArg (fun r => x (ix2 r c)) (Fin.ext (Nat.mod_eq_of_lt h))

include hl in
/-- The running sums of a block of rows. -/
theorem cumAt_real (n : ℕ) (hn : n < 8) (i d : Fin 256) : cumAt (F := Ideal) x4 x5 x6 n (ix2 i d) = ((Cert.GlaReal.ce la (256 * n + i.val) d : ℝ) : EReal) := by
  have hi := i.isLt
  unfold cumAt
  refine (cum_apply _ (fun s => la (256 * n + s) d) i d fun s => ?_).trans ?_
  · have hs := s.isLt
    rw [decay_apply, ← hl ⟨256 * n + s.val, by omega⟩ d]
    have e : ∀ c, rows (F := Ideal) (n := 256) (d := 128) (e := .f32) x4 (256 * n) (ix2 s c) = x4 (ix2 ⟨256 * n + s.val, by omega⟩ c) :=
      fun c => rows_apply _ _ _ _ _
    simp only [e]
  · refine congrArg (fun x : ℝ => (x : EReal)) ?_
    unfold Cert.GlaReal.ce
    rw [show 64 * ((256 * n + i.val) / 64) = 256 * n + 64 * (i.val / 64) by omega,
      show 256 * n + i.val + 1 = 256 * n + 64 * (i.val / 64) + (i.val % 64 + 1) by omega, ← Cert.GlaReal.P_sub]
    exact Finset.sum_congr rfl fun p _ => by rw [add_assoc]

include hq hl in
/-- The queries' buffer. -/
theorem QE_real (r : Fin 2048) (d : Fin 256) : QE (F := Ideal) x0 x4 x5 x6 (ix2 r d) = ((Cert.GlaReal.qe q la r.val d : ℝ) : EReal) := by
  have hr := r.isLt
  change qeOf (cumAt (F := Ideal) x4 x5 x6 (r.val / 256)) (rows (F := Ideal) (d := 256) (e := .bf16) x0 (256 * (r.val / 256))) (ix2 ⟨r.val % 256, _⟩ d) = _
  rw [qe_apply, cumAt_real hl _ (by omega), rows_apply, hq, Cert.GlaReal.ofBits_sixteenth]
  on_goal 1 => simp only [show 256 * (r.val / 256) + r.val % 256 = r.val by omega]
  · rw [Ideal.exp_coe, ← EReal.coe_mul, ← EReal.coe_mul]
    rfl
  · simp only; omega

include hk hl in
/-- The keys' buffer. -/
theorem KI_real (r : Fin 2048) (d : Fin 256) : KI (F := Ideal) x1 x4 x5 x6 (ix2 r d) = ((Cert.GlaReal.ki k la r.val d : ℝ) : EReal) := by
  have hr := r.isLt
  change kiOf (cumAt (F := Ideal) x4 x5 x6 (r.val / 256)) (rows (F := Ideal) (d := 256) (e := .bf16) x1 (256 * (r.val / 256))) (ix2 ⟨r.val % 256, _⟩ d) = _
  rw [ki_apply, cumAt_real hl _ (by omega), rows_apply, hk]
  · simp only [show 256 * (r.val / 256) + r.val % 256 = r.val by omega]
    rw [zero_sub, ← EReal.coe_neg, Ideal.exp_coe, ← EReal.coe_mul]
    rfl
  · simp only; omega

include hl in
/-- A chunk's decay at its rows. -/
theorem last_real (n : ℕ) (hn : n < 8) (i d : Fin 256) :
    lastOf (F := Ideal) (cumAt (F := Ideal) x4 x5 x6 n) (ix2 i d) = ((Cert.GlaReal.dl la (4 * n + i.val / 64) d : ℝ) : EReal) := by
  have hi := i.isLt
  rw [last_apply, cumAt_real hl n hn, Ideal.exp_coe]
  unfold Cert.GlaReal.dl Cert.GlaReal.ce
  simp only
  rw [show 64 * ((256 * n + (64 * (i.val / 64) + 63)) / 64) = 64 * (4 * n + i.val / 64) by omega,
    show 256 * n + (64 * (i.val / 64) + 63) + 1 = 64 * (4 * n + i.val / 64) + 64 by omega]

include hk hl in
/-- The decayed keys' buffer. -/
theorem KD_real (r : Fin 2048) (d : Fin 256) : KD (F := Ideal) x1 x4 x5 x6 (ix2 r d) = ((Cert.GlaReal.kd k la r.val d : ℝ) : EReal) := by
  have hr := r.isLt
  change kdOf (cumAt (F := Ideal) x4 x5 x6 (r.val / 256)) (rows (F := Ideal) (d := 256) (e := .bf16) x1 (256 * (r.val / 256))) (ix2 ⟨r.val % 256, _⟩ d) = _
  rw [kd_apply, last_real hl _ (by omega), cumAt_real hl _ (by omega), rows_apply, hk]
  · simp only [show 256 * (r.val / 256) + r.val % 256 = r.val by omega, show 4 * (r.val / 256) + r.val % 256 / 64 = r.val / 64 by omega]
    rw [zero_sub, ← EReal.coe_neg, Ideal.exp_coe, ← EReal.coe_mul, ← EReal.coe_mul]
    rfl
  · simp only; omega

include hl in
/-- The chunks' decays. -/
theorem DL_real (c : Fin 32) (e : Fin 8) (d : Fin 256) : DL (F := Ideal) x4 x5 x6 (ix3 c e d) = ((Cert.GlaReal.dl la c.val d : ℝ) : EReal) := by
  have hc := c.isLt
  have he := e.isLt
  change dlOf (cumAt (F := Ideal) x4 x5 x6 (c.val / 4)) (c.val % 4) (ix3 0 e d) = _
  rw [dl_apply _ _ (by omega), last_real hl _ (by omega)]
  simp only [show 4 * (c.val / 4) + (64 * (c.val % 4) + e.val) / 64 = c.val by omega]

include hl in
/-- A chunk's decay, as the body reads it. -/
theorem dRow_real (c : ℕ) (hc : c < 32) (d : Fin 256) : dRow (F := Ideal) (slab (DL (F := Ideal) x4 x5 x6) c) (ix2 0 d) = ((Cert.GlaReal.dl la c d : ℝ) : EReal) := by
  rw [dRow_apply]
  change DL (F := Ideal) x4 x5 x6 (ix3 ⟨c % 32, _⟩ 0 d) = _
  rw [DL_real hl]
  simp only [Nat.mod_eq_of_lt hc]

include hk hv hl in
/-- The state before a pair of chunks. -/
theorem stAt_real (n : ℕ) (hn : n ≤ 16) (j : Fin 512) (d : Fin 256) :
    stAt (F := Ideal) (KD (F := Ideal) x1 x4 x5 x6) (DL (F := Ideal) x4 x5 x6) x2 n (ix2 j d) = ((Cert.GlaReal.St k la v n j d : ℝ) : EReal) := by
  induction n generalizing j d with
  | zero =>
    unfold stAt Cert.GlaReal.St
    pointwise [k0_pay4]
    simp
  | succ n ih =>
    unfold stAt
    rw [step_apply, ih (by omega), dRow_real hl _ (by omega), dRow_real hl _ (by omega), ← Cert.GlaReal.St_step, EReal.coe_add, coe_sum,
      ← EReal.coe_mul, ← EReal.coe_mul]
    refine congrArg _ (Finset.sum_congr rfl fun s _ => ?_)
    have hs := s.isLt
    rw [rows_apply (d := 512) (e := .bf16) x2, hv, EReal.coe_mul]
    on_goal 2 => omega
    refine congrArg _ ?_
    split
    · rw [rows_apply, KD_real hk hl, ← EReal.coe_mul]
      simp only; omega
    · rw [rows_apply, KD_real hk hl]
      · simp only [show 128 * n + 64 + (s.val - 64) = 128 * n + s.val by omega]
      · simp only; omega

include hq hk hv hl in
/-- The first chunk's output of a pair. -/
theorem oa_real (n : ℕ) (hn : n < 16) (i : Fin 64) (j : Fin 512) :
    oaOf (F := Ideal) (dRow (slab (DL (F := Ideal) x4 x5 x6) (2 * n))) (rows (QE (F := Ideal) x0 x4 x5 x6) (128 * n)) (rows (QE (F := Ideal) x0 x4 x5 x6) (128 * n + 64)) (rows (KI (F := Ideal) x1 x4 x5 x6) (128 * n))
        (rows (F := Ideal) (d := 512) (e := .bf16) x2 (128 * n)) (stAt (F := Ideal) (KD (F := Ideal) x1 x4 x5 x6) (DL (F := Ideal) x4 x5 x6) x2 n) (ix2 i j)
      = ((Cert.GlaReal.O q k la v (128 * n + i.val) j : ℝ) : EReal) := by
  have hi := i.isLt
  rw [oa_apply, ← Cert.GlaReal.out_a q k la v n i.val hi, EReal.coe_add, coe_sum, coe_sum]
  refine congrArg₂ _ (Finset.sum_congr rfl fun d _ => ?_) (Finset.sum_congr rfl fun s _ => ?_)
  · rw [rows_apply, QE_real hq hl, stAt_real hk hv hl _ (by omega), ← EReal.coe_mul]
    omega
  · have hs := s.isLt
    rw [att_apply, rows_apply (d := 512) (e := .bf16) x2, hv, EReal.coe_mul]
    on_goal 2 => (try simp only); omega
    refine congrArg₂ _ ?_ rfl
    split
    · rw [coe_sum]
      refine Finset.sum_congr rfl fun d _ => ?_
      rw [rows_apply, rows_apply, QE_real hq hl, KI_real hk hl, ← EReal.coe_mul]
      all_goals (try simp only); omega
    · exact EReal.coe_zero.symm

include hq hk hv hl in
/-- The second chunk's output of a pair. -/
theorem ob_real (n : ℕ) (hn : n < 16) (i : Fin 64) (j : Fin 512) :
    obOf (F := Ideal) (dRow (slab (DL (F := Ideal) x4 x5 x6) (2 * n))) (rows (QE (F := Ideal) x0 x4 x5 x6) (128 * n)) (rows (QE (F := Ideal) x0 x4 x5 x6) (128 * n + 64)) (rows (KD (F := Ideal) x1 x4 x5 x6) (128 * n))
        (rows (KI (F := Ideal) x1 x4 x5 x6) (128 * n + 64)) (rows (F := Ideal) (d := 512) (e := .bf16) x2 (128 * n)) (stAt (F := Ideal) (KD (F := Ideal) x1 x4 x5 x6) (DL (F := Ideal) x4 x5 x6) x2 n) (ix2 i j)
      = ((Cert.GlaReal.O q k la v (128 * n + 64 + i.val) j : ℝ) : EReal) := by
  have hi := i.isLt
  rw [ob_apply, ← Cert.GlaReal.out_b q k la v n i.val hi, EReal.coe_add, coe_sum, coe_sum]
  refine congrArg₂ _ (Finset.sum_congr rfl fun d _ => ?_) (Finset.sum_congr rfl fun s _ => ?_)
  · rw [rows_apply, QE_real hq hl, stAt_real hk hv hl _ (by omega), dRow_real hl _ (by omega), ← EReal.coe_mul, ← EReal.coe_mul]
    omega
  · have hs := s.isLt
    rw [att2_apply, rows_apply (d := 512) (e := .bf16) x2, hv, EReal.coe_mul]
    on_goal 2 => (try simp only); omega
    refine congrArg₂ _ ?_ rfl
    split
    · rw [coe_sum]
      refine Finset.sum_congr rfl fun d _ => ?_
      rw [rows_apply, rows_apply, QE_real hq hl, KD_real hk hl, ← EReal.coe_mul]
      all_goals (try simp only); omega
    · split
      · rw [coe_sum]
        refine Finset.sum_congr rfl fun d _ => ?_
        rw [rows_apply, rows_apply, QE_real hq hl, KI_real hk hl, ← EReal.coe_mul]
        · simp only [show 128 * n + 64 + (s.val - 64) = 128 * n + s.val by omega]
        all_goals (try simp only); omega
      · exact EReal.coe_zero.symm

include hq hk hv hg hl in
/-- The output block. -/
theorem YY_real (r : Fin 2048) (j : Fin 512) :
    YY (F := Ideal) (QE (F := Ideal) x0 x4 x5 x6) (KI (F := Ideal) x1 x4 x5 x6) (KD (F := Ideal) x1 x4 x5 x6) (DL (F := Ideal) x4 x5 x6) x2 x3 x7 (ix2 r j)
      = (gn (fun x => ((Cert.GlaReal.O q k la v r.val x : ℝ) : EReal)) j (x7 (ix2 0 j)) (x3 (ix2 r j)) : EReal) := by
  have hr := r.isLt
  change (if r.val % 128 < 64 then yaAt _ _ _ _ _ _ _ (r.val / 128) (ix2 ⟨r.val % 64, _⟩ j) else ybAt _ _ _ _ _ _ _ (r.val / 128) (ix2 ⟨r.val % 64, _⟩ j)) = _
  split
  · unfold yaAt
    have e : 128 * (r.val / 128) + r.val % 64 = r.val := by omega
    have eg : rows (F := Ideal) (n := 64) (d := 512) (e := .bf16) x3 (128 * (r.val / 128)) (ix2 (⟨r.val % 64, by omega⟩ : Fin 64) j) = (x3 (ix2 r j) : EReal) := by
      exact (rows_apply (d := 512) (e := .bf16) x3 _ _ _ (by (try simp only); omega)).trans (congrArg (fun r => x3 (ix2 r j)) (Fin.ext e))
    rw [gn_apply _ _ _ _ _ (by rw [eg]; exact hg r j), eg]
    refine congrArg (fun o => gn o j _ _) (funext fun x => ?_)
    rw [oa_real hq hk hv hl _ (by omega)]
    simp only [e]
  · unfold ybAt
    have e : 128 * (r.val / 128) + 64 + r.val % 64 = r.val := by omega
    have eg : rows (F := Ideal) (d := 512) (e := .bf16) x3 (128 * (r.val / 128) + 64) (ix2 (⟨r.val % 64, by omega⟩ : Fin 64) j) = (x3 (ix2 r j) : EReal) := by
      exact (rows_apply (d := 512) (e := .bf16) x3 _ _ _ (by (try simp only); omega)).trans (congrArg (fun r => x3 (ix2 r j)) (Fin.ext e))
    rw [gn_apply _ _ _ _ _ (by rw [eg]; exact hg r j), eg]
    refine congrArg (fun o => gn o j _ _) (funext fun x => ?_)
    rw [ob_real hq hk hv hl _ (by omega)]
    simp only [e]

end

end Cert.GlaIdeal.Hand
-- ==== Proof.GlaRef.lean ====
module

public import proofs.«01_k».proof.Proof.Gen.GlaRefIdeal.Run
public import proofs.«01_k».proof.Proof.Sums
public import proofs.«01_k».proof.Proof.GlaReal

@[expose] public section

/-! # The reference of the gated linear attention, read at an index -/

set_option maxRecDepth 16384

noncomputable section

namespace Cert.GlaRefIdeal.Hand

open Cert.GlaRefIdeal Cert.GlaRefIdeal.Gen
open Idealize.ShloMosaic Idealize.ShloMosaic.TcCoe Idealize.ShloMosaic.StableHlo
open Idealize.ShloMosaic.WordCmp
open Cert.GlaReal
open scoped BigOperators

section
variable (U : FVec Ideal S16384x18432 .bf16) (SM : FVec Ideal S16384x128 .f32) (W : FVec Ideal S16x1024 .f32) (B : FVec Ideal S1024 .f32) (NW : FVec Ideal S512 .f32)

/-- The gate before its nonlinearity. -/
def REFz : FVec Ideal S16384x1024 .f32 :=
  (addf (Host.dotGeneral dot_S16384x16_S16x1024_S16384x1024_1_0_0_1_n_n none (extractStridedSlice S16384x16 ![0, 0] SM slices_S16384x128_S16384x16_0_0) W) (broadcastInDim S16384x1024 ![0, 1] bcast_S1x1024_S16384x1024_0_1 (broadcastInDim S1x1024 ![1] bcast_S1024_S1x1024_1 B)))

/-- The log decay. -/
def REFl : FVec Ideal S16384x1024 .f32 :=
  (Host.divf (Host.negf (select (cmpf .une (subf (Host.negf (REFz SM W B)) (broadcastInDim S16384x1024 ![] bcast_S_S16384x1024 (constant S_ .f32 0x00000000#32))) (subf (Host.negf (REFz SM W B)) (broadcastInDim S16384x1024 ![] bcast_S_S16384x1024 (constant S_ .f32 0x00000000#32)))) (addf (Host.negf (REFz SM W B)) (broadcastInDim S16384x1024 ![] bcast_S_S16384x1024 (constant S_ .f32 0x00000000#32))) (addf (maximumf (Host.negf (REFz SM W B)) (broadcastInDim S16384x1024 ![] bcast_S_S16384x1024 (constant S_ .f32 0x00000000#32))) (Host.log1p (Host.exp (Host.negf (Host.absf (subf (Host.negf (REFz SM W B)) (broadcastInDim S16384x1024 ![] bcast_S_S16384x1024 (constant S_ .f32 0x00000000#32)))))))))) (broadcastInDim S16384x1024 ![] bcast_S_S16384x1024 (constant S_ .f32 0x41800000#32)))

/-- Its running sums along the sequence, head by head. -/
def REFc : FVec Ideal S8x4x2048x256 .f32 :=
  (Host.reduceWindowAdd ![1, 1, 2048, 1] ![1, 1, 1, 1] ![0, 0, 2047, 0] ![0, 0, 0, 0] (transpose S8x4x2048x256 [0, 2, 1, 3] (shapeCast _ (REFl SM W B) shapeCasts_S16384x1024_S8x2048x4x256) transposes_S8x2048x4x256_S8x4x2048x256_0_2_1_3) (broadcastInDim S_ ![] bcast_S_S_ (constant S_ .f32 0x00000000#32)) reduceWindows_S8x4x2048x256_S8x4x2048x256_w1s1p0_0_w1s1p0_0_w2048s1p2047_0_w1s1p0_0 h_S_)

/-- The scores of the rows against the rows up to them. -/
def REFa : FVec Ideal S8x4x2048x2048 .f32 :=
  (Host.reduceAdd (mulf (mulf (broadcastInDim S8x4x2048x2048x256 ![0, 1, 2, 3, 4] bcast_S8x4x2048x1x256_S8x4x2048x2048x256_0_1_2_3_4 (broadcastInDim S8x4x2048x1x256 ![0, 1, 2, 4] bcast_S8x4x2048x256_S8x4x2048x1x256_0_1_2_4 (mulf (transpose S8x4x2048x256 [0, 2, 1, 3] (shapeCast _ (extractStridedSlice S16384x1024 ![0, 0] (extf .f32 (extractStridedSlice S16384x6144 ![0, 0] U slices_S16384x18432_S16384x6144_0_0) bitsLt_bf16_f32) slices_S16384x6144_S16384x1024_0_0) shapeCasts_S16384x1024_S8x2048x4x256) transposes_S8x2048x4x256_S8x4x2048x256_0_2_1_3) (broadcastInDim S8x4x2048x256 ![] bcast_S_S8x4x2048x256 (constant S_ .f32 0x3D800000#32))))) (broadcastInDim S8x4x2048x2048x256 ![0, 1, 2, 3, 4] bcast_S8x4x1x2048x256_S8x4x2048x2048x256_0_1_2_3_4 (broadcastInDim S8x4x1x2048x256 ![0, 1, 3, 4] bcast_S8x4x2048x256_S8x4x1x2048x256_0_1_3_4 (transpose S8x4x2048x256 [0, 2, 1, 3] (shapeCast _ (extractStridedSlice S16384x1024 ![0, 1024] (extf .f32 (extractStridedSlice S16384x6144 ![0, 0] U slices_S16384x18432_S16384x6144_0_0) bitsLt_bf16_f32) slices_S16384x6144_S16384x1024_0_1024) shapeCasts_S16384x1024_S8x2048x4x256) transposes_S8x2048x4x256_S8x4x2048x256_0_2_1_3)))) (Host.exp (select (broadcastInDim S8x4x2048x2048x256 ![2, 3, 4] bcast_S2048x2048x1_S8x4x2048x2048x256_2_3_4 (broadcastInDim S2048x2048x1 ![0, 1] bcast_S2048x2048_S2048x2048x1_0_1 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))) (subf (broadcastInDim S8x4x2048x2048x256 ![0, 1, 2, 3, 4] bcast_S8x4x2048x1x256_S8x4x2048x2048x256_0_1_2_3_4 (broadcastInDim S8x4x2048x1x256 ![0, 1, 2, 4] bcast_S8x4x2048x256_S8x4x2048x1x256_0_1_2_4 (REFc SM W B))) (broadcastInDim S8x4x2048x2048x256 ![0, 1, 2, 3, 4] bcast_S8x4x1x2048x256_S8x4x2048x2048x256_0_1_2_3_4 (broadcastInDim S8x4x1x2048x256 ![0, 1, 3, 4] bcast_S8x4x2048x256_S8x4x1x2048x256_0_1_3_4 (REFc SM W B)))) (broadcastInDim S8x4x2048x2048x256 ![] bcast_S_S8x4x2048x2048x256 (id (constant S_ .f32 0xFF800000#32)))))) (constant S_ .f32 0x00000000#32) reducesTo_S8x4x2048x2048x256_S8x4x2048x2048_d4 h_S_)

/-- The outputs before the norm. -/
def REFo : FVec Ideal S8x2048x4x512 .f32 :=
  (transpose S8x2048x4x512 [0, 2, 1, 3] (Host.dotGeneral dot_S8x4x2048x2048_S8x4x2048x512_S8x4x2048x512_3_2_2_3_01_01 none (REFa U SM W B) (transpose S8x4x2048x512 [0, 2, 1, 3] (shapeCast _ (extractStridedSlice S16384x2048 ![0, 2048] (extf .f32 (extractStridedSlice S16384x6144 ![0, 0] U slices_S16384x18432_S16384x6144_0_0) bitsLt_bf16_f32) slices_S16384x6144_S16384x2048_0_2048) shapeCasts_S16384x2048_S8x2048x4x512) transposes_S8x2048x4x512_S8x4x2048x512_0_2_1_3)) transposes_S8x4x2048x512_S8x2048x4x512_0_2_1_3)

/-- The result. -/
def REF : FVec Ideal S16384x2048 .bf16 :=
  truncf .bf16 (shapeCast _ (mulf (mulf (mulf (REFo U SM W B) (broadcastInDim S8x2048x4x512 ![0, 1, 2, 3] bcast_S8x2048x4x1_S8x2048x4x512_0_1_2_3 (Host.rsqrt (addf (Host.divf (broadcastInDim S8x2048x4x1 ![0, 1, 2] bcast_S8x2048x4_S8x2048x4x1_0_1_2 (Host.reduceAdd (mulf (REFo U SM W B) (REFo U SM W B)) (constant S_ .f32 0x00000000#32) reducesTo_S8x2048x4x512_S8x2048x4_d3 h_S_)) (broadcastInDim S8x2048x4x1 ![] bcast_S_S8x2048x4x1 (constant S_ .f32 0x44000000#32))) (broadcastInDim S8x2048x4x1 ![] bcast_S_S8x2048x4x1 (constant S_ .f32 0x358637BD#32)))))) (broadcastInDim S8x2048x4x512 ![0, 1, 2, 3] bcast_S1x1x1x512_S8x2048x4x512_0_1_2_3 (broadcastInDim S1x1x1x512 ![3] bcast_S512_S1x1x1x512_3 NW))) (shapeCast _ (mulf (extractStridedSlice S16384x2048 ![0, 4096] (extf .f32 (extractStridedSlice S16384x6144 ![0, 0] U slices_S16384x18432_S16384x6144_0_0) bitsLt_bf16_f32) slices_S16384x6144_S16384x2048_0_4096) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 4096] (extf .f32 (extractStridedSlice S16384x6144 ![0, 0] U slices_S16384x18432_S16384x6144_0_0) bitsLt_bf16_f32) slices_S16384x6144_S16384x2048_0_4096)))))) shapeCasts_S16384x2048_S8x2048x4x512)) shapeCasts_S8x2048x4x512_S16384x2048) bitsLt_bf16_f32

end

section
variable (U : FVec Ideal S16384x18432 .bf16) (SM : FVec Ideal S16384x128 .f32) (W : FVec Ideal S16x1024 .f32) (B : FVec Ideal S1024 .f32) (NW : FVec Ideal S512 .f32)

/-- The gate before its nonlinearity, at row `R` and column `n`. -/
def zAt (R : Fin 16384) (n : Fin 1024) : EReal := (∑ k : Fin 16, SM (ix2 R ⟨k.val, by omega⟩) * W (ix2 k n)) + B (ix1 n)

/-- The log decay at an index. -/
theorem REFl_apply (R : Fin 16384) (n : Fin 1024) :
    REFl SM W B (ix2 R n) = (lgt (zAt SM W B R n) : EReal) := by
  pointwise [REFl, REFz]
  unfold lgt logSig zAt
  simp only [ne_eq, not_true_eq_false, if_false]
  rfl

/-- The log decay of row `p` of sequence `b` in lane `d` of head `h`. -/
def lAt (b : Fin 8) (h : Fin 4) (d : Fin 256) (p : ℕ) : EReal :=
  lgt (zAt SM W B ⟨(b.val * 2048 + p) % 16384, by omega⟩ ⟨h.val * 256 + d.val, by omega⟩)

/-- Its running sums at an index. -/
theorem REFc_apply (b : Fin 8) (h : Fin 4) (t : Fin 2048) (d : Fin 256) :
    REFc SM W B (ix4 b h t d) = (∑ p ∈ Finset.range (t.val + 1), lAt SM W B b h d p : EReal) := by
  unfold REFc
  refine Cert.Sums.cumsum4 rfl _ _ ?_ _ _ (lAt SM W B b h d) _ _ _ _ fun p => ?_
  · pointwise []
  · pointwise []
    rw [REFl_apply]
    unfold lAt
    have hp := p.isLt
    have hb := b.isLt
    exact congrArg (fun R => lgt (zAt SM W B R _)) (Fin.ext (Nat.mod_eq_of_lt (by omega)).symm)

section
variable {U SM W B} {b : Fin 8} {h : Fin 4} {q k la : ℕ → Fin 256 → ℝ} {v : ℕ → Fin 512 → ℝ}
  (hq : ∀ (r : Fin 2048) (d : Fin 256) (R : Fin 16384) (n : Fin 18432), R.val = b.val * 2048 + r.val → n.val = h.val * 256 + d.val → (U (ix2 R n) : EReal) = (q r.val d : ℝ))
  (hk : ∀ (r : Fin 2048) (d : Fin 256) (R : Fin 16384) (n : Fin 18432), R.val = b.val * 2048 + r.val → n.val = 1024 + (h.val * 256 + d.val) → (U (ix2 R n) : EReal) = (k r.val d : ℝ))
  (hv : ∀ (r : Fin 2048) (j : Fin 512) (R : Fin 16384) (n : Fin 18432), R.val = b.val * 2048 + r.val → n.val = 2048 + (h.val * 512 + j.val) → (U (ix2 R n) : EReal) = (v r.val j : ℝ))
  (hl : ∀ (p : ℕ) (d : Fin 256), p < 2048 → lAt SM W B b h d p = (la p d : ℝ))

include hl in
/-- The running sums of real decays. -/
theorem REFc_real (t : Fin 2048) (d : Fin 256) : REFc SM W B (ix4 b h t d) = ((P la (t.val + 1) d : ℝ) : EReal) := by
  have ht := t.isLt
  rw [REFc_apply]
  unfold P
  rw [coe_sum]
  exact Finset.sum_congr rfl fun p hp => hl p d (by have := Finset.mem_range.1 hp; omega)

include hq hk hl in
/-- The scores of real rows. -/
theorem REFa_real (t s : Fin 2048) :
    REFa U SM W B (ix4 b h t s) = ((if s.val ≤ t.val then ∑ d, q t.val d * (1 / 16) * k s.val d * Real.exp (P la (t.val + 1) d - P la (s.val + 1) d) else 0 : ℝ) : EReal) := by
  have ht := t.isLt
  have hs := s.isLt
  pointwise [REFa]
  simp only [REFc_real hl, ofBits_sixteenth, fun d => hq t d ⟨b.val * 2048 + t.val, by omega⟩ ⟨h.val * 256 + d.val, by omega⟩ rfl rfl,
    fun d => hk s d ⟨b.val * 2048 + s.val, by omega⟩ ⟨1024 + (h.val * 256 + d.val), by omega⟩ rfl rfl]
  have e0 : IntOp.addi (BitVec.ofNat 32 t.val) 0#32 = BitVec.ofNat 32 t.val := by simp [IntOp.addi]
  have e1 : IntOp.cmpi .sge (BitVec.ofNat 32 t.val) (BitVec.ofNat 32 s.val) = if s.val ≤ t.val then 1#1 else 0#1 := by
    rw [cmpi_sge_ofNat (by omega) (by omega)]
    by_cases h : s.val ≤ t.val <;> simp [h]
  rw [e0, e1]
  split
  · rw [coe_sum]
    refine Finset.sum_congr rfl fun d _ => ?_
    change _ * Ideal.exp (((P la (t.val + 1) d : ℝ) : EReal) - ((P la (s.val + 1) d : ℝ) : EReal)) = _
    rw [← EReal.coe_sub, Ideal.exp_coe, ← EReal.coe_mul, ← EReal.coe_mul, ← EReal.coe_mul]
  · refine (Finset.sum_eq_zero fun d _ => ?_).trans EReal.coe_zero.symm
    change _ * Ideal.exp (Ideal.ofBits .f32 0xFF800000#32) = _
    rw [ofBits_bot, Ideal.exp_bot, mul_zero]

include hq hk hv hl in
/-- The outputs of real rows. -/
theorem REFo_real (t : Fin 2048) (j : Fin 512) :
    REFo U SM W B (ix4 b t h j) = ((O q k la v t.val j : ℝ) : EReal) := by
  have ht := t.isLt
  pointwise [REFo]
  simp only [REFa_real hq hk hl, fun s : Fin 2048 => hv s j ⟨b.val * 2048 + s.val, by omega⟩ ⟨2048 + (h.val * 512 + j.val), by omega⟩ rfl rfl]
  unfold O
  rw [← sum_cut (fun s => GlaReal.T q k la v t.val j s) t.val 2048 ht, coe_sum]
  refine Finset.sum_congr rfl fun s _ => ?_
  rw [← EReal.coe_mul]
  congr 1
  unfold GlaReal.T
  split
  · rfl
  · exact zero_mul _

end

/-- The result at an index. -/
theorem REF_apply (R : Fin 16384) (n : Fin 2048) :
    REF U SM W B NW (ix2 R n) =
      (gn (fun j => REFo U SM W B (ix4 ⟨R.val / 2048, by omega⟩ ⟨R.val % 2048, by omega⟩ ⟨n.val / 512, by omega⟩ j)) ⟨n.val % 512, by omega⟩
        (NW (ix1 ⟨n.val % 512, by omega⟩)) (U (ix2 R ⟨4096 + n.val, by omega⟩)) : EReal) := by
  pointwise [REF]
  rfl

end

end Cert.GlaRefIdeal.Hand
-- ==== Proof.GlaValue.lean ====
module

public import proofs.«01_k».proof.Defs
public import proofs.«01_k».proof.Proof.GlaFrame
public import proofs.«01_k».proof.Proof.GlaPure
public import proofs.«01_k».proof.Proof.GlaRef
public import Idealize.ShloMosaic.Lib.Claim
public import Idealize.ShloMosaic.Lib.ReduceAll

@[expose] public section

/-! # Gated linear attention against its reference

A grid point computes one head of one sequence. The arguments are finite, so queries, keys, values and log decays are real
numbers, and the sums over chunks with a carried state are the sums over all earlier rows. -/

set_option maxRecDepth 16384

noncomputable section

/-- The side conditions that the precondition's operations take. -/
instance Cert.Pre_finite.holds : Cert.Pre_finite.Facts where
  slices_S16384x18432_S16384x6144_0_0 := by decide
  bitsLt_bf16_f32 := by decide
  bcast_S_S16384x6144 := by decide
  reducesTo_S16384x6144_S_d0_1 := by decide
  h_S_ := by decide
  slices_S16384x128_S16384x16_0_0 := by decide
  bcast_S_S16384x16 := by decide
  reducesTo_S16384x16_S_d0_1 := by decide
  bcast_S_S16x1024 := by decide
  reducesTo_S16x1024_S_d0_1 := by decide
  bcast_S_S1024 := by decide
  reducesTo_S1024_S_d0 := by decide

namespace Cert.GlaIdeal.Hand

open Cert.GlaIdeal Cert.GlaIdeal.Gen
open Idealize.ShloMosaic Idealize.ShloMosaic.TcCoe Idealize.ShloMosaic.Tactic Idealize.SL.Sem
open Cert.GlaReal (lgt gn coe_sum lgt_real)
open Cert.GlaRefIdeal.Hand (REF REFo REF_apply REFo_real zAt lAt)
open scoped BigOperators

/-- A value whose magnitude is below infinity is a real number. -/
theorem real_of_abs (x : EReal) (h : FloatOps.cmpf (F := Ideal) (φ := .f32) .olt (FloatOps.absf (F := Ideal) (φ := .f32) x) (Ideal.ofBits .f32 0x7F800000#32) = 1#1) :
    x = (x.toReal : ℝ) := by
  refine (EReal.coe_toReal ?_ ?_).symm
  · rintro rfl
    simp [FloatOps.cmpf, FloatOps.absf, Ideal.cmp, Ideal.ofBits, Ideal.ieee] at h
  · rintro rfl
    simp [FloatOps.cmpf, FloatOps.absf, Ideal.cmp, Ideal.ofBits, Ideal.ieee] at h

/-- Both sides of a true conjunction are true. -/
theorem and_true : ∀ a b : BitVec 1, IntOp.andi a b = 1#1 → a = 1#1 ∧ b = 1#1 := by decide

variable (m : (ℓ : Loc nD τ sig) → Buf (Elt Ideal) ℓ) (c : Dev nD)

/-- The kernel's arguments, at their shapes. -/
abbrev aU : FVec Ideal S16384x18432 .bf16 := m ((c.tc : Thread nD τ).loc main_arg0)
abbrev aSM : FVec Ideal S16384x128 .f32 := m ((c.tc : Thread nD τ).loc main_arg1)
abbrev aW : FVec Ideal S16x1024 .f32 := m ((c.tc : Thread nD τ).loc main_arg2)
abbrev aB : FVec Ideal S1024 .f32 := m ((c.tc : Thread nD τ).loc main_arg3)
abbrev aNW : FVec Ideal S512 .f32 := m ((c.tc : Thread nD τ).loc main_arg4)

/-- The precondition: the entries of `u` and `small` that the call reads, and those of `w_gk2` and `b_gk2`, are real numbers. -/
theorem reals (h : Cert.Pre_GlaIdeal_finite m) :
    (∀ (R : Fin 16384) (n : Fin 18432), n.val < 6144 → (aU m c (ix2 R n) : EReal) = ((aU m c (ix2 R n) : EReal).toReal : ℝ))
    ∧ (∀ (R : Fin 16384) (n : Fin 128), n.val < 16 → (aSM m c (ix2 R n) : EReal) = ((aSM m c (ix2 R n) : EReal).toReal : ℝ))
    ∧ (∀ R n, (aW m c (ix2 R n) : EReal) = ((aW m c (ix2 R n) : EReal).toReal : ℝ))
    ∧ (∀ n, (aB m c (ix1 n) : EReal) = ((aB m c (ix1 n) : EReal).toReal : ℝ)) := by
  haveI : Subsingleton Cert.Pre_finite.S_.Idx := ⟨fun _ _ => funext fun a => a.elim0⟩
  have e := congrFun (h c) (fun a => a.elim0)
  obtain ⟨e, e3⟩ := and_true _ _ e
  obtain ⟨e, e2⟩ := and_true _ _ e
  obtain ⟨e0, e1⟩ := and_true _ _ e
  refine ⟨fun R n hn => ?_, fun R n hn => ?_, fun R n => real_of_abs _ ?_, fun n => real_of_abs _ ?_⟩
  · have hs : extractStridedSlice Cert.Pre_finite.S16384x6144 ![0, 0] (aU m c) Cert.Pre_finite.Facts.slices_S16384x18432_S16384x6144_0_0 (ix2 R ⟨n.val, hn⟩) = aU m c (ix2 R n) := by
      pointwise []
    rw [← hs]
    exact real_of_abs _ (Host.reduce_andi_all _ _ _ _ _ e0 (ix2 R ⟨n.val, hn⟩))
  · have hs : extractStridedSlice Cert.Pre_finite.S16384x16 ![0, 0] (aSM m c) Cert.Pre_finite.Facts.slices_S16384x128_S16384x16_0_0 (ix2 R ⟨n.val, hn⟩) = aSM m c (ix2 R n) := by
      pointwise []
    rw [← hs]
    exact real_of_abs _ (Host.reduce_andi_all _ _ _ _ _ e1 (ix2 R ⟨n.val, hn⟩))
  · exact Host.reduce_andi_all _ _ _ _ _ e2 (ix2 R n)
  · exact Host.reduce_andi_all _ _ _ _ _ e3 (ix1 n)

/-- The gates before the nonlinearity are real numbers. -/
theorem zAt_real (h : Cert.Pre_GlaIdeal_finite m) (R : Fin 16384) (n : Fin 1024) : ∃ z : ℝ, zAt (aSM m c) (aW m c) (aB m c) R n = z := by
  obtain ⟨-, h1, h2, h3⟩ := reals m c h
  refine ⟨(∑ k : Fin 16, (aSM m c (ix2 R ⟨k.val, by omega⟩) : EReal).toReal * (aW m c (ix2 k n) : EReal).toReal) + (aB m c (ix1 n) : EReal).toReal, ?_⟩
  unfold zAt
  rw [EReal.coe_add, ← h3, coe_sum]
  refine congrArg₂ _ (Finset.sum_congr rfl fun k _ => ?_) rfl
  rw [EReal.coe_mul, ← h1 _ _ k.isLt, ← h2]

/-- The log decays are real numbers. -/
theorem lAt_real (h : Cert.Pre_GlaIdeal_finite m) (b : Fin 8) (hd : Fin 4) (p : ℕ) (d : Fin 256) :
    lAt (aSM m c) (aW m c) (aB m c) b hd d p = ((lAt (aSM m c) (aW m c) (aB m c) b hd d p).toReal : ℝ) := by
  unfold lAt
  obtain ⟨z, hz⟩ := zAt_real m c h ⟨(b.val * 2048 + p) % 16384, by omega⟩ ⟨hd.val * 256 + d.val, by omega⟩
  obtain ⟨r, hr⟩ := lgt_real z
  rw [hz, hr, EReal.toReal_coe]

/-- The gate's weight: its 16 rows, then zeros. -/
theorem v2_at (k : Fin 128) (n : Fin 1024) : (V m c main_v2 (ix2 k n) : EReal) = if h : k.val < 16 then aW m c (ix2 ⟨k.val, h⟩ n) else 0 := by
  entry_read; pointwise []
/-- The gate's bias as a row. -/
theorem v3_at (n : Fin 1024) : (V m c main_v3 (ix2 0 n) : EReal) = aB m c (ix1 n) := by
  entry_read; pointwise []
/-- The norm's weight as a row. -/
theorem v4_at (n : Fin 512) : (V m c main_v4 (ix2 0 n) : EReal) = aNW m c (ix1 n) := by
  entry_read; pointwise []
/-- The wide projection reaches the call as it was given. -/
theorem a0_eq : V m c main_arg0 = aU m c := V_main_arg0 m c
/-- The narrow projection reaches the call as it was given. -/
theorem a1_eq : V m c main_arg1 = aSM m c := V_main_arg1 m c

/-- The windows' index maps. -/
theorem idx : ∀ t : Fin cfg0.N,
    win0_0.index t = ![t.val / 4, t.val % 4] ∧ win0_1.index t = ![t.val / 4, 4 + t.val % 4]
    ∧ win0_2.index t = ![t.val / 4, 4 + t.val % 4] ∧ win0_3.index t = ![t.val / 4, 8 + t.val % 4]
    ∧ win0_4.index t = ![t.val / 4, 0] ∧ win0_5.index t = ![0, t.val % 4] ∧ win0_6.index t = ![0, t.val % 4]
    ∧ win0_7.index t = ![0, 0] ∧ win0_8.index t = ![t.val / 4, t.val % 4] :=
  (by decide +kernel : ∀ t : Fin grid0.N, _)

/-- The grid has 32 points. -/
theorem lt_N (t : Fin cfg0.N) : t.val < 32 := lt_of_lt_of_eq t.isLt N_0

/-! The blocks of the inputs at a grid point. -/

/-- The queries. -/
theorem blk0_at (t : Fin cfg0.N) (r : Fin 2048) (d : Fin 256) :
    (iblk m c 0 t (ix2 r d) : EReal) = aU m c (ix2 ⟨t.val / 4 * 2048 + r.val, by have := lt_N t; omega⟩ ⟨t.val % 4 * 256 + d.val, by omega⟩) := by
  rw [← a0_eq]; blk_ext [iblk, idx t]
/-- The keys. -/
theorem blk1_at (t : Fin cfg0.N) (r : Fin 2048) (d : Fin 256) :
    (iblk m c 1 t (ix2 r d) : EReal) = aU m c (ix2 ⟨t.val / 4 * 2048 + r.val, by have := lt_N t; omega⟩ ⟨1024 + (t.val % 4 * 256 + d.val), by omega⟩) := by
  rw [← a0_eq]; blk_ext [iblk, idx t]
/-- The values. -/
theorem blk2_at (t : Fin cfg0.N) (r : Fin 2048) (j : Fin 512) :
    (iblk m c 2 t (ix2 r j) : EReal) = aU m c (ix2 ⟨t.val / 4 * 2048 + r.val, by have := lt_N t; omega⟩ ⟨2048 + (t.val % 4 * 512 + j.val), by omega⟩) := by
  rw [← a0_eq]; blk_ext [iblk, idx t]
/-- The output's gate. -/
theorem blk3_at (t : Fin cfg0.N) (r : Fin 2048) (j : Fin 512) :
    (iblk m c 3 t (ix2 r j) : EReal) = aU m c (ix2 ⟨t.val / 4 * 2048 + r.val, by have := lt_N t; omega⟩ ⟨4096 + (t.val % 4 * 512 + j.val), by omega⟩) := by
  rw [← a0_eq]; blk_ext [iblk, idx t]
/-- The narrow projection's rows. -/
theorem blk4_at (t : Fin cfg0.N) (r : Fin 2048) (k : Fin 128) :
    (iblk m c 4 t (ix2 r k) : EReal) = aSM m c (ix2 ⟨t.val / 4 * 2048 + r.val, by have := lt_N t; omega⟩ k) := by
  rw [← a1_eq]; blk_ext [iblk, idx t]
/-- The gate's weight columns. -/
theorem blk5_at (t : Fin cfg0.N) (k : Fin 128) (d : Fin 256) :
    (iblk m c 5 t (ix2 k d) : EReal) = if h : k.val < 16 then aW m c (ix2 ⟨k.val, h⟩ ⟨t.val % 4 * 256 + d.val, by omega⟩) else 0 := by
  rw [← v2_at]; blk_ext [iblk, idx t]
/-- The gate's bias. -/
theorem blk6_at (t : Fin cfg0.N) (d : Fin 256) :
    (iblk m c 6 t (ix2 0 d) : EReal) = aB m c (ix1 ⟨t.val % 4 * 256 + d.val, by omega⟩) := by
  rw [← v3_at]; blk_ext [iblk, idx t]
/-- The norm's weight. -/
theorem blk7_at (t : Fin cfg0.N) (j : Fin 512) :
    (iblk m c 7 t (ix2 0 j) : EReal) = aNW m c (ix1 j) := by
  rw [← v4_at]; blk_ext [iblk, idx t]

/-- The gate of a grid point's rows, from the blocks that it reads. -/
theorem gate_of (t : Fin cfg0.N) (x4 : FVec Ideal S2048x128 .f32) (x5 : FVec Ideal S128x256 .bf16) (x6 : FVec Ideal S1x256 .f32)
    (h4 : ∀ (r : Fin 2048) (k : Fin 128), (x4 (ix2 r k) : EReal) = aSM m c (ix2 ⟨t.val / 4 * 2048 + r.val, by have := lt_N t; omega⟩ k))
    (h5 : ∀ (k : Fin 128) (d : Fin 256), (x5 (ix2 k d) : EReal) = if h : k.val < 16 then aW m c (ix2 ⟨k.val, h⟩ ⟨t.val % 4 * 256 + d.val, by omega⟩) else 0)
    (h6 : ∀ d : Fin 256, (x6 (ix2 0 d) : EReal) = aB m c (ix1 ⟨t.val % 4 * 256 + d.val, by omega⟩))
    (r : Fin 2048) (d : Fin 256) (hb : t.val / 4 < 8) (hh : t.val % 4 < 4) :
    (lgt ((∑ k : Fin 128, x4 (ix2 r k) * x5 (ix2 k d)) + x6 (ix2 0 d)) : EReal)
      = lAt (aSM m c) (aW m c) (aB m c) ⟨t.val / 4, hb⟩ ⟨t.val % 4, hh⟩ d r.val := by
  have ht := lt_N t
  have hr := r.isLt
  unfold lAt zAt
  refine congrArg lgt ?_
  simp only [h4, h5, h6]
  refine congrArg₂ _ ?_ rfl
  refine (Fin.sum_univ_add (a := 16) (b := 112) _).trans ((congrArg₂ _ (Finset.sum_congr rfl fun k _ => ?_) (Finset.sum_eq_zero fun k _ => ?_)).trans (add_zero _))
  · rw [dif_pos (by simp)]
    exact congrArg₂ (· * ·) (congrArg₂ (fun R n => aSM m c (ix2 R n)) (Fin.ext (Nat.mod_eq_of_lt (by omega)).symm) (Fin.ext (by simp))) (congrArg (fun k => aW m c (ix2 k _)) (Fin.ext (by simp)))
  · rw [dif_neg (by simp), mul_zero]

/-- The result array, block by block. -/
theorem final (h : Cert.Pre_GlaIdeal_finite m) : (dats m 0 c).arrAt 8 cfg0.N = REF (aU m c) (aSM m c) (aW m c) (aB m c) (aNW m c) := by
  refine (dats m 0 c).arrAt_eq_of_covers 8 (REF (aU m c) (aSM m c) (aW m c) (aB m c) (aNW m c)) (by decide +kernel) fun t hf y => ?_
  blk_simp
  rw [after_8]
  have ht := lt_N t
  have hy0 : (y 0).val < 2048 := (y 0).isLt
  have hy1 : (y 1).val < 512 := (y 1).isLt
  obtain ⟨h0, -, -, -⟩ := reals m c h
  have hb : t.val / 4 < 8 := by omega
  have hh : t.val % 4 < 4 := by omega
  let u : ℕ → Fin 18432 → ℝ := fun r n => (aU m c (ix2 ⟨(t.val / 4 * 2048 + r) % 16384, by omega⟩ n) : EReal).toReal
  have hu : ∀ (r : Fin 2048) (n : Fin 18432), n.val < 6144 → (aU m c (ix2 ⟨t.val / 4 * 2048 + r.val, by omega⟩ n) : EReal) = (u r.val n : ℝ) := fun r n hn =>
    (h0 _ _ hn).trans (congrArg (fun R => (((aU m c (ix2 R n) : EReal).toReal : ℝ) : EReal)) (Fin.ext (Nat.mod_eq_of_lt (by omega)).symm))
  let q : ℕ → Fin 256 → ℝ := fun r d => u r ⟨t.val % 4 * 256 + d.val, by omega⟩
  let k : ℕ → Fin 256 → ℝ := fun r d => u r ⟨1024 + (t.val % 4 * 256 + d.val), by omega⟩
  let v : ℕ → Fin 512 → ℝ := fun r j => u r ⟨2048 + (t.val % 4 * 512 + j.val), by omega⟩
  let la : ℕ → Fin 256 → ℝ := fun p d => (lAt (aSM m c) (aW m c) (aB m c) ⟨t.val / 4, hb⟩ ⟨t.val % 4, hh⟩ d p).toReal
  refine Eq.trans (congrArg (outAt m c t) (a₂ := ix2 ⟨(y 0).val, hy0⟩ ⟨(y 1).val, hy1⟩) ?_) ?_
  · blk_ext []
  unfold outAt outOf
  refine (YY_real (q := q) (k := k) (v := v) (la := la)
    (fun r d => (blk0_at m c t r d).trans (hu r _ (by simp only; omega))) (fun r d => (blk1_at m c t r d).trans (hu r _ (by simp only; omega))) (fun r j => (blk2_at m c t r j).trans (hu r _ (by simp only; omega)))
    (fun r j => by rw [blk3_at, hu _ _ (by simp only; omega)]; exact EReal.coe_ne_bot _)
    (fun r d => (gate_of m c t _ _ _ (blk4_at m c t) (blk5_at m c t) (blk6_at m c t) r d hb hh).trans (lAt_real m c h _ _ _ _))
    ⟨(y 0).val, hy0⟩ ⟨(y 1).val, hy1⟩).trans ?_
  refine Eq.trans ?_ (congrArg (REF (aU m c) (aSM m c) (aW m c) (aB m c) (aNW m c))
    (a₁ := ix2 ⟨t.val / 4 * 2048 + (y 0).val, by omega⟩ ⟨t.val % 4 * 512 + (y 1).val, by omega⟩) ?_)
  · rw [REF_apply, blk3_at, blk7_at]
    simp only [show (t.val / 4 * 2048 + (y 0).val) / 2048 = t.val / 4 by omega, show (t.val / 4 * 2048 + (y 0).val) % 2048 = (y 0).val by omega,
      show (t.val % 4 * 512 + (y 1).val) / 512 = t.val % 4 by omega, show (t.val % 4 * 512 + (y 1).val) % 512 = (y 1).val by omega]
    refine congrArg (fun o => gn o _ _ _) (funext fun x => ?_)
    have hR : ∀ (r : Fin 2048) (R : Fin 16384) (n n' : Fin 18432), R.val = t.val / 4 * 2048 + r.val → n.val = n'.val → n'.val < 6144 → (aU m c (ix2 R n) : EReal) = (u r.val n' : ℝ) :=
      fun r R n n' e e' hn => (congrArg₂ (fun R n => aU m c (ix2 R n)) (Fin.ext e) (Fin.ext e')).trans (hu r n' hn)
    exact (REFo_real (b := ⟨t.val / 4, hb⟩) (h := ⟨t.val % 4, hh⟩) (q := q) (k := k) (v := v) (la := la) (fun r d R n e e' => hR r R n _ e e' (by simp only; omega)) (fun r d R n e e' => hR r R n _ e e' (by simp only; omega))
      (fun r j R n e e' => hR r R n _ e e' (by simp only; omega))
      (fun p d _ => lAt_real m c h _ _ _ _) ⟨(y 0).val, hy0⟩ x).symm
  · blk_ext [idx t]

/-- After the run the result array holds the reference's values and the arguments are unchanged. -/
theorem run_values (h : Cert.Pre_GlaIdeal_finite m) (ρ : Dev nD → PrngReg) :
    θ_run defs (onTc (τ := τ) (main (F := Ideal))) ⟨m, fun _ => 0, ρ⟩ (fun r => ∀ c : Dev nD,
      r.2.mem ((c.tc : Thread nD τ).loc main_v5) = REF (aU m c) (aSM m c) (aW m c) (aB m c) (aNW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ e c => ⟨((e.1 c).1 8).trans (final m c h), e.2 c⟩)
    (θ_run_and (run_main m ρ) (frame_of m ρ (dats m) (A_eq m) (run_main m ρ)))

/-- The attention kernel and its reference, read over the extended reals, end with equal results. -/
theorem algebraic : Cert.algebraic_GlaIdeal_GlaRefIdeal_pre_finite (hGlaIdeal := Cert.GlaIdeal.Gen.facts)
    (hGlaRefIdeal := Cert.GlaRefIdeal.Gen.facts) (hPre_finite := Cert.Pre_finite.holds) := by
  intro m g m' g' hpre hargs
  refine ⟨fun c => REF (aU m c) (aSM m c) (aW m c) (aB m c) (aNW m c), run_values m hpre g, ?_⟩
  refine (θ_run _ _ _).mono (fun r h c => ?_) (Cert.GlaRefIdeal.Value.run (F := Ideal) m' g')
  obtain ⟨e0, e1, e2, e3, e4⟩ := hargs c
  refine ⟨(h c).1.trans ?_, (h c).2⟩
  change REF (m' ((c.tc : Thread Cert.GlaRefIdeal.nD Cert.GlaRefIdeal.τ).loc Cert.GlaRefIdeal.main_arg0)) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg2)) (m' ((c.tc : Thread Cert.GlaRefIdeal.nD Cert.GlaRefIdeal.τ).loc Cert.GlaRefIdeal.main_arg3)) (m' ((c.tc : Thread Cert.GlaRefIdeal.nD Cert.GlaRefIdeal.τ).loc Cert.GlaRefIdeal.main_arg4)) = _
  rw [e0, e1, e2, e3, e4]

/-- The attention's reference runs, leaves its arguments unchanged, and has no semaphore. -/
theorem frame_ref : Cert.quiescent_GlaRefIdeal (hGlaRefIdeal := Cert.GlaRefIdeal.Gen.facts) := fun m g _ =>
  (θ_run Cert.GlaRefIdeal.defs _ _).mono (fun r h => ⟨fun c => (h c).2, sem_eq_zero_of_no_sems (by decide) r.2⟩)
    (Cert.GlaRefIdeal.Value.run (F := Ideal) m g)

end Cert.GlaIdeal.Hand
-- ==== Proof.InprojRun.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

/-! # The input projection's body: what it computes from its blocks, and its two runs -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the body computes from its blocks -/

/-! The parts of the buffers that the body reads and writes: whole buffers, and quarters of the row block. -/

abbrev rs0 : Rect S1x1x2048 := Rect.unit (s := S1x1x2048) ![0, 0, 0] S1x1x2048.size inb_S1x1x2048_S1x1x2048_0_0_0
abbrev rv : Rect S1x128 := Rect.unit (s := S1x128) ![0, 0] S1x128.size inb_S1x128_S1x128_0_0
abbrev rw : Rect S2048x2048 := Rect.unit (s := S2048x2048) ![0, 0] S2048x2048.size inb_S2048x2048_S2048x2048_0_0
abbrev rsm : Rect S128x2048 := Rect.unit (s := S128x2048) ![0, 0] S128x2048.size inb_S128x2048_S128x2048_0_0
abbrev rh : Rect S1024x2048 := Rect.unit (s := S1024x2048) ![0, 0] S1024x2048.size inb_S1024x2048_S1024x2048_0_0
abbrev rx0 : Rect S1024x2048 := Rect.unit (s := S1024x2048) ![0, 0] S256x2048.size inb_S1024x2048_S256x2048_0_0
abbrev rx1 : Rect S1024x2048 := Rect.unit (s := S1024x2048) ![256, 0] S256x2048.size inb_S1024x2048_S256x2048_256_0
abbrev rx2 : Rect S1024x2048 := Rect.unit (s := S1024x2048) ![512, 0] S256x2048.size inb_S1024x2048_S256x2048_512_0
abbrev rx3 : Rect S1024x2048 := Rect.unit (s := S1024x2048) ![768, 0] S256x2048.size inb_S1024x2048_S256x2048_768_0
abbrev ro0 : Rect S1024x128 := Rect.unit (s := S1024x128) ![0, 0] S256x128.size inb_S1024x128_S256x128_0_0
abbrev ro1 : Rect S1024x128 := Rect.unit (s := S1024x128) ![256, 0] S256x128.size inb_S1024x128_S256x128_256_0
abbrev ro2 : Rect S1024x128 := Rect.unit (s := S1024x128) ![512, 0] S256x128.size inb_S1024x128_S256x128_512_0
abbrev ro3 : Rect S1024x128 := Rect.unit (s := S1024x128) ![768, 0] S256x128.size inb_S1024x128_S256x128_768_0

/-- The stores that fill the modulated rows, last first: four quarters of the row block. -/
def hPieces (x0 : Vec F S1024x2048 .f32) (x1 x2 : Vec F S1x1x2048 .f32) : List (View.Piece (Elt F) S1024x2048 .bf16) :=
  [⟨rx3, k0_pay9 (k0_pay4 (View.ld x1 rs0)) (k0_pay5 (View.ld x2 rs0)) (View.ld x0 rx3)⟩,
   ⟨rx2, k0_pay8 (View.ld x1 rs0) (View.ld x2 rs0) (View.ld x0 rx2)⟩,
   ⟨rx1, k0_pay7 (View.ld x1 rs0) (View.ld x2 rs0) (View.ld x0 rx1)⟩,
   ⟨rx0, k0_pay6 (View.ld x1 rs0) (View.ld x2 rs0) (View.ld x0 rx0)⟩]

/-- The modulated rows `x·(1 + scale) + shift` of a row block, in the matmul's precision. -/
def hBlk (x0 : Vec F S1024x2048 .f32) (x1 x2 : Vec F S1x1x2048 .f32) : Vec F S1024x2048 .bf16 :=
  View.canon (hPieces x0 x1 x2)

/-- A block of the wide projection: the modulated rows against a window of the transposed weights. -/
def uBlk (h : Vec F S1024x2048 .bf16) (x3 : Vec F S2048x2048 .bf16) : Vec F S1024x2048 .bf16 :=
  View.canon [⟨rh, k0_pay3 (View.ld h rh) (View.ld x3 rw)⟩]

/-- The raw narrow projection of the rows. -/
abbrev rawOf (h : Vec F S1024x2048 .bf16) (x4 : Vec F S128x2048 .bf16) : FVec F S1024x128 .f32 :=
  k0_pay12 (View.ld h rh) (View.ld x4 rsm)

/-- The block of the narrow columns: raw lanes, sigmoid lanes and the chunk-wise running sums of the decay,
    four quarters of the row block, last first. -/
def smBlk (h : Vec F S1024x2048 .bf16) (x4 : Vec F S128x2048 .bf16) (x5 x6 : Vec F S1x128 .f32) : Vec F S1024x128 .f32 :=
  let a := k0_pay11 (View.ld x5 rv)
  let p := k0_pay14 (View.ld h rh) (View.ld x4 rsm) (View.ld x6 rv)
  let q := k0_pay15 (View.ld h rh) (View.ld x4 rsm) (View.ld x6 rv)
  let z := k0_pay16 (F := F)
  let T := k0_pay10 (F := F)
  let lane := iota .tc S256x128 32 [1] iota_S256x128_d1_w32
  View.canon
    [⟨ro3, k0_pay2 lane (rawOf h x4) (k0_pay32 T (k0_pay24 a p q z) (k0_pay26 a p q z) (k0_pay27 a p q z))⟩,
     ⟨ro2, k0_pay1 lane (k0_pay31 T (k0_pay22 a p q z) (k0_pay30 T a p q z) (constant S256x128 .f32 0x00000000#32)) (k0_pay35 (rawOf h x4)) (k0_pay36 lane)⟩,
     ⟨ro1, k0_pay34 lane (rawOf h x4) (k0_pay29 T a p q z)⟩,
     ⟨ro0, k0_pay33 lane (rawOf h x4) (k0_pay28 T a p q z)⟩]

/-- The four quarters cover the modulated rows. -/
theorem cover_h (p0 p1 p2 p3 : Vec F S256x2048 .bf16) (y : S1024x2048.Idx) :
    ∃ pc ∈ ([⟨rx3, p0⟩, ⟨rx2, p1⟩, ⟨rx1, p2⟩, ⟨rx0, p3⟩] : List (View.Piece (Elt F) S1024x2048 .bf16)), y ∈ pc.1.set :=
  View.cover_of_tiled [⟨rx3, p0⟩, ⟨rx2, p1⟩, ⟨rx1, p2⟩, ⟨rx0, p3⟩] S256x2048.size (by rfl) y

/-- The four quarters cover the narrow block. -/
theorem cover_sm (p0 p1 p2 p3 : Vec F S256x128 .f32) (y : S1024x128.Idx) :
    ∃ pc ∈ ([⟨ro3, p0⟩, ⟨ro2, p1⟩, ⟨ro1, p2⟩, ⟨ro0, p3⟩] : List (View.Piece (Elt F) S1024x128 .f32)), y ∈ pc.1.set :=
  View.cover_of_tiled [⟨ro3, p0⟩, ⟨ro2, p1⟩, ⟨ro1, p2⟩, ⟨ro0, p3⟩] S256x128.size (by rfl) y

/-- One store covers the wide block. -/
theorem cover_u (p0 : Vec F S1024x2048 .bf16) (y : S1024x2048.Idx) :
    ∃ pc ∈ ([⟨rh, p0⟩] : List (View.Piece (Elt F) S1024x2048 .bf16)), y ∈ pc.1.set :=
  View.cover_of_tiled [⟨rh, p0⟩] S1024x2048.size (by rfl) y

/-! ## The body's two runs -/

set_option maxHeartbeats 2000000 in
/-- The body at the first column block of a row block: from the inputs' blocks it fills the scratch with the
    modulated rows, the narrow output with its block and the wide output with its block. -/
theorem run_first (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x2048 .bf16) (harg5 : arg5.IsWhole) (arg6 : Memref sig .tc .vmem S128x2048 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole)
    (hc0 : k0_cond1 i = 1#1)
    (x0 : Vec F S1024x2048 .f32) (x1 : Vec F S1x1x2048 .f32) (x2 : Vec F S1x1x2048 .f32) (x3 : Vec F S2048x2048 .bf16) (x4 : Vec F S128x2048 .bf16) (x5 : Vec F S1x128 .f32) (x6 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (uBlk (hBlk x0 x1 x2) x3) ∗ owns (c : Thread nD τ) arg10 fullShare (smBlk (hBlk x0 x1 x2) x4 x5 x6)
            ∗ owns (c : Thread nD τ) arg11 fullShare (hBlk x0 x1 x2)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  subst hf0 hf1 hf2 hf3 hf4 hf5 hf6
  sl_exec (disch := first | sl_exact hc0)
  sl_step
  iapply Hk
  have hv : arg11.view.readCov (hPieces (View.read (Elt F) arg2.view f0) (View.read (Elt F) arg3.view f1) (View.read (Elt F) arg4.view f2)) rh.toLoadRect
      = View.ld (hBlk (View.read (Elt F) arg2.view f0) (View.read (Elt F) arg3.view f1) (View.read (Elt F) arg4.view f2)) rh :=
    View.readCov_eq_canon' _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine (View.read_writes_eq_canon _ _ _ (cover_u _)).trans ?_
    exact congrArg (fun h : Vec F S1024x2048 .bf16 => (View.canon [⟨rh, k0_pay3 h (View.ld (View.read (Elt F) arg5.view f3) rw)⟩] : Vec F S1024x2048 .bf16)) hv
  isplitl [H8]
  · iexists _; isplitr; swap; · iexact H8
    ipureintro
    refine (View.read_writes_eq_canon _ _ _ (cover_sm _ _ _ _)).trans ?_
    exact congrArg (fun h : Vec F S1024x2048 .bf16 =>
      let x4 := View.read (Elt F) arg6.view f4
      let x5 := View.read (Elt F) arg7.view f5
      let x6 := View.read (Elt F) arg8.view f6
      let a := k0_pay11 (View.ld x5 rv)
      let p := k0_pay14 h (View.ld x4 rsm) (View.ld x6 rv)
      let q := k0_pay15 h (View.ld x4 rsm) (View.ld x6 rv)
      let r := k0_pay12 h (View.ld x4 rsm)
      let z := k0_pay16 (F := F)
      let T := k0_pay10 (F := F)
      let lane := iota .tc S256x128 32 [1] iota_S256x128_d1_w32
      (View.canon
        [⟨ro3, k0_pay2 lane r (k0_pay32 T (k0_pay24 a p q z) (k0_pay26 a p q z) (k0_pay27 a p q z))⟩,
         ⟨ro2, k0_pay1 lane (k0_pay31 T (k0_pay22 a p q z) (k0_pay30 T a p q z) (constant S256x128 .f32 0x00000000#32)) (k0_pay35 r) (k0_pay36 lane)⟩,
         ⟨ro1, k0_pay34 lane r (k0_pay29 T a p q z)⟩,
         ⟨ro0, k0_pay33 lane r (k0_pay28 T a p q z)⟩] : Vec F S1024x128 .f32)) hv
  iexists _; isplitr; swap; · iexact HS0
  ipureintro
  exact View.read_writes_eq_canon _ _ _ (cover_h _ _ _ _)

set_option maxHeartbeats 1000000 in
/-- The body at a later column block: it reads the scratch's modulated rows `h` and fills the wide output's block. -/
theorem run_later (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x2048 .bf16) (harg5 : arg5.IsWhole) (arg6 : Memref sig .tc .vmem S128x2048 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1) (x3 : Vec F S2048x2048 .bf16) (h : Vec F S1024x2048 .bf16)
    (E : Set ℕ) (K : PUnit → sProp 𝕄) :
    iprop(owns (c : Thread nD τ) arg5 fullShare x3 ∗ (∃ d, owns (c : Thread nD τ) arg9 fullShare d) ∗ owns (c : Thread nD τ) arg11 fullShare h
        ∗ (iprop(owns (c : Thread nD τ) arg5 fullShare x3 ∗ owns (c : Thread nD τ) arg9 fullShare (uBlk h x3)
            ∗ owns (c : Thread nD τ) arg11 fullShare h) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f3, %hf3, H3⟩, ⟨%d7, %f7, -, H7⟩, ⟨%fs0, %hs0, HS0⟩, Hk⟩
  subst hf3 hs0
  sl_exec (disch := first | sl_exact hc0)
  sl_step
  iapply Hk
  isplitl [H3]
  · iexists f3; isplitr; · ipureintro; rfl
    iexact H3
  isplitl [H7]
  · iexists _; isplitr; swap; · iexact H7
    ipureintro
    exact View.read_writes_eq_canon _ _ _ (cover_u _)
  iexists fs0; isplitr; · ipureintro; rfl
  iexact HS0

end Cert.KernelIdeal.Hand

end
-- ==== Proof.InprojFrame.lean ====
module

public import proofs.«01_k».proof.Proof.InprojRun

@[expose] public section

/-! # The input projection's pipeline: the run and the frame -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a row block -/

/-- The first point of the row block that point `n` belongs to. -/
def row (n : ℕ) : Fin cfg0.N := ⟨n / 9 * 9 % 144, lt_of_lt_of_eq (Nat.mod_lt _ (by decide)) N_0.symm⟩

/-- The first point of a row block is its own first point. -/
theorem row_of_first (t : Fin cfg0.N) (h : t.val % 9 = 0) : row t.val = t := by
  have hN : t.val < 144 := lt_of_lt_of_eq t.isLt N_0
  apply Fin.ext; simp only [row]; omega

/-- Points of one row block share their first point. -/
theorem row_succ (n : ℕ) (h : (n + 1) % 9 ≠ 0) : row (n + 1) = row n := by
  apply Fin.ext; simp only [row]; omega

/-- The body stores the narrow output and the scratch exactly at the first point of a row block. -/
theorem cond_iff : ∀ t : Fin cfg0.N, k0_cond1 (grid0.coords t) = 1#1 ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [k0_cond1, e0, e1]
    word_cmp
   : ∀ t : Fin grid0.N, k0_cond1 (grid0.coords t) = 1#1 ↔ t.val % 9 = 0)

/-- The narrow output's window is left alone except at a row block's first point. -/
theorem idle_iff (t : Fin cfg0.N) : cfg0.idle 8 (cfg0.grid.coords t) = !decide (t.val % 9 = 0) := by
  show (!(k0_cond1 (grid0.coords t) == 1#1)) = _
  by_cases h : t.val % 9 = 0
  · rw [(cond_iff t).mpr h, decide_eq_true h]; rfl
  · rw [decide_eq_false h, beq_eq_false_iff_ne.mpr (fun e => h ((cond_iff t).mp e))]

/-- The narrow output's block is written back after a row block's last point. -/
theorem flush_8 (t : Fin cfg0.N) : (cfg0.win 8).flush t = decide (t.val % 9 = 8) := by
  by_cases h : t.val % 9 = 8
  · rw [(flush0_8 t).mpr h, decide_eq_true h]
  · rw [decide_eq_false h, Bool.eq_false_iff]; exact fun e => h ((flush0_8 t).mp e)

/-! ## The pipeline's contents, point by point -/

/-- The modulated rows of the row block that starts at point `r`. -/
def hOf (c : Dev nD) (r : Fin cfg0.N) : Vec F S1024x2048 .bf16 :=
  hBlk (iblk m c 0 r) (iblk m c 1 r) (iblk m c 2 r)

/-- The narrow output's block of the row block that starts at point `r`. -/
def smOf (c : Dev nD) (r : Fin cfg0.N) : Vec F S1024x128 .f32 :=
  smBlk (hOf m c r) (iblk m c 4 r) (iblk m c 5 r) (iblk m c 6 r)

/-- The modulated rows of point `n`'s row block. -/
def hAt (c : Dev nD) (n : ℕ) : Vec F S1024x2048 .bf16 := hOf m c (row n)

/-- The narrow output's block of point `n`'s row block. -/
def smAt (c : Dev nD) (n : ℕ) : Vec F S1024x128 .f32 := smOf m c (row n)

/-- The scratch buffer. -/
abbrev scr : Memref sig .tc .vmem S1024x2048 .bf16 := Memref.whole cc0_scratch0

/-- Between points: before a row block the scratch holds anything, inside one it holds the block's modulated rows. -/
def inv (c : Dev nD) (n : ℕ) : sProp 𝕄 :=
  if n % 9 = 0 then Pipeline.ΦA spec0 c
  else iprop(owns (c : Thread nD τ) scr fullShare (hAt m c n) ∗ (∃ r, prngReg c r))

/-- Outside the windows a point owns the scratch buffer, whatever it holds, and the generator's register. -/
theorem phi_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The proof data: inputs at their blocks, the wide output at each point's block, the narrow output at its row
    block's, the scratch by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => uBlk (hAt m c t.val) (iblk m c 3 t)
    | ⟨8, _⟩ => smAt m c t.val
  Φ k := inv m c k.val
  q w := Pipeline.shareOf spec0 w
  owed _ := 0

/-- The arrays start as the host code leaves them. -/
theorem A_eq (c : Dev nD) (w : Fin cfg0.W) : (dats m 0 c).A w = V m c (Pipeline.arrRef spec0 w) := by
  dsimp only [dats]

/-- A point leaves input 0's block as it was. -/
theorem after_0 (c : Dev nD) (t : Fin cfg0.N) : (dats m 0 c).after 0 t = iblk m c 0 t := by dsimp only [dats]
/-- A point leaves input 1's block as it was. -/
theorem after_1 (c : Dev nD) (t : Fin cfg0.N) : (dats m 0 c).after 1 t = iblk m c 1 t := by dsimp only [dats]
/-- A point leaves input 2's block as it was. -/
theorem after_2 (c : Dev nD) (t : Fin cfg0.N) : (dats m 0 c).after 2 t = iblk m c 2 t := by dsimp only [dats]
/-- A point leaves input 3's block as it was. -/
theorem after_3 (c : Dev nD) (t : Fin cfg0.N) : (dats m 0 c).after 3 t = iblk m c 3 t := by dsimp only [dats]
/-- A point leaves input 4's block as it was. -/
theorem after_4 (c : Dev nD) (t : Fin cfg0.N) : (dats m 0 c).after 4 t = iblk m c 4 t := by dsimp only [dats]
/-- A point leaves input 5's block as it was. -/
theorem after_5 (c : Dev nD) (t : Fin cfg0.N) : (dats m 0 c).after 5 t = iblk m c 5 t := by dsimp only [dats]
/-- A point leaves input 6's block as it was. -/
theorem after_6 (c : Dev nD) (t : Fin cfg0.N) : (dats m 0 c).after 6 t = iblk m c 6 t := by dsimp only [dats]
/-- After a point the wide output's window holds its block. -/
theorem after_7 (c : Dev nD) (t : Fin cfg0.N) : (dats m 0 c).after 7 t = uBlk (hAt m c t.val) (iblk m c 3 t) := by dsimp only [dats]
/-- After a point the narrow output's window holds its block. -/
theorem after_8 (c : Dev nD) (t : Fin cfg0.N) : (dats m 0 c).after 8 t = smAt m c t.val := by dsimp only [dats]

/-- Before a point, input 0's window holds its block. -/
theorem before_0 (c : Dev nD) (t : Fin cfg0.N) (d) : (dats m 0 c).before 0 t d = iblk m c 0 t :=
  before0_0_of m (dats m 0 c) (A_eq m c 0) (after_0 m c) t d
/-- Before a point, input 1's window holds its block. -/
theorem before_1 (c : Dev nD) (t : Fin cfg0.N) (d) : (dats m 0 c).before 1 t d = iblk m c 1 t :=
  before0_1_of m (dats m 0 c) (A_eq m c 1) (after_1 m c) t d
/-- Before a point, input 2's window holds its block. -/
theorem before_2 (c : Dev nD) (t : Fin cfg0.N) (d) : (dats m 0 c).before 2 t d = iblk m c 2 t :=
  before0_2_of m (dats m 0 c) (A_eq m c 2) (after_2 m c) t d
/-- Before a point, input 3's window holds its block. -/
theorem before_3 (c : Dev nD) (t : Fin cfg0.N) (d) : (dats m 0 c).before 3 t d = iblk m c 3 t :=
  before0_3_of m (dats m 0 c) (A_eq m c 3) (after_3 m c) t d
/-- Before a point, input 4's window holds its block. -/
theorem before_4 (c : Dev nD) (t : Fin cfg0.N) (d) : (dats m 0 c).before 4 t d = iblk m c 4 t :=
  before0_4_of m (dats m 0 c) (A_eq m c 4) (after_4 m c) t d
/-- Before a point, input 5's window holds its block. -/
theorem before_5 (c : Dev nD) (t : Fin cfg0.N) (d) : (dats m 0 c).before 5 t d = iblk m c 5 t :=
  before0_5_of m (dats m 0 c) (A_eq m c 5) (after_5 m c) t d
/-- Before a point, input 6's window holds its block. -/
theorem before_6 (c : Dev nD) (t : Fin cfg0.N) (d) : (dats m 0 c).before 6 t d = iblk m c 6 t :=
  before0_6_of m (dats m 0 c) (A_eq m c 6) (after_6 m c) t d

/-- The narrow block stays the same within a row block. -/
theorem smAt_pred (c : Dev nD) (t : Fin cfg0.N) (h : ¬ t.val % 9 = 0) : smAt m c (t.val - 1) = smAt m c t.val := by
  obtain ⟨n, hn⟩ : ∃ n, t.val = n + 1 := ⟨t.val - 1, by omega⟩
  have e : row (n + 1) = row n := row_succ n (by omega)
  rw [hn, Nat.add_sub_cancel]; exact congrArg (smOf m c) e.symm

/-- At a later point of a row block the narrow output's buffer already holds the row block's contents. -/
theorem before_8 (c : Dev nD) (t : Fin cfg0.N) (h : ¬ t.val % 9 = 0) (d) : (dats m 0 c).before 8 t d = smAt m c t.val := by
  have hN : t.val < 144 := lt_of_lt_of_eq t.isLt N_0
  have hf : cfg0.fresh 8 t.val = decide (t.val % 9 = 0) :=
    Cfg.fresh_tab cfg0 8 (fun n => decide (n % 9 = 0)) rfl (fun s => by
      rw [idle_iff, flush_8]
      by_cases h8 : s.val % 9 = 8
      · rw [decide_eq_true h8, decide_eq_true (show (s.val + 1) % 9 = 0 by omega)]; rfl
      · rw [decide_eq_false h8, decide_eq_false (show ¬ (s.val + 1) % 9 = 0 by omega)]
        cases decide (s.val % 9 = 0) <;> rfl) _ (le_of_lt t.isLt)
  rw [(dats m 0 c).before_out_traj 8 rfl (fun _ _ => rfl) (fun s hs hi _ => ?_) t.val t rfl d, hf, decide_eq_false h, after_8]
  · exact smAt_pred m c t h
  · rw [idle_iff] at hi
    rw [after_8, after_8]
    exact (smAt_pred m c s (by intro e; rw [decide_eq_true e] at hi; exact absurd hi (by decide))).symm

/-! ## The body at a point -/

/-- What the body finds at point `t`. -/
def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves there. -/
def bodyPost (c : Dev nD) (t : Fin cfg0.N) : sProp 𝕄 :=
  iprop(inv m c (t.val + 1) ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The invariant after a point, from the scratch at the row block's modulated rows. -/
theorem inv_succ (c : Dev nD) (n : ℕ) :
    iprop(owns (c : Thread nD τ) scr fullShare (hAt m c n) ∗ (∃ r, prngReg c r)) ⊢ (inv m c (n + 1) : sProp 𝕄) := by
  unfold inv
  by_cases h : (n + 1) % 9 = 0
  · rw [if_pos h, phi_eq]
    iintro ⟨HS, Hg⟩
    isplitl [HS]; · iexists _; iexact HS
    iexact Hg
  · rw [if_neg h, show hAt m c (n + 1) = hAt m c n from congrArg (hOf m c) (row_succ n h)]

set_option maxHeartbeats 1600000 in
/-- The body at any point: the first point of a row block fills scratch and both outputs, a later one the wide output. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  rw [show (dats m 0 c).leavesExact 6 t = owns (c : Thread nD τ) (st0_6 t) fullShare ((dats m 0 c).after 6 t) from rfl, after_6]
  rw [show (dats m 0 c).leavesExact 7 t = owns (c : Thread nD τ) (st0_7 t) fullShare ((dats m 0 c).after 7 t) from rfl, after_7]
  by_cases h : t.val % 9 = 0
  · have e8 : (dats m 0 c).leavesExact 8 t = owns (c : Thread nD τ) (st0_8 t) fullShare (smAt m c t.val) := by
      unfold Dat.leavesExact; rw [show cfg0.idle 8 (cfg0.grid.coords t) = false from by rw [idle_iff, decide_eq_true h]; rfl, after_8]
    rw [e8, show inv m c t.val = iprop((∃ d, owns (c : Thread nD τ) scr fullShare d) ∗ (∃ r, prngReg c r)) from by
      unfold inv; rw [if_pos h, phi_eq]]
    have er : row t.val = t := row_of_first t h
    have eh : hAt m c t.val = hBlk (iblk m c 0 t) (iblk m c 1 t) (iblk m c 2 t) := congrArg (hOf m c) er
    have es : smAt m c t.val = smBlk (hBlk (iblk m c 0 t) (iblk m c 1 t) (iblk m c 2 t)) (iblk m c 4 t) (iblk m c 5 t) (iblk m c 6 t) :=
      congrArg (smOf m c) er
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((cond_iff t).mpr h) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · iapply inv_succ m c t.val
      rw [eh]
      isplitl [HS0]; · iexact HS0
      iexact Hg
    isplitl [Ho]; · iexact Ho
    rw [es, eh]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ei : cfg0.idle 8 (cfg0.grid.coords t) = true := by rw [idle_iff, decide_eq_false h]; rfl
    have e8 : iprop(owns (c : Thread nD τ) (st0_8 t) fullShare (smAt m c t.val)) ⊢ ((dats m 0 c).leavesExact 8 t : sProp 𝕄) := by
      unfold Dat.leavesExact
      rw [ei]
      cases (cfg0.win 8).flush t with
      | true => dsimp only; rw [after_8]
      | false =>
        dsimp only
        simp only [before_8 m c t h]
        iintro H
        iexists (fun _ => Classical.arbitrary _)
        iexact H
    simp only [before_8 m c t h]
    rw [show inv m c t.val = iprop(owns (c : Thread nD τ) scr fullShare (hAt m c t.val) ∗ (∃ r, prngReg c r)) from by
      unfold inv; rw [if_neg h]]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun e => h ((cond_iff t).mp e)) (iblk m c 3 t) (hAt m c t.val) Set.univ _)
    isplitl [H3]; · iexact H3
    isplitl [H7]; · iexists _; iexact H7
    isplitl [HS0]; · iexact HS0
    iintro ⟨H3, H7, HS0⟩
    isplitl [HS0 Hg]
    · iapply inv_succ m c t.val
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply e8
    iexact H8

/-- The body that a grid point runs. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, the arrays at the pipeline's contents and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by
      show _ ⊢ inv m c 0
      unfold inv; rw [if_pos rfl])
    (hout := fun c => by
      show inv m c (Fin.last cfg0.N).val ⊢ _
      rw [show (Fin.last cfg0.N).val = 144 from N_0]
      unfold inv; rw [if_pos rfl])

/-- The run, the arrays at the pipeline's contents. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.InprojPure.lean ====
module

public import proofs.«01_k».proof.Proof.InprojRun
public import proofs.«01_k».proof.Proof.Sums

@[expose] public section

/-! # The input projection's blocks, at an index -/

set_option maxRecDepth 16384

noncomputable section

namespace Cert.KernelIdeal.Hand

open Cert.KernelIdeal.Gen
open Idealize.ShloMosaic Idealize.ShloMosaic.TcCoe Idealize.ShloMosaic.Tactic
open scoped BigOperators

/-- The modulated rows at an index: `x·(1 + scale) + shift`. -/
theorem hBlk_apply (x0 : FVec Ideal S1024x2048 .f32) (x1 x2 : FVec Ideal S1x1x2048 .f32) (r : Fin 1024) (k : Fin 2048) :
    (hBlk (F := Ideal) x0 x1 x2 : FVec Ideal S1024x2048 .bf16) (ix2 r k)
      = (x0 (ix2 r k) * (1 + x1 (ix3 0 0 k)) + x2 (ix3 0 0 k) : EReal) := by
  unfold hBlk hPieces
  canon_tiles x h
  all_goals
    pointwise [k0_pay4, k0_pay5, k0_pay6, k0_pay7, k0_pay8, k0_pay9]
    change (r : ℕ) = _ at h0; change (k : ℕ) = _ at h1
    blk_point []

/-- A block of the wide projection at an index: a row of the modulated rows against a row of the weight window. -/
theorem uBlk_apply (h : FVec Ideal S1024x2048 .bf16) (w : FVec Ideal S2048x2048 .bf16) (r : Fin 1024) (n : Fin 2048) :
    (uBlk (F := Ideal) h w : FVec Ideal S1024x2048 .bf16) (ix2 r n) = (∑ k : Fin 2048, h (ix2 r k) * w (ix2 n k) : EReal) := by
  unfold uBlk
  canon_tiles x hx
  pointwise [k0_pay3]
  change (r : ℕ) = _ at hx0; change (n : ℕ) = _ at hx1
  blk_point []

/-- A column of the narrow projection of row `r`. -/
def rawRow (h : FVec Ideal S1024x2048 .bf16) (x4 : FVec Ideal S128x2048 .bf16) (r : Fin 1024) (l : Fin 128) : EReal :=
  ∑ k : Fin 2048, h (ix2 r k) * x4 (ix2 l k)

/-- The decay of row `r` in lane `l`. -/
def decRow (h : FVec Ideal S1024x2048 .bf16) (x4 : FVec Ideal S128x2048 .bf16) (x5 x6 : FVec Ideal S1x128 .f32)
    (r : Fin 1024) (l : Fin 128) : EReal :=
  Cert.Sums.decay (x5 (ix2 0 l)) (rawRow h x4 r l + x6 (ix2 0 l))

/-- The rows of a tile that starts at `base`, as rows of the block. -/
theorem tile_rows (h : FVec Ideal S1024x2048 .bf16) (x4 : FVec Ideal S128x2048 .bf16) (x5 x6 : FVec Ideal S1x128 .f32)
    (base : ℕ) (h0 : base % 256 = 0) (h1 : base + 256 ≤ 1024) (r : Fin 1024) (i : Fin 256) (l : Fin 128) (hr : r.val = base + i.val) :
    (if l.val < 16 then rawRow h x4 ⟨base + i.val, by omega⟩ l
     else if l.val < 32 then Ideal.div 1 (1 + Ideal.exp (-rawRow h x4 ⟨base + i.val, by omega⟩ l))
     else ∑ p ∈ Finset.range (i.val % 128 + 1),
       if hp : i.val / 128 * 128 + p < 256 then
         Cert.Sums.decay (x5 (ix2 0 l)) (rawRow h x4 ⟨base + (⟨i.val / 128 * 128 + p, hp⟩ : Fin 256).val, by have := hp; simp only; omega⟩ l + x6 (ix2 0 l)) else 0 : EReal) =
      (if l.val < 16 then rawRow h x4 r l
       else if l.val < 32 then Ideal.div 1 (1 + Ideal.exp (-rawRow h x4 r l))
       else ∑ p ∈ Finset.range (r.val % 128 + 1),
         if hp : r.val / 128 * 128 + p < 1024 then decRow h x4 x5 x6 ⟨r.val / 128 * 128 + p, hp⟩ l else 0 : EReal) := by
  have hi := i.isLt
  obtain ⟨r, hr1⟩ := r
  obtain rfl : r = base + i.val := hr
  refine if_congr Iff.rfl rfl (if_congr Iff.rfl rfl ?_)
  have e : (base + i.val) % 128 = i.val % 128 := by omega
  simp only [e]
  refine Finset.sum_congr rfl fun p hp => ?_
  have := Finset.mem_range.1 hp
  rw [dif_pos (by omega), dif_pos (by omega)]
  have e' : (base + i.val) / 128 * 128 + p = base + (i.val / 128 * 128 + p) := by omega
  unfold decRow
  simp only [e']

/-- A block of the narrow result at an index. -/
theorem smBlk_apply (h : FVec Ideal S1024x2048 .bf16) (x4 : FVec Ideal S128x2048 .bf16) (x5 x6 : FVec Ideal S1x128 .f32)
    (r : Fin 1024) (l : Fin 128) :
    (smBlk (F := Ideal) h x4 x5 x6 : FVec Ideal S1024x128 .f32) (ix2 r l) =
      (if l.val < 16 then rawRow h x4 r l
       else if l.val < 32 then Ideal.div 1 (1 + Ideal.exp (-rawRow h x4 r l))
       else ∑ p ∈ Finset.range (r.val % 128 + 1),
         if hp : r.val / 128 * 128 + p < 1024 then decRow h x4 x5 x6 ⟨r.val / 128 * 128 + p, hp⟩ l else 0 : EReal) := by
  unfold smBlk
  canon_tiles x hx
  · pointwise [rawOf, k0_pay2, k0_pay11, k0_pay12, k0_pay13, k0_pay14, k0_pay15, k0_pay16, k0_pay17, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    change (r : ℕ) = _ at hx0; change (l : ℕ) = _ at hx1
    obtain rfl : l = x 1 := Fin.ext hx1
    refine (Cert.Sums.tile (fun s => rawRow h x4 ⟨768 + s.val, by omega⟩ (x 1)) (x5 (ix2 0 (x 1))) (x6 (ix2 0 (x 1))) (x 0) (x 1)).trans ?_
    exact tile_rows h x4 x5 x6 768 (by omega) (by omega) r (x 0) (x 1) hx0
  · pointwise [rawOf, k0_pay1, k0_pay11, k0_pay12, k0_pay13, k0_pay14, k0_pay15, k0_pay16, k0_pay17, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    change (r : ℕ) = _ at hx0; change (l : ℕ) = _ at hx1
    obtain rfl : l = x 1 := Fin.ext hx1
    refine (Cert.Sums.tile (fun s => rawRow h x4 ⟨512 + s.val, by omega⟩ (x 1)) (x5 (ix2 0 (x 1))) (x6 (ix2 0 (x 1))) (x 0) (x 1)).trans ?_
    exact tile_rows h x4 x5 x6 512 (by omega) (by omega) r (x 0) (x 1) hx0
  · pointwise [rawOf, k0_pay11, k0_pay12, k0_pay13, k0_pay14, k0_pay15, k0_pay16, k0_pay17, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    change (r : ℕ) = _ at hx0; change (l : ℕ) = _ at hx1
    obtain rfl : l = x 1 := Fin.ext hx1
    refine (Cert.Sums.tile (fun s => rawRow h x4 ⟨256 + s.val, by omega⟩ (x 1)) (x5 (ix2 0 (x 1))) (x6 (ix2 0 (x 1))) (x 0) (x 1)).trans ?_
    exact tile_rows h x4 x5 x6 256 (by omega) (by omega) r (x 0) (x 1) hx0
  · pointwise [rawOf, k0_pay11, k0_pay12, k0_pay13, k0_pay14, k0_pay15, k0_pay16, k0_pay17, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    change (r : ℕ) = _ at hx0; change (l : ℕ) = _ at hx1
    obtain rfl : l = x 1 := Fin.ext hx1
    refine (Cert.Sums.tile (fun s => rawRow h x4 ⟨s.val, by omega⟩ (x 1)) (x5 (ix2 0 (x 1))) (x6 (ix2 0 (x 1))) (x 0) (x 1)).trans ?_
    have e := tile_rows h x4 x5 x6 0 (by omega) (by omega) r (x 0) (x 1) (hx0.trans (Nat.zero_add _).symm)
    simp only [Nat.zero_add] at e
    exact e

end Cert.KernelIdeal.Hand
-- ==== Proof.InprojHost.lean ====
module

public import proofs.«01_k».proof.Proof.InprojFrame
public import proofs.«01_k».proof.Proof.InprojPure
public import Idealize.ShloMosaic.Lib.Claim
public import Idealize.ShloMosaic.Lib.Routing.OpsSet
public import Idealize.ShloMosaic.Lib.Routing.OpsPair

@[expose] public section

/-! # The projection kernel's operands, in terms of its arguments -/

set_option maxRecDepth 16384

noncomputable section

namespace Cert.KernelIdeal.Hand

open Cert.KernelIdeal.Gen
open Idealize.ShloMosaic Idealize.ShloMosaic.TcCoe Idealize.ShloMosaic.Tactic
open scoped BigOperators

/-! ## The scatter that puts a bias into lanes 32 to 47 -/

/-- Update `k` lands in lane `k + 32`. -/
theorem lands (idx : IVec S2 32) (h0 : idx (ix1 0) = 0#32) (h1 : idx (ix1 1) = 32#32) (k : Fin 16) (l : Fin 128) :
    (scatter_S1x128_S2_S16_0_0_01_0).resultIdx? (ix1 k) idx = some (ix2 0 l) ↔ l.val = k.val + 32 := by
  have hs0 : (scatter_S1x128_S2_S16_0_0_01_0).start (ix1 k) idx 0 = 0 := by
    change (idx _).toInt = 0
    rw [show ((scatter_S1x128_S2_S16_0_0_01_0).siIdx (ix1 k) _) = ix1 0 from by funext a; match a with | ⟨0, _⟩ => rfl, h0]
    rfl
  have hs1 : (scatter_S1x128_S2_S16_0_0_01_0).start (ix1 k) idx 1 = 32 := by
    change (idx _).toInt = 32
    rw [show ((scatter_S1x128_S2_S16_0_0_01_0).siIdx (ix1 k) _) = ix1 1 from by funext a; match a with | ⟨0, _⟩ => rfl, h1]
    rfl
  have hw0 : (scatter_S1x128_S2_S16_0_0_01_0).window (ix1 k) 0 = 0 := rfl
  have hw1 : (scatter_S1x128_S2_S16_0_0_01_0).window (ix1 k) 1 = k.val := rfl
  rw [Routing.resultIdx?_eq_some]
  constructor
  · intro h
    have := h 1
    rw [hs1, hw1] at this
    change (32 : ℤ) + (k.val : ℤ) = (l.val : ℤ) at this
    omega
  · intro h a
    match a with
    | ⟨0, _⟩ =>
      change (scatter_S1x128_S2_S16_0_0_01_0).start (ix1 k) idx 0 + (((scatter_S1x128_S2_S16_0_0_01_0).window (ix1 k) 0 : ℕ) : ℤ) = ((0 : ℕ) : ℤ)
      rw [hs0, hw0]; rfl
    | ⟨1, _⟩ =>
      change (scatter_S1x128_S2_S16_0_0_01_0).start (ix1 k) idx 1 + (((scatter_S1x128_S2_S16_0_0_01_0).window (ix1 k) 1 : ℕ) : ℤ) = (l.val : ℤ)
      rw [hs1, hw1]; omega

/-- The scattered row at a lane. -/
theorem scatter_at (x0 : FVec Ideal S1x128 .f32) (hx : ∀ l : Fin 128, x0 (ix2 0 l) = (0 : EReal)) (idx : IVec S2 32)
    (h0 : idx (ix1 0) = 0#32) (h1 : idx (ix1 1) = 32#32) (u : FVec Ideal S16 .f32) (l : Fin 128) :
    Host.scatter scatter_S1x128_S2_S16_0_0_01_0 (fun _ b => b) x0 idx u (ix2 0 l)
      = (if h : 32 ≤ l.val ∧ l.val < 48 then u (ix1 ⟨l.val - 32, by omega⟩) else 0 : EReal) := by
  have hk : ∀ k : S16.Idx, k = ix1 (k 0) := fun k => by funext a; match a with | ⟨0, _⟩ => rfl
  split
  · next h =>
    refine Routing.scatter_set_hit _ _ _ _ _ _ (fun k e => ?_) (ix1 ⟨l.val - 32, by omega⟩) ((lands idx h0 h1 _ _).2 (by simp only; omega))
    rw [hk k] at e ⊢
    have e' := (lands idx h0 h1 _ _).1 e
    exact congrArg u (congrArg ix1 (Fin.ext (by simp only; omega)))
  · next h =>
    refine (Routing.scatter_set_miss _ _ _ _ _ (fun k e => ?_)).trans (hx l)
    rw [hk k] at e
    have e' := (lands idx h0 h1 _ _).1 e
    have : (k 0).val < 16 := (k 0).isLt
    exact h (by omega)

/-! ## The operands at an index -/

variable (m : (ℓ : Loc nD τ sig) → Buf (Elt Ideal) ℓ) (c : Dev nD)

/-- The kernel's arguments, at their shapes. -/
abbrev aX : FVec Ideal S8x2048x2048 .f32 := m ((c.tc : Thread nD τ).loc main_arg0)
abbrev aA : FVec Ideal S8x6144 .f32 := m ((c.tc : Thread nD τ).loc main_arg1)
abbrev aW : FVec Ideal S2048x18480 .f32 := m ((c.tc : Thread nD τ).loc main_arg2)
abbrev aL : FVec Ideal S16 .f32 := m ((c.tc : Thread nD τ).loc main_arg3)
abbrev aD : FVec Ideal S16 .f32 := m ((c.tc : Thread nD τ).loc main_arg4)

/-- The input's rows, flattened. -/
theorem v0_at (R : Fin 16384) (k : Fin 2048) :
    (V m c main_v0 (ix2 R k) : EReal) = aX m c (ix3 ⟨R.val / 2048, by omega⟩ ⟨R.val % 2048, by omega⟩ k) := by
  entry_read; pointwise []

/-- The modulation. -/
theorem v1_at (b : Fin 8) (k : Fin 6144) : (V m c main_v1 (ix3 b 0 k) : EReal) = aA m c (ix2 b k) := by
  entry_read; pointwise []

/-- The transposed weight. -/
theorem v3_at (n : Fin 18480) (k : Fin 2048) : (V m c main_v3 (ix2 n k) : EReal) = aW m c (ix2 k n) := by
  entry_read; pointwise []

/-- The narrow weights: the low-rank rows, the two rows of heads' gates, and rows of zeros, one under another. -/
theorem v7_eq : V m c main_v7 = (concatenate S128x2048 0 [
      ⟨S16x2048, extractStridedSlice S16x2048 ![6144, 0] (truncf (F := Ideal) .bf16 (transpose S18480x2048 [1, 0] (m ((c : Thread nD τ).loc main_arg2)) transposes_S2048x18480_S18480x2048_1_0) bitsLt_bf16_f32) slices_S18480x2048_S16x2048_6144_0⟩,
      ⟨S32x2048, extractStridedSlice S32x2048 ![14352, 0] (truncf (F := Ideal) .bf16 (transpose S18480x2048 [1, 0] (m ((c : Thread nD τ).loc main_arg2)) transposes_S2048x18480_S18480x2048_1_0) bitsLt_bf16_f32) slices_S18480x2048_S32x2048_14352_0⟩,
      ⟨S80x2048, broadcastInDim S80x2048 ![] bcast_S_S80x2048 (constant (F := Ideal) S_ .bf16 0x0000#16)⟩]
      concatenates_S16x2048_S32x2048_S80x2048_S128x2048_d0 : FVec Ideal S128x2048 .bf16) := rfl

/-- The narrow weight: 16 columns, 32 columns, and zeros. -/
theorem v7_at (l : Fin 128) (k : Fin 2048) : (V m c main_v7 (ix2 l k) : EReal) =
    (if h : l.val < 16 then aW m c (ix2 k ⟨6144 + l.val, by omega⟩)
    else if h : l.val - 16 < 32 then aW m c (ix2 k ⟨14352 + (l.val - 16), by omega⟩)
    else 0 : EReal) := by
  rw [v7_eq]; pointwise []

/-- The logarithms of the decay rates, in lanes 32 to 47. -/
theorem v12_at (l : Fin 128) : (V m c main_v12 (ix2 0 l) : EReal) =
    (if h : 32 ≤ l.val ∧ l.val < 48 then aL m c (ix1 ⟨l.val - 32, by omega⟩) else 0 : EReal) := by
  entry_read
  refine scatter_at _ (fun _ => ?_) _ ?_ ?_ _ l <;> pointwise []

/-- The decay biases, in lanes 32 to 47. -/
theorem v17_at (l : Fin 128) : (V m c main_v17 (ix2 0 l) : EReal) =
    (if h : 32 ≤ l.val ∧ l.val < 48 then aD m c (ix1 ⟨l.val - 32, by omega⟩) else 0 : EReal) := by
  entry_read
  refine scatter_at _ (fun _ => ?_) _ ?_ ?_ _ l <;> pointwise []

/-! ## The windows' index maps, and the blocks of the inputs -/

/-- The windows' index maps; the weight's window starts at a row that skips the narrow columns. -/
theorem idx : ∀ t : Fin cfg0.N,
    win0_0.index t = ![t.val / 9, 0] ∧ win0_1.index t = ![t.val / 18, 0, 1] ∧ win0_2.index t = ![t.val / 18, 0, 0]
    ∧ win0_4.index t = ![0, 0] ∧ win0_5.index t = ![0, 0] ∧ win0_6.index t = ![0, 0]
    ∧ win0_7.index t = ![t.val / 9, t.val % 9] ∧ win0_8.index t = ![t.val / 9, 0] :=
  (by decide +kernel : ∀ t : Fin grid0.N, _)

/-- The weight window is placed by rows: blocks of 2048, past the narrow columns that lie between them. -/
theorem idx3 : ∀ t : Fin cfg0.N,
    win0_3.index t = ![t.val % 9 * 2048 + (if t.val % 9 < 3 then 0 else if t.val % 9 < 7 then 16 else 48), 0] :=
  (by decide +kernel : ∀ t : Fin grid0.N, _)

/-- The grid has 144 points. -/
theorem lt_N (t : Fin cfg0.N) : t.val < 144 := lt_of_lt_of_eq t.isLt N_0

/-- A point reads 1024 rows of the input, those of its row block. -/
theorem blk0_at (t : Fin cfg0.N) (i : Fin 1024) (k : Fin 2048) :
    (iblk m c 0 t (ix2 i k) : EReal) = V m c main_v0 (ix2 ⟨t.val / 9 * 1024 + i.val, by have := lt_N t; omega⟩ k) := by
  blk_ext [iblk, idx t]

/-- The scale of the row block's sequence. -/
theorem blk1_at (t : Fin cfg0.N) (k : Fin 2048) :
    (iblk m c 1 t (ix3 0 0 k) : EReal) = V m c main_v1 (ix3 ⟨t.val / 18, by have := lt_N t; omega⟩ 0 ⟨2048 + k.val, by omega⟩) := by
  blk_ext [iblk, idx t]

/-- The shift of the row block's sequence. -/
theorem blk2_at (t : Fin cfg0.N) (k : Fin 2048) :
    (iblk m c 2 t (ix3 0 0 k) : EReal) = V m c main_v1 (ix3 ⟨t.val / 18, by have := lt_N t; omega⟩ 0 ⟨k.val, by omega⟩) := by
  blk_ext [iblk, idx t]

/-- The weight's window holds 2048 of its rows, from the window's first element on. -/
theorem blk3_at (t : Fin cfg0.N) (n k : Fin 2048) :
    (iblk m c 3 t (ix2 n k) : EReal)
      = V m c main_v3 (ix2 ⟨t.val % 9 * 2048 + (if t.val % 9 < 3 then 0 else if t.val % 9 < 7 then 16 else 48) + n.val, by split <;> (try split) <;> omega⟩ k) := by
  have e0 : (((View.whole main_v3).slice (win0_3.rect t)).emb (ix2 n k) 0 : ℕ)
      = t.val % 9 * 2048 + (if t.val % 9 < 3 then 0 else if t.val % 9 < 7 then 16 else 48) + n.val := by
    refine (Pipeline.Window.rect_emb_val_off win0_3 t (ix2 n k) 0).trans ?_
    rw [idx3 t]
    rfl
  have e1 : (((View.whole main_v3).slice (win0_3.rect t)).emb (ix2 n k) 1 : ℕ) = k.val := by
    refine (Pipeline.Window.rect_emb_val_off win0_3 t (ix2 n k) 1).trans ?_
    rw [idx3 t]
    exact Nat.zero_add _
  blk_ext [iblk]

/-- Every point reads all narrow weights. -/
theorem blk4_at (t : Fin cfg0.N) (l : Fin 128) (k : Fin 2048) : (iblk m c 4 t (ix2 l k) : EReal) = V m c main_v7 (ix2 l k) := by
  blk_ext [iblk, idx t]

/-- Every point reads all decay rates. -/
theorem blk5_at (t : Fin cfg0.N) (l : Fin 128) : (iblk m c 5 t (ix2 0 l) : EReal) = V m c main_v12 (ix2 0 l) := by
  blk_ext [iblk, idx t]

/-- Every point reads all step biases. -/
theorem blk6_at (t : Fin cfg0.N) (l : Fin 128) : (iblk m c 6 t (ix2 0 l) : EReal) = V m c main_v17 (ix2 0 l) := by
  blk_ext [iblk, idx t]

end Cert.KernelIdeal.Hand
-- ==== Proof.InprojRef.lean ====
module

public import proofs.«01_k».proof.Proof.Gen.ReferenceIdeal.Run
public import proofs.«01_k».proof.Proof.Sums

@[expose] public section

/-! # The reference of the projection, read at an index -/

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open scoped BigOperators

/-- The modulated layer input `x·(1 + scale) + shift`. -/
def REFh (X : FVec Ideal S8x2048x2048 .f32) (A : FVec Ideal S8x6144 .f32) : FVec Ideal S8x2048x2048 .f32 :=
  (addf (mulf X (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] A slices_S8x6144_S8x2048_0_2048))))) (broadcastInDim S8x2048x2048 ![0, 1, 2] bcast_S8x1x2048_S8x2048x2048_0_1_2 (broadcastInDim S8x1x2048 ![0, 2] bcast_S8x2048_S8x1x2048_0_2 (extractStridedSlice S8x2048 ![0, 0] A slices_S8x6144_S8x2048_0_0))))

/-- The whole projection. -/
def REFp (X : FVec Ideal S8x2048x2048 .f32) (A : FVec Ideal S8x6144 .f32) (W : FVec Ideal S2048x18480 .f32) : FVec Ideal S8x2048x18480 .f32 :=
  Host.dotGeneral dot_S8x2048x2048_S2048x18480_S8x2048x18480_2_0_01_1_n_n none (REFh X A) W

/-- The first result: the wide columns. -/
def REFu (X : FVec Ideal S8x2048x2048 .f32) (A : FVec Ideal S8x6144 .f32) (W : FVec Ideal S2048x18480 .f32) : FVec Ideal S16384x18432 .bf16 :=
  truncf .bf16 (shapeCast _ ((concatenate S8x2048x18432 2 [⟨S8x2048x6144, ((extractStridedSlice S8x2048x6144 ![0, 0, 0] (REFp X A W) slices_S8x2048x18480_S8x2048x6144_0_0_0) : (⟨S8x2048x6144, .f32⟩ : BufTy).Contents (Elt Ideal))⟩, ⟨S8x2048x8192, ((extractStridedSlice S8x2048x8192 ![0, 0, 6160] (REFp X A W) slices_S8x2048x18480_S8x2048x8192_0_0_6160) : (⟨S8x2048x8192, .f32⟩ : BufTy).Contents (Elt Ideal))⟩, ⟨S8x2048x4096, ((extractStridedSlice S8x2048x4096 ![0, 0, 14384] (REFp X A W) slices_S8x2048x18480_S8x2048x4096_0_0_14384) : (⟨S8x2048x4096, .f32⟩ : BufTy).Contents (Elt Ideal))⟩] concatenates_S8x2048x6144_S8x2048x8192_S8x2048x4096_S8x2048x18432_d2 : (⟨S8x2048x18432, .f32⟩ : BufTy).Contents (Elt Ideal))) shapeCasts_S8x2048x18432_S16384x18432) bitsLt_bf16_f32

/-- The argument of the softplus: the decay columns and their bias, padded with zeros to 96 lanes. -/
def REFz (X : FVec Ideal S8x2048x2048 .f32) (A : FVec Ideal S8x6144 .f32) (W : FVec Ideal S2048x18480 .f32) (D : FVec Ideal S16 .f32) : FVec Ideal S8x2048x96 .f32 :=
  (addf (pad S8x2048x96 ![0, 0, 0] ![0, 0, 80] ![0, 0, 0] (extractStridedSlice S8x2048x16 ![0, 0, 14368] (REFp X A W) slices_S8x2048x18480_S8x2048x16_0_0_14368) (sitofp .f32 (constantI S_ 32 0#32)) pads_S8x2048x16_S8x2048x96_000_000_0800 h_S_) (broadcastInDim S8x2048x96 ![0, 1, 2] bcast_S1x1x96_S8x2048x96_0_1_2 (broadcastInDim S1x1x96 ![2] bcast_S96_S1x1x96_2 (pad S96 ![0] ![80] ![0] D (sitofp .f32 (constantI S_ 32 0#32)) pads_S16_S96_0800 h_S_))))

/-- The logarithmic decay `-exp(a_log)·softplus(z)`. -/
def REFg (X : FVec Ideal S8x2048x2048 .f32) (A : FVec Ideal S8x6144 .f32) (W : FVec Ideal S2048x18480 .f32) (L D : FVec Ideal S16 .f32) : FVec Ideal S8x2048x96 .f32 :=
  (mulf (broadcastInDim S8x2048x96 ![0, 1, 2] bcast_S1x1x96_S8x2048x96_0_1_2 (broadcastInDim S1x1x96 ![2] bcast_S96_S1x1x96_2 (Host.negf (Host.exp (pad S96 ![0] ![80] ![0] L (sitofp .f32 (constantI S_ 32 0#32)) pads_S16_S96_0800 h_S_))))) (select (cmpf .une (subf (REFz X A W D) (broadcastInDim S8x2048x96 ![] bcast_S_S8x2048x96 (constant S_ .f32 0x00000000#32))) (subf (REFz X A W D) (broadcastInDim S8x2048x96 ![] bcast_S_S8x2048x96 (constant S_ .f32 0x00000000#32)))) (addf (REFz X A W D) (broadcastInDim S8x2048x96 ![] bcast_S_S8x2048x96 (constant S_ .f32 0x00000000#32))) (addf (maximumf (REFz X A W D) (broadcastInDim S8x2048x96 ![] bcast_S_S8x2048x96 (constant S_ .f32 0x00000000#32))) (Host.log1p (Host.exp (Host.negf (Host.absf (subf (REFz X A W D) (broadcastInDim S8x2048x96 ![] bcast_S_S8x2048x96 (constant S_ .f32 0x00000000#32))))))))))

/-- The second result: raw columns, sigmoid columns and the running sums of the decay. -/
def REFs (X : FVec Ideal S8x2048x2048 .f32) (A : FVec Ideal S8x6144 .f32) (W : FVec Ideal S2048x18480 .f32) (L D : FVec Ideal S16 .f32) : FVec Ideal S16384x128 .f32 :=
  shapeCast _ ((concatenate S8x2048x128 2 [⟨S8x2048x16, ((extractStridedSlice S8x2048x16 ![0, 0, 6144] (REFp X A W) slices_S8x2048x18480_S8x2048x16_0_0_6144) : (⟨S8x2048x16, .f32⟩ : BufTy).Contents (Elt Ideal))⟩, ⟨S8x2048x16, ((Host.divf (broadcastInDim S8x2048x16 ![] bcast_S_S8x2048x16 (constant S_ .f32 0x3F800000#32)) (addf (broadcastInDim S8x2048x16 ![] bcast_S_S8x2048x16 (constant S_ .f32 0x3F800000#32)) (Host.exp (Host.negf (extractStridedSlice S8x2048x16 ![0, 0, 14352] (REFp X A W) slices_S8x2048x18480_S8x2048x16_0_0_14352))))) : (⟨S8x2048x16, .f32⟩ : BufTy).Contents (Elt Ideal))⟩, ⟨S8x2048x96, ((shapeCast _ (Host.reduceWindowAdd ![1, 1, 128, 1] ![1, 1, 1, 1] ![0, 0, 127, 0] ![0, 0, 0, 0] (shapeCast _ (REFg X A W L D) shapeCasts_S8x2048x96_S8x16x128x96) (broadcastInDim S_ ![] bcast_S_S_ (constant S_ .f32 0x00000000#32)) reduceWindows_S8x16x128x96_S8x16x128x96_w1s1p0_0_w1s1p0_0_w128s1p127_0_w1s1p0_0 h_S_) shapeCasts_S8x16x128x96_S8x2048x96) : (⟨S8x2048x96, .f32⟩ : BufTy).Contents (Elt Ideal))⟩] concatenates_S8x2048x16_S8x2048x16_S8x2048x96_S8x2048x128_d2 : (⟨S8x2048x128, .f32⟩ : BufTy).Contents (Elt Ideal))) shapeCasts_S8x2048x128_S16384x128

/-- The modulated input at batch `b`, position `s`, feature `k`. -/
def hRow (X : FVec Ideal S8x2048x2048 .f32) (A : FVec Ideal S8x6144 .f32) (b : Fin 8) (s k : Fin 2048) : EReal :=
  X (ix3 b s k) * (1 + A (ix2 b ⟨2048 + k.val, by omega⟩)) + A (ix2 b ⟨k.val, by omega⟩)

/-- Column `n` of the projection at batch `b`, position `s`. -/
def pAt (X : FVec Ideal S8x2048x2048 .f32) (A : FVec Ideal S8x6144 .f32) (W : FVec Ideal S2048x18480 .f32) (b : Fin 8) (s : Fin 2048) (n : Fin 18480) : EReal :=
  ∑ k : Fin 2048, hRow X A b s k * W (ix2 k n)

/-- The decay at batch `b`, position `s`, in lane `l` of 96; the lanes past 16 hold the padding. -/
def gAt (X : FVec Ideal S8x2048x2048 .f32) (A : FVec Ideal S8x6144 .f32) (W : FVec Ideal S2048x18480 .f32) (L D : FVec Ideal S16 .f32)
    (b : Fin 8) (s : Fin 2048) (l : Fin 96) : EReal :=
  if h : l.val < 16 then Cert.Sums.decay (L (ix1 ⟨l.val, h⟩)) (pAt X A W b s ⟨14368 + l.val, by omega⟩ + D (ix1 ⟨l.val, h⟩))
  else Cert.Sums.decay 0 0

/-- Column `n` of the projection of row `R` of the flattened input. -/
def pRow (X : FVec Ideal S8x2048x2048 .f32) (A : FVec Ideal S8x6144 .f32) (W : FVec Ideal S2048x18480 .f32) (R : Fin 16384) (n : Fin 18480) : EReal :=
  pAt X A W ⟨R.val / 2048, by omega⟩ ⟨R.val % 2048, by omega⟩ n

/-- The decay of row `R` of the flattened input. -/
def gRow (X : FVec Ideal S8x2048x2048 .f32) (A : FVec Ideal S8x6144 .f32) (W : FVec Ideal S2048x18480 .f32) (L D : FVec Ideal S16 .f32)
    (R : Fin 16384) (l : Fin 96) : EReal :=
  gAt X A W L D ⟨R.val / 2048, by omega⟩ ⟨R.val % 2048, by omega⟩ l

/-- Where a column of the first result lies in the projection. -/
def col (n : Fin 18432) : Fin 18480 :=
  ⟨if n.val < 6144 then n.val else if n.val < 14336 then n.val + 16 else n.val + 48, by split <;> (try split) <;> omega⟩

/-- The reference's projection at an index. -/
theorem REFu_apply (X : FVec Ideal S8x2048x2048 .f32) (A : FVec Ideal S8x6144 .f32) (W : FVec Ideal S2048x18480 .f32)
    (R : Fin 16384) (n : Fin 18432) : REFu X A W (ix2 R n) = (pRow X A W R (col n) : EReal) := by
  have hn := n.isLt
  pointwise [REFu, REFp, REFh]
  unfold pRow pAt hRow col
  split
  · next h => exact Finset.sum_congr rfl fun k _ => by simp only [if_pos h]
  · next h =>
    split
    · next h' =>
      have e : 6160 + (n.val - 6144) = n.val + 16 := by omega
      have h'' : n.val < 14336 := by omega
      exact Finset.sum_congr rfl fun k _ => by simp only [if_neg h, if_pos h'', e]
    · next h' =>
      have e : 14384 + (n.val - 6144 - 8192) = n.val + 48 := by omega
      have h'' : ¬ n.val < 14336 := by omega
      exact Finset.sum_congr rfl fun k _ => by simp only [if_neg h, if_neg h'', e]

/-- The integer zero becomes the number zero. -/
theorem sitofp_zero : (FloatOps.sitofp (F := Ideal) .f32 (0#32 : BitVec 32) : EReal) = 0 := by
  simp [FloatOps.sitofp]

/-- The reference's decay at an index. -/
theorem REFg_apply (X : FVec Ideal S8x2048x2048 .f32) (A : FVec Ideal S8x6144 .f32) (W : FVec Ideal S2048x18480 .f32) (L D : FVec Ideal S16 .f32)
    (b : Fin 8) (s : Fin 2048) (l : Fin 96) : REFg X A W L D (ix3 b s l) = (gAt X A W L D b s l : EReal) := by
  pointwise [REFg, REFz, REFp, REFh]
  unfold gAt pAt hRow Cert.Sums.decay
  by_cases h : l.val < 16
  · simp only [dif_pos h, ne_eq, not_true_eq_false, if_false]
    rfl
  · simp only [dif_neg h, ne_eq, not_true_eq_false, if_false, sitofp_zero, add_zero]
    rfl

/-- The reference's narrow result at an index. -/
theorem REFs_apply (X : FVec Ideal S8x2048x2048 .f32) (A : FVec Ideal S8x6144 .f32) (W : FVec Ideal S2048x18480 .f32) (L D : FVec Ideal S16 .f32)
    (R : Fin 16384) (l : Fin 128) :
    REFs X A W L D (ix2 R l) =
      (if h : l.val < 16 then pRow X A W R ⟨6144 + l.val, by omega⟩
       else if h : l.val - 16 < 16 then Ideal.div 1 (1 + Ideal.exp (-pRow X A W R ⟨14352 + (l.val - 16), by omega⟩))
       else ∑ p ∈ Finset.range (R.val % 128 + 1),
         if h : R.val / 128 * 128 + p < 16384 then gRow X A W L D ⟨R.val / 128 * 128 + p, h⟩ ⟨l.val - 16 - 16, by omega⟩ else 0 : EReal) := by
  have hl := l.isLt
  have hR := R.isLt
  pointwise [REFs, REFp, REFh]
  refine dite_congr rfl (fun _ => rfl) fun h1 => dite_congr rfl (fun _ => rfl) fun h2 => ?_
  refine (Cert.Sums.cumsum4 rfl _ _ ?_ _ _
    (fun p => if h : R.val / 128 * 128 + p < 16384 then gRow X A W L D ⟨R.val / 128 * 128 + p, h⟩ ⟨l.val - 16 - 16, by omega⟩ else 0)
    _ _ _ _ fun p => ?_).trans ?_
  · pointwise []
  · pointwise []
    have hp := p.isLt
    have e1 : R.val / 2048 = (R.val / 128 * 128 + p.val) / 2048 := by omega
    have e2 : R.val % 2048 / 128 * 128 + p.val = (R.val / 128 * 128 + p.val) % 2048 := by omega
    rw [REFg_apply, dif_pos (by omega : R.val / 128 * 128 + p.val < 16384)]
    unfold gRow
    simp only [e1, e2]
  · simp only [show R.val % 2048 % 128 = R.val % 128 by omega]

end Cert.ReferenceIdeal.Hand
-- ==== Proof.InprojValue.lean ====
module

public import proofs.«01_k».proof.Proof.InprojHost
public import proofs.«01_k».proof.Proof.InprojRef

@[expose] public section

/-! # The projection kernel's results are the reference's -/

set_option maxRecDepth 16384

noncomputable section

namespace Cert.KernelIdeal.Hand

open Cert.KernelIdeal.Gen
open Idealize.ShloMosaic Idealize.ShloMosaic.TcCoe Idealize.ShloMosaic.Tactic
open Cert.ReferenceIdeal.Hand (REFu REFs REFu_apply REFs_apply hRow pRow pAt gAt gRow col)
open scoped BigOperators

variable (m : (ℓ : Loc nD τ sig) → Buf (Elt Ideal) ℓ) (c : Dev nD)

/-- The modulated rows that a point works on, as rows of the whole input. -/
theorem hAt_at (t : Fin cfg0.N) (i : Fin 1024) (k : Fin 2048) (R : Fin 16384) (hR : R.val = t.val / 9 * 1024 + i.val) :
    (hAt m c t.val (ix2 i k) : EReal) = hRow (aX m c) (aA m c) ⟨R.val / 2048, by omega⟩ ⟨R.val % 2048, by omega⟩ k := by
  have ht := lt_N t
  have er : (row t.val).val = t.val / 9 * 9 := by simp only [row]; omega
  unfold hAt hOf
  refine (hBlk_apply _ _ _ i k).trans ?_
  rw [blk0_at, blk1_at, blk2_at, v0_at, v1_at, v1_at]
  unfold hRow
  have e0 : (row t.val).val / 9 * 1024 + i.val = R.val := by omega
  have e1 : (row t.val).val / 18 = R.val / 2048 := by omega
  simp only [e0, e1]

/-- A block of the first result at an index. -/
theorem u_at (t : Fin cfg0.N) (i : Fin 1024) (n : Fin 2048) (R : Fin 16384) (N : Fin 18432)
    (hR : R.val = t.val / 9 * 1024 + i.val) (hN : N.val = t.val % 9 * 2048 + n.val) :
    (uBlk (hAt m c t.val) (iblk m c 3 t) (ix2 i n) : EReal) = REFu (aX m c) (aA m c) (aW m c) (ix2 R N) := by
  have ht := lt_N t
  rw [REFu_apply]
  refine (uBlk_apply _ _ i n).trans ?_
  unfold pRow pAt
  refine Finset.sum_congr rfl fun k _ => ?_
  rw [hAt_at m c t i k R hR, blk3_at, v3_at]
  have e : (⟨t.val % 9 * 2048 + (if t.val % 9 < 3 then 0 else if t.val % 9 < 7 then 16 else 48) + n.val, by split <;> (try split) <;> omega⟩ : Fin 18480) = col N := by
    apply Fin.ext
    unfold col
    simp only
    split_ifs <;> omega
  rw [e]

/-- A row of the narrow weight against a row of the input: the raw columns, the sigmoid and decay columns, zero. -/
theorem raw_at (t : Fin cfg0.N) (i : Fin 1024) (l : Fin 128) (R : Fin 16384) (hR : R.val = t.val / 9 * 1024 + i.val) :
    rawRow (hAt m c t.val) (iblk m c 4 (row t.val)) i l =
      (if h : l.val < 16 then pRow (aX m c) (aA m c) (aW m c) R ⟨6144 + l.val, by omega⟩
       else if h : l.val - 16 < 32 then pRow (aX m c) (aA m c) (aW m c) R ⟨14352 + (l.val - 16), by omega⟩ else 0 : EReal) := by
  unfold rawRow pRow pAt
  split
  · next h =>
    refine Finset.sum_congr rfl fun k _ => ?_
    rw [hAt_at m c t i k R hR, blk4_at, v7_at, dif_pos h]
  · next h =>
    split
    · next h' =>
      refine Finset.sum_congr rfl fun k _ => ?_
      rw [hAt_at m c t i k R hR, blk4_at, v7_at, dif_neg h, dif_pos h']
    · next h' =>
      refine Finset.sum_eq_zero fun k _ => ?_
      rw [blk4_at, v7_at, dif_neg h, dif_neg h', mul_zero]

/-- The decay that the kernel sums is the reference's. -/
theorem dec_at (t : Fin cfg0.N) (i : Fin 1024) (l : Fin 128) (R : Fin 16384) (hR : R.val = t.val / 9 * 1024 + i.val) (hl : 32 ≤ l.val) :
    decRow (hAt m c t.val) (iblk m c 4 (row t.val)) (iblk m c 5 (row t.val)) (iblk m c 6 (row t.val)) i l
      = gRow (aX m c) (aA m c) (aW m c) (aL m c) (aD m c) R ⟨l.val - 16 - 16, by omega⟩ := by
  unfold decRow gRow gAt
  rw [raw_at m c t i l R hR, blk5_at, blk6_at, v12_at, v17_at, dif_neg (by omega : ¬ l.val < 16)]
  by_cases h : l.val < 48
  · have e1 : 14352 + (l.val - 16) = 14368 + (l.val - 16 - 16) := by omega
    have e2 : l.val - 32 = l.val - 16 - 16 := by omega
    rw [dif_pos (by omega : l.val - 16 < 32), dif_pos ⟨hl, h⟩, dif_pos ⟨hl, h⟩, dif_pos (by omega : l.val - 16 - 16 < 16)]
    simp only [e1, e2]
    rfl
  · rw [dif_neg (by omega : ¬ l.val - 16 < 32), dif_neg (fun hh => h hh.2), dif_neg (fun hh => h hh.2),
      dif_neg (by omega : ¬ l.val - 16 - 16 < 16), zero_add]

/-- A block of the second result at an index. -/
theorem sm_at (t : Fin cfg0.N) (i : Fin 1024) (l : Fin 128) (R : Fin 16384) (hR : R.val = t.val / 9 * 1024 + i.val) :
    (smAt m c t.val (ix2 i l) : EReal) = REFs (aX m c) (aA m c) (aW m c) (aL m c) (aD m c) (ix2 R l) := by
  have ht := lt_N t
  rw [REFs_apply]
  refine (smBlk_apply (hAt m c t.val) (iblk m c 4 (row t.val)) (iblk m c 5 (row t.val)) (iblk m c 6 (row t.val)) i l).trans ?_
  by_cases h1 : l.val < 16
  · rw [if_pos h1, dif_pos h1, raw_at m c t i l R hR, dif_pos h1]
  · rw [if_neg h1, dif_neg h1]
    by_cases h2 : l.val < 32
    · rw [if_pos h2, dif_pos (by omega : l.val - 16 < 16), raw_at m c t i l R hR, dif_neg h1, dif_pos (by omega : l.val - 16 < 32)]
    · rw [if_neg h2, dif_neg (by omega : ¬ l.val - 16 < 16)]
      have e : R.val % 128 = i.val % 128 := by omega
      simp only [e]
      refine Finset.sum_congr rfl fun p hp => ?_
      have := Finset.mem_range.1 hp
      rw [dif_pos (by omega), dif_pos (by omega)]
      exact dec_at m c t _ l _ (by simp only; omega) (by omega)

/-- The first result, block by block. -/
theorem final7 : (dats m 0 c).arrAt 7 cfg0.N = REFu (aX m c) (aA m c) (aW m c) := by
  refine (dats m 0 c).arrAt_eq_of_covers 7 (REFu (aX m c) (aA m c) (aW m c)) (by decide +kernel) fun t hf y => ?_
  blk_simp
  rw [after_7]
  have ht := lt_N t
  have hy0 : (y 0).val < 1024 := (y 0).isLt
  have hy1 : (y 1).val < 2048 := (y 1).isLt
  refine Eq.trans (congrArg (uBlk (hAt m c t.val) (iblk m c 3 t)) ?_)
    ((u_at m c t ⟨(y 0).val, hy0⟩ ⟨(y 1).val, hy1⟩ ⟨t.val / 9 * 1024 + (y 0).val, by omega⟩ ⟨t.val % 9 * 2048 + (y 1).val, by omega⟩ rfl rfl).trans
      (congrArg (REFu (aX m c) (aA m c) (aW m c)) ?_))
  · blk_ext []
  · blk_ext [idx t]

/-- The second result, block by block. -/
theorem final8 : (dats m 0 c).arrAt 8 cfg0.N = REFs (aX m c) (aA m c) (aW m c) (aL m c) (aD m c) := by
  refine (dats m 0 c).arrAt_eq_of_covers 8 (REFs (aX m c) (aA m c) (aW m c) (aL m c) (aD m c)) (by decide +kernel) fun t hf y => ?_
  blk_simp
  rw [after_8]
  have ht := lt_N t
  have hy0 : (y 0).val < 1024 := (y 0).isLt
  have hy1 : (y 1).val < 128 := (y 1).isLt
  refine Eq.trans (congrArg (smAt m c t.val) ?_)
    ((sm_at m c t ⟨(y 0).val, hy0⟩ ⟨(y 1).val, hy1⟩ ⟨t.val / 9 * 1024 + (y 0).val, by omega⟩ rfl).trans
      (congrArg (REFs (aX m c) (aA m c) (aW m c) (aL m c) (aD m c)) ?_))
  · blk_ext []
  · blk_ext [idx t]

end Cert.KernelIdeal.Hand
-- ==== Proof.InprojClaim.lean ====
module

public import proofs.«01_k».proof.Defs
public import proofs.«01_k».proof.Proof.InprojValue

@[expose] public section

/-! # The projection's value claim -/

set_option maxRecDepth 16384

noncomputable section

namespace Cert.KernelIdeal.Hand

open Cert.KernelIdeal.Gen
open Idealize.ShloMosaic Idealize.ShloMosaic.TcCoe Idealize.SL.Sem

/-- After the run the two result arrays hold the reference's values and the arguments are unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v18_0) = Cert.ReferenceIdeal.Hand.REFu (aX m c) (aA m c) (aW m c)
      ∧ r.2.mem ((c.tc : Thread nD τ).loc main_v18_1) = Cert.ReferenceIdeal.Hand.REFs (aX m c) (aA m c) (aW m c) (aL m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (final7 m c), ((h.1 c).1 8).trans (final8 m c), h.2 c⟩)
    (θ_run_and (run_main m ρ) (frame_of m ρ (dats m) (A_eq m) (run_main m ρ)))

/-- The projection kernel and its reference, read over the extended reals, end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.ReferenceIdeal.Hand.REFu (aX m c) (aA m c) (aW m c),
    fun c => Cert.ReferenceIdeal.Hand.REFs (aX m c) (aA m c) (aW m c) (aL m c) (aD m c), run_values m g, ?_⟩
  refine (θ_run _ _ _).mono (fun r h c => ?_) (Cert.ReferenceIdeal.Value.run (F := Ideal) m' g')
  obtain ⟨e0, e1, e2, e3, e4⟩ := hargs c
  obtain ⟨h0, h1, h2⟩ := h c
  refine ⟨h0.trans ?_, h1.trans ?_, h2⟩
  · change Cert.ReferenceIdeal.Hand.REFu (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]
  · change Cert.ReferenceIdeal.Hand.REFs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]

/-- The projection's reference runs, leaves its arguments unchanged, and has no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.KernelIdeal.Hand
-- ==== Proof.MergeRefValue.lean ====
module

public import proofs.«01_k».proof.Proof.Scalars
public import proofs.«01_k».proof.Proof.Gen.MergeRefIdeal.Run
public import Idealize.ShloMosaic.Lib.Claim

@[expose] public section

/-! # The gated merge's reference at an index

`σ(u_a)·(y_gla·W₀) + σ(u_b)·(y_gdn·W₁)`, where `u_a` and `u_b` are the last two groups of 2048 columns of `u`. -/

set_option maxRecDepth 16384

noncomputable section

namespace Cert.MergeRefIdeal.Hand

open Cert.MergeRefIdeal Cert.MergeRefIdeal.Gen
open Idealize.ShloMosaic Idealize.ShloMosaic.TcCoe Idealize.ShloMosaic.Tactic
open scoped BigOperators

/-- The logistic function. -/
def gate (x : EReal) : EReal := Ideal.div 1 (1 + Ideal.exp (-x))

/-- The merged value of row `R` in column `n`. -/
def merged (G D : FVec Ideal S16384x2048 .bf16) (W : FVec Ideal S2x2048x2048 .f32) (U : FVec Ideal S16384x18432 .bf16)
    (R : Fin 16384) (n : Fin 2048) : EReal :=
  gate (U (ix2 R ⟨14336 + n.val, by omega⟩)) * (∑ k : Fin 2048, G (ix2 R k) * W (ix3 0 k n))
    + gate (U (ix2 R ⟨16384 + n.val, by omega⟩)) * (∑ k : Fin 2048, D (ix2 R k) * W (ix3 1 k n))

/-- The merged array. -/
def MERGED (G D : FVec Ideal S16384x2048 .bf16) (W : FVec Ideal S2x2048x2048 .f32) (U : FVec Ideal S16384x18432 .bf16) :
    FVec Ideal S16384x2048 .bf16 :=
  fun i => merged G D W U (i 0) (i 1)

/-- The reference's term is the merged array. -/
theorem ref_eq (G D : FVec Ideal S16384x2048 .bf16) (W : FVec Ideal S2x2048x2048 .f32) (U : FVec Ideal S16384x18432 .bf16) :
    (truncf .bf16 (addf (mulf (extractStridedSlice S16384x2048 ![0, 0] (Host.divf (broadcastInDim S16384x4096 ![] bcast_S_S16384x4096 (constant (F := Ideal) S_ .f32 0x3F800000#32)) (addf (broadcastInDim S16384x4096 ![] bcast_S_S16384x4096 (constant (F := Ideal) S_ .f32 0x3F800000#32)) (Host.exp (Host.negf (extf (F := Ideal) .f32 (extractStridedSlice S16384x4096 ![0, 14336] U slices_S16384x18432_S16384x4096_0_14336) bitsLt_bf16_f32))))) slices_S16384x4096_S16384x2048_0_0) (Host.dotGeneral dot_S16384x2048_S2048x2048_S16384x2048_1_0_0_1_n_n none (extf (F := Ideal) .f32 G bitsLt_bf16_f32) (shapeCast _ (extractStridedSlice S1x2048x2048 ![0, 0, 0] W slices_S2x2048x2048_S1x2048x2048_0_0_0) shapeCasts_S1x2048x2048_S2048x2048))) (mulf (extractStridedSlice S16384x2048 ![0, 2048] (Host.divf (broadcastInDim S16384x4096 ![] bcast_S_S16384x4096 (constant (F := Ideal) S_ .f32 0x3F800000#32)) (addf (broadcastInDim S16384x4096 ![] bcast_S_S16384x4096 (constant (F := Ideal) S_ .f32 0x3F800000#32)) (Host.exp (Host.negf (extf (F := Ideal) .f32 (extractStridedSlice S16384x4096 ![0, 14336] U slices_S16384x18432_S16384x4096_0_14336) bitsLt_bf16_f32))))) slices_S16384x4096_S16384x2048_0_2048) (Host.dotGeneral dot_S16384x2048_S2048x2048_S16384x2048_1_0_0_1_n_n none (extf (F := Ideal) .f32 D bitsLt_bf16_f32) (shapeCast _ (extractStridedSlice S1x2048x2048 ![1, 0, 0] W slices_S2x2048x2048_S1x2048x2048_1_0_0) shapeCasts_S1x2048x2048_S2048x2048)))) bitsLt_bf16_f32 : FVec Ideal S16384x2048 .bf16) = MERGED G D W U := by
  funext i
  let R : Fin 16384 := i 0
  let n : Fin 2048 := i 1
  have hi : i = ix2 R n := by funext a; match a with | ⟨0, _⟩ => rfl | ⟨1, _⟩ => rfl
  rw [hi]
  change _ = merged G D W U R n
  unfold merged gate
  pointwise []
  have e : 14336 + (2048 + n.val) = 16384 + n.val := by omega
  simp only [e]

end Cert.MergeRefIdeal.Hand
-- ==== Proof.MergeValue.lean ====
module

public import proofs.«01_k».proof.Defs
public import proofs.«01_k».proof.Proof.MergeRefValue
public import proofs.«01_k».proof.Proof.Gen.MergeIdeal.Value
public import Idealize.ShloMosaic.Lib.Claim

@[expose] public section

/-! # The gated merge against its reference

`σ(u_a)·(y_gla·W₀) + σ(u_b)·(y_gdn·W₁)`, where `u_a` and `u_b` are the last two groups of 2048 columns of `u`. -/

set_option maxRecDepth 16384

noncomputable section

namespace Cert.MergeIdeal.Hand

open Cert.MergeIdeal Cert.MergeIdeal.Gen
open Idealize.ShloMosaic Idealize.ShloMosaic.TcCoe Idealize.ShloMosaic.Tactic Idealize.SL.Sem
open Cert.MergeRefIdeal.Hand (gate merged MERGED)
open scoped BigOperators

/-- A block of the result, from the blocks that its grid point reads. -/
theorem block_apply (x0 x1 : FVec Ideal S1024x2048 .bf16) (x2 x3 : FVec Ideal S1x2048x1024 .bf16) (x4 x5 : FVec Ideal S1024x1024 .bf16)
    (r n : Fin 1024) :
    (out0_6 (F := Ideal) x0 x1 x2 x3 x4 x5 : FVec Ideal S1024x1024 .bf16) (ix2 r n) =
      (gate (x4 (ix2 r n)) * (∑ k : Fin 2048, x0 (ix2 r k) * x2 (ix3 0 k n))
        + gate (x5 (ix2 r n)) * (∑ k : Fin 2048, x1 (ix2 r k) * x3 (ix3 0 k n)) : EReal) := by
  unfold out0_6
  canon_tiles x hx
  pointwise [k0_pay1]
  simp only [Cert.Scalars.ofBits_half, Cert.Scalars.sigmoid_eq]
  change (r : ℕ) = _ at hx0; change (n : ℕ) = _ at hx1
  unfold gate
  blk_point []

variable (m : (ℓ : Loc nD τ sig) → Buf (Elt Ideal) ℓ) (c : Dev nD)

/-- The kernel's arguments, at their shapes. -/
abbrev aG : FVec Ideal S16384x2048 .bf16 := m ((c.tc : Thread nD τ).loc main_arg0)
abbrev aD : FVec Ideal S16384x2048 .bf16 := m ((c.tc : Thread nD τ).loc main_arg1)
abbrev aW : FVec Ideal S2x2048x2048 .f32 := m ((c.tc : Thread nD τ).loc main_arg2)
abbrev aU : FVec Ideal S16384x18432 .bf16 := m ((c.tc : Thread nD τ).loc main_arg3)

/-- The narrowed weight is the weight. -/
theorem v0_at (b : Fin 2) (k n : Fin 2048) : (V m c main_v0 (ix3 b k n) : EReal) = aW m c (ix3 b k n) := by
  entry_read; pointwise []

/-- The other operands are the arguments. -/
theorem a0_eq : V m c main_arg0 = aG m c := V_main_arg0 m c
/-- The second branch reaches the call as it was given. -/
theorem a1_eq : V m c main_arg1 = aD m c := V_main_arg1 m c
/-- The wide projection reaches the call as it was given. -/
theorem a3_eq : V m c main_arg3 = aU m c := V_main_arg3 m c

/-- The windows' index maps. -/
theorem idx : ∀ t : Fin cfg0.N,
    win0_0.index t = ![t.val / 2, 0] ∧ win0_1.index t = ![t.val / 2, 0]
    ∧ win0_2.index t = ![0, 0, t.val % 2] ∧ win0_3.index t = ![1, 0, t.val % 2]
    ∧ win0_4.index t = ![t.val / 2, 14 + t.val % 2] ∧ win0_5.index t = ![t.val / 2, 16 + t.val % 2]
    ∧ win0_6.index t = ![t.val / 2, t.val % 2] :=
  (by decide +kernel : ∀ t : Fin grid0.N, _)

/-- The grid has 32 points. -/
theorem lt_N (t : Fin cfg0.N) : t.val < 32 := lt_of_lt_of_eq t.isLt N_0

/-! The blocks of the inputs at a grid point. -/

/-- The first branch's rows of a grid point. -/
theorem blk0_at (t : Fin cfg0.N) (i : Fin 1024) (k : Fin 2048) :
    (iblk m c 0 t (ix2 i k) : EReal) = aG m c (ix2 ⟨t.val / 2 * 1024 + i.val, by have := lt_N t; omega⟩ k) := by
  rw [← a0_eq]; blk_ext [iblk, idx t]

/-- The second branch's rows of a grid point. -/
theorem blk1_at (t : Fin cfg0.N) (i : Fin 1024) (k : Fin 2048) :
    (iblk m c 1 t (ix2 i k) : EReal) = aD m c (ix2 ⟨t.val / 2 * 1024 + i.val, by have := lt_N t; omega⟩ k) := by
  rw [← a1_eq]; blk_ext [iblk, idx t]

/-- The first branch's weight columns of a grid point. -/
theorem blk2_at (t : Fin cfg0.N) (k : Fin 2048) (n : Fin 1024) :
    (iblk m c 2 t (ix3 0 k n) : EReal) = aW m c (ix3 0 k ⟨t.val % 2 * 1024 + n.val, by have := lt_N t; omega⟩) := by
  rw [← v0_at]; blk_ext [iblk, idx t]

/-- The second branch's weight columns of a grid point. -/
theorem blk3_at (t : Fin cfg0.N) (k : Fin 2048) (n : Fin 1024) :
    (iblk m c 3 t (ix3 0 k n) : EReal) = aW m c (ix3 1 k ⟨t.val % 2 * 1024 + n.val, by have := lt_N t; omega⟩) := by
  rw [← v0_at]; blk_ext [iblk, idx t]

/-- The first branch's gate columns of a grid point. -/
theorem blk4_at (t : Fin cfg0.N) (i n : Fin 1024) :
    (iblk m c 4 t (ix2 i n) : EReal) = aU m c (ix2 ⟨t.val / 2 * 1024 + i.val, by have := lt_N t; omega⟩ ⟨(14 + t.val % 2) * 1024 + n.val, by omega⟩) := by
  rw [← a3_eq]; blk_ext [iblk, idx t]

/-- The second branch's gate columns of a grid point. -/
theorem blk5_at (t : Fin cfg0.N) (i n : Fin 1024) :
    (iblk m c 5 t (ix2 i n) : EReal) = aU m c (ix2 ⟨t.val / 2 * 1024 + i.val, by have := lt_N t; omega⟩ ⟨(16 + t.val % 2) * 1024 + n.val, by omega⟩) := by
  rw [← a3_eq]; blk_ext [iblk, idx t]

/-- The result array, block by block. -/
theorem final : (dats m 0 c).arrAt 6 cfg0.N = MERGED (aG m c) (aD m c) (aW m c) (aU m c) := by
  refine (dats m 0 c).arrAt_eq_of_covers 6 (MERGED (aG m c) (aD m c) (aW m c) (aU m c)) (by decide +kernel) fun t hf y => ?_
  blk_simp
  rw [after0_6]
  have ht := lt_N t
  have hy0 : (y 0).val < 1024 := (y 0).isLt
  have hy1 : (y 1).val < 1024 := (y 1).isLt
  refine Eq.trans (congrArg (out0_6 (iblk m c 0 t) (iblk m c 1 t) (iblk m c 2 t) (iblk m c 3 t) (iblk m c 4 t) (iblk m c 5 t))
    (a₂ := ix2 ⟨(y 0).val, hy0⟩ ⟨(y 1).val, hy1⟩) ?_) ((block_apply _ _ _ _ _ _ _ _).trans ?_)
  · blk_ext []
  refine Eq.trans ?_ (congrArg (MERGED (aG m c) (aD m c) (aW m c) (aU m c))
    (a₁ := ix2 ⟨t.val / 2 * 1024 + (y 0).val, by omega⟩ ⟨t.val % 2 * 1024 + (y 1).val, by omega⟩) ?_)
  · rw [blk4_at, blk5_at]
    simp only [blk0_at, blk1_at, blk2_at, blk3_at]
    change _ = merged _ _ _ _ ⟨t.val / 2 * 1024 + (y 0).val, by omega⟩ ⟨t.val % 2 * 1024 + (y 1).val, by omega⟩
    unfold merged
    have e1 : (14 + t.val % 2) * 1024 + (y 1).val = 14336 + (t.val % 2 * 1024 + (y 1).val) := by omega
    have e2 : (16 + t.val % 2) * 1024 + (y 1).val = 16384 + (t.val % 2 * 1024 + (y 1).val) := by omega
    simp only [e1, e2]
  · blk_ext [idx t]

/-- The merge kernel and its reference, read over the extended reals, end with equal results. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => MERGED (aG m c) (aD m c) (aW m c) (aU m c), ?_, ?_⟩
  · exact (θ_run _ _ _).mono (fun _ h c => ⟨(h c).1.trans (final m c), (h c).2⟩) (Cert.MergeIdeal.Value.run_blocks (F := Ideal) m g)
  refine (θ_run _ _ _).mono (fun r h c => ?_) (Cert.MergeRefIdeal.Value.run (F := Ideal) m' g')
  obtain ⟨e0, e1, e2, e3⟩ := hargs c
  refine ⟨(h c).1.trans ((Cert.MergeRefIdeal.Hand.ref_eq _ _ _ _).trans ?_), (h c).2⟩
  change MERGED (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) = _
  rw [e0, e1, e2, e3]

/-- The merge's reference runs, leaves its arguments unchanged, and has no semaphore. -/
theorem frame_ref : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩)
    (Cert.MergeRefIdeal.Value.run (F := Ideal) m g)

end Cert.MergeIdeal.Hand
-- ==== Proof.OutRefValue.lean ====
module

public import proofs.«01_k».proof.Proof.Gen.OutRefIdeal.Run
public import Idealize.ShloMosaic.Lib.Claim
public import Idealize.ShloMosaic.Lib.Pipeline.ValueKit

@[expose] public section

/-! # The output projection's reference at an index

The residual `α·x + gate·(merged·W)`, then its layer norm. -/

set_option maxRecDepth 16384

noncomputable section

namespace Cert.OutRefIdeal.Hand

open Cert.OutRefIdeal Cert.OutRefIdeal.Gen
open Idealize.ShloMosaic Idealize.ShloMosaic.TcCoe Idealize.ShloMosaic.Tactic
open scoped BigOperators

/-- The residual. -/
def REFr (M : FVec Ideal S16384x2048 .bf16) (W : FVec Ideal S2048x2048 .f32) (X : FVec Ideal S8x2048x2048 .f32) (A : FVec Ideal S8x6144 .f32) :
    FVec Ideal S8x2048x2048 .f32 :=
  (addf (mulf (broadcastInDim S8x2048x2048 ![] bcast_S_S8x2048x2048 (constant S_ .f32 0x3F9837F0#32)) X) (mulf (broadcastInDim S8x2048x2048 ![0, 1, 2] bcast_S8x1x2048_S8x2048x2048_0_1_2 (broadcastInDim S8x1x2048 ![0, 2] bcast_S8x2048_S8x1x2048_0_2 (extractStridedSlice S8x2048 ![0, 4096] A slices_S8x6144_S8x2048_0_4096))) (shapeCast _ (Host.dotGeneral dot_S16384x2048_S2048x2048_S16384x2048_1_0_0_1_n_n none (extf .f32 M bitsLt_bf16_f32) W) shapeCasts_S16384x2048_S8x2048x2048)))

/-- The rows less their means. -/
def REFc (R : FVec Ideal S8x2048x2048 .f32) : FVec Ideal S8x2048x2048 .f32 :=
  (subf R (broadcastInDim S8x2048x2048 ![0, 1, 2] bcast_S8x2048x1_S8x2048x2048_0_1_2 (Host.divf (broadcastInDim S8x2048x1 ![0, 1] bcast_S8x2048_S8x2048x1_0_1 (Host.reduceAdd R (constant S_ .f32 0x00000000#32) reducesTo_S8x2048x2048_S8x2048_d2 h_S_)) (broadcastInDim S8x2048x1 ![] bcast_S_S8x2048x1 (constant S_ .f32 0x45000000#32)))))

/-- The reference's result. -/
def REFo (M : FVec Ideal S16384x2048 .bf16) (W : FVec Ideal S2048x2048 .f32) (X : FVec Ideal S8x2048x2048 .f32) (A : FVec Ideal S8x6144 .f32)
    (G B : FVec Ideal S2048 .f32) : FVec Ideal S16384x2048 .f32 :=
  shapeCast _ (addf (mulf (mulf (REFc (REFr M W X A)) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (REFc (REFr M W X A)) (REFc (REFr M W X A))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x3727C5AC#32)))))) (broadcastInDim S8x2048x2048 ![0, 1, 2] bcast_S1x1x2048_S8x2048x2048_0_1_2 (broadcastInDim S1x1x2048 ![2] bcast_S2048_S1x1x2048_2 G))) (broadcastInDim S8x2048x2048 ![0, 1, 2] bcast_S1x1x2048_S8x2048x2048_0_1_2 (broadcastInDim S1x1x2048 ![2] bcast_S2048_S1x1x2048_2 B))) shapeCasts_S8x2048x2048_S16384x2048

/-- The residual's column `n` at batch `b`, position `s`. -/
def resAt (M : FVec Ideal S16384x2048 .bf16) (W : FVec Ideal S2048x2048 .f32) (X : FVec Ideal S8x2048x2048 .f32) (A : FVec Ideal S8x6144 .f32)
    (b : Fin 8) (s n : Fin 2048) : EReal :=
  Ideal.ofBits .f32 0x3F9837F0#32 * X (ix3 b s n)
    + A (ix2 b ⟨4096 + n.val, by omega⟩) * ∑ k : Fin 2048, M (ix2 ⟨b.val * 2048 + s.val, by omega⟩ k) * W (ix2 k n)

/-- A row less its mean. -/
def centred (r : Fin 2048 → EReal) (n : Fin 2048) : EReal := r n - Ideal.div (∑ k, r k) (Ideal.ofBits .f32 0x45000000#32)

/-- The layer norm of a row, with scale `g` and shift `b`. -/
def lnorm (r : Fin 2048 → EReal) (g b : EReal) (n : Fin 2048) : EReal :=
  centred r n * Ideal.rsqrt (Ideal.div (∑ k, centred r k * centred r k) (Ideal.ofBits .f32 0x45000000#32) + Ideal.ofBits .f32 0x3727C5AC#32) * g + b

/-- The residual at an index. -/
theorem REFr_apply (M : FVec Ideal S16384x2048 .bf16) (W : FVec Ideal S2048x2048 .f32) (X : FVec Ideal S8x2048x2048 .f32) (A : FVec Ideal S8x6144 .f32)
    (b : Fin 8) (s n : Fin 2048) : REFr M W X A (ix3 b s n) = (resAt M W X A b s n : EReal) := by
  pointwise [REFr]
  unfold resAt
  rfl

/-- A centred row at an index. -/
theorem REFc_apply (R : FVec Ideal S8x2048x2048 .f32) (b : Fin 8) (s n : Fin 2048) :
    REFc R (ix3 b s n) = (centred (fun k => R (ix3 b s k)) n : EReal) := by
  pointwise [REFc]
  unfold centred
  rfl

/-- The reference's result at an index. -/
theorem REFo_apply (M : FVec Ideal S16384x2048 .bf16) (W : FVec Ideal S2048x2048 .f32) (X : FVec Ideal S8x2048x2048 .f32) (A : FVec Ideal S8x6144 .f32)
    (G B : FVec Ideal S2048 .f32) (R : Fin 16384) (n : Fin 2048) :
    REFo M W X A G B (ix2 R n)
      = (lnorm (resAt M W X A ⟨R.val / 2048, by omega⟩ ⟨R.val % 2048, by omega⟩) (G (ix1 n)) (B (ix1 n)) n : EReal) := by
  pointwise [REFo]
  simp only [REFc_apply, REFr_apply]
  unfold lnorm
  rfl

/-- The reference's term, by its parts. -/
theorem ref_eq (m : (ℓ : Loc nD τ sig) → Buf (Elt Ideal) ℓ) (c : Dev nD) :
    Cert.OutRefIdeal.Value.res_main_v36 m c = REFo (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.OutRefIdeal.Hand
-- ==== Proof.OutValue.lean ====
module

public import proofs.«01_k».proof.Defs
public import proofs.«01_k».proof.Proof.OutRefValue
public import proofs.«01_k».proof.Proof.Gen.OutIdeal.Value
public import Idealize.ShloMosaic.Lib.Claim

@[expose] public section

/-! # The output projection with its norm against its reference -/

set_option maxRecDepth 16384

noncomputable section

namespace Cert.OutIdeal.Hand

open Cert.OutIdeal Cert.OutIdeal.Gen
open Idealize.ShloMosaic Idealize.ShloMosaic.TcCoe Idealize.ShloMosaic.Tactic Idealize.SL.Sem
open Cert.OutRefIdeal.Hand (resAt centred lnorm REFo REFo_apply)
open scoped BigOperators

/-- The residual of row `r` of a block. -/
def resBlk (x0 : FVec Ideal S512x2048 .bf16) (x1 : FVec Ideal S2048x2048 .bf16) (x2 : FVec Ideal S512x2048 .f32) (x3 : FVec Ideal S1x1x2048 .f32)
    (r : Fin 512) (n : Fin 2048) : EReal :=
  Ideal.ofBits .f32 0x3F9837F0#32 * x2 (ix2 r n) + x3 (ix3 0 0 n) * ∑ k : Fin 2048, x0 (ix2 r k) * x1 (ix2 k n)

/-- A block of the result, from the blocks that its grid point reads. -/
theorem block_apply (x0 : FVec Ideal S512x2048 .bf16) (x1 : FVec Ideal S2048x2048 .bf16) (x2 : FVec Ideal S512x2048 .f32)
    (x3 : FVec Ideal S1x1x2048 .f32) (x4 x5 : FVec Ideal S1x2048 .f32) (r : Fin 512) (n : Fin 2048) :
    (out0_6 (F := Ideal) x0 x1 x2 x3 x4 x5 : FVec Ideal S512x2048 .f32) (ix2 r n) =
      (lnorm (resBlk x0 x1 x2 x3 r) (x4 (ix2 0 n)) (x5 (ix2 0 n)) n : EReal) := by
  unfold out0_6
  canon_tiles x h
  · pointwise [k0_pay5, k0_pay1]
    change (r : ℕ) = _ at h0; change (n : ℕ) = _ at h1
    unfold lnorm centred resBlk
    blk_point []
  · pointwise [k0_pay4, k0_pay3, k0_pay2]
    change (r : ℕ) = _ at h0; change (n : ℕ) = _ at h1
    unfold lnorm centred resBlk
    blk_point []

variable (m : (ℓ : Loc nD τ sig) → Buf (Elt Ideal) ℓ) (c : Dev nD)

/-- The kernel's arguments, at their shapes. -/
abbrev aM : FVec Ideal S16384x2048 .bf16 := m ((c.tc : Thread nD τ).loc main_arg0)
abbrev aW : FVec Ideal S2048x2048 .f32 := m ((c.tc : Thread nD τ).loc main_arg1)
abbrev aX : FVec Ideal S8x2048x2048 .f32 := m ((c.tc : Thread nD τ).loc main_arg2)
abbrev aA : FVec Ideal S8x6144 .f32 := m ((c.tc : Thread nD τ).loc main_arg3)
abbrev aG : FVec Ideal S2048 .f32 := m ((c.tc : Thread nD τ).loc main_arg4)
abbrev aB : FVec Ideal S2048 .f32 := m ((c.tc : Thread nD τ).loc main_arg5)

/-! The operands, in terms of the arguments. -/

/-- The merged rows are the argument. -/
theorem a0_eq : V m c main_arg0 = aM m c := V_main_arg0 m c

/-- The input's rows, flattened. -/
theorem v0_at (R : Fin 16384) (k : Fin 2048) :
    (V m c main_v0 (ix2 R k) : EReal) = aX m c (ix3 ⟨R.val / 2048, by omega⟩ ⟨R.val % 2048, by omega⟩ k) := by
  entry_read; pointwise []

/-- The modulation. -/
theorem v1_at (b : Fin 8) (k : Fin 6144) : (V m c main_v1 (ix3 b 0 k) : EReal) = aA m c (ix2 b k) := by
  entry_read; pointwise []

/-- The narrowed weight is the weight. -/
theorem v2_at (k n : Fin 2048) : (V m c main_v2 (ix2 k n) : EReal) = aW m c (ix2 k n) := by
  entry_read; pointwise []

/-- The norm's scale, as a row. -/
theorem v3_at (n : Fin 2048) : (V m c main_v3 (ix2 0 n) : EReal) = aG m c (ix1 n) := by
  entry_read; pointwise []

/-- The norm's shift, as a row. -/
theorem v4_at (n : Fin 2048) : (V m c main_v4 (ix2 0 n) : EReal) = aB m c (ix1 n) := by
  entry_read; pointwise []

/-- The windows' index maps. -/
theorem idx : ∀ t : Fin cfg0.N,
    win0_0.index t = ![t.val, 0] ∧ win0_1.index t = ![0, 0] ∧ win0_2.index t = ![t.val, 0]
    ∧ win0_3.index t = ![t.val / 4, 0, 2] ∧ win0_4.index t = ![0, 0] ∧ win0_5.index t = ![0, 0]
    ∧ win0_6.index t = ![t.val, 0] :=
  (by decide +kernel : ∀ t : Fin grid0.N, _)

/-- The grid has 32 points. -/
theorem lt_N (t : Fin cfg0.N) : t.val < 32 := lt_of_lt_of_eq t.isLt N_0

/-! The blocks of the inputs at a grid point. -/

/-- The merged rows of a grid point. -/
theorem blk0_at (t : Fin cfg0.N) (i : Fin 512) (k : Fin 2048) :
    (iblk m c 0 t (ix2 i k) : EReal) = aM m c (ix2 ⟨t.val * 512 + i.val, by have := lt_N t; omega⟩ k) := by
  rw [← a0_eq]; blk_ext [iblk, idx t]

/-- Every point reads the whole weight. -/
theorem blk1_at (t : Fin cfg0.N) (k n : Fin 2048) : (iblk m c 1 t (ix2 k n) : EReal) = aW m c (ix2 k n) := by
  rw [← v2_at]; blk_ext [iblk, idx t]

/-- The input's rows of a grid point. -/
theorem blk2_at (t : Fin cfg0.N) (i : Fin 512) (k : Fin 2048) :
    (iblk m c 2 t (ix2 i k) : EReal) = V m c main_v0 (ix2 ⟨t.val * 512 + i.val, by have := lt_N t; omega⟩ k) := by
  blk_ext [iblk, idx t]

/-- The gate of a grid point's sequence: the last third of its modulation. -/
theorem blk3_at (t : Fin cfg0.N) (n : Fin 2048) :
    (iblk m c 3 t (ix3 0 0 n) : EReal) = aA m c (ix2 ⟨t.val / 4, by have := lt_N t; omega⟩ ⟨4096 + n.val, by omega⟩) := by
  rw [← v1_at]; blk_ext [iblk, idx t]

/-- Every point reads the norm's scale. -/
theorem blk4_at (t : Fin cfg0.N) (n : Fin 2048) : (iblk m c 4 t (ix2 0 n) : EReal) = aG m c (ix1 n) := by
  rw [← v3_at]; blk_ext [iblk, idx t]

/-- Every point reads the norm's shift. -/
theorem blk5_at (t : Fin cfg0.N) (n : Fin 2048) : (iblk m c 5 t (ix2 0 n) : EReal) = aB m c (ix1 n) := by
  rw [← v4_at]; blk_ext [iblk, idx t]

/-- The residual of a block's row is the residual of the whole array's row. -/
theorem res_at (t : Fin cfg0.N) (i : Fin 512) (R : Fin 16384) (hR : R.val = t.val * 512 + i.val) (n : Fin 2048) :
    resBlk (iblk m c 0 t) (iblk m c 1 t) (iblk m c 2 t) (iblk m c 3 t) i n
      = resAt (aM m c) (aW m c) (aX m c) (aA m c) ⟨R.val / 2048, by omega⟩ ⟨R.val % 2048, by omega⟩ n := by
  unfold resBlk resAt
  rw [blk2_at, blk3_at, v0_at]
  have e0 : R.val / 2048 * 2048 + R.val % 2048 = t.val * 512 + i.val := by omega
  have e1 : (t.val * 512 + i.val) / 2048 = R.val / 2048 := by omega
  have e2 : (t.val * 512 + i.val) % 2048 = R.val % 2048 := by omega
  have e3 : t.val / 4 = R.val / 2048 := by omega
  simp only [blk0_at, blk1_at, e0, e1, e2, e3]

/-- The result array, block by block. -/
theorem final : (dats m 0 c).arrAt 6 cfg0.N = REFo (aM m c) (aW m c) (aX m c) (aA m c) (aG m c) (aB m c) := by
  refine (dats m 0 c).arrAt_eq_of_covers 6 (REFo (aM m c) (aW m c) (aX m c) (aA m c) (aG m c) (aB m c)) (by decide +kernel) fun t hf y => ?_
  blk_simp
  rw [after0_6]
  have ht := lt_N t
  have hy0 : (y 0).val < 512 := (y 0).isLt
  have hy1 : (y 1).val < 2048 := (y 1).isLt
  refine Eq.trans (congrArg (out0_6 (iblk m c 0 t) (iblk m c 1 t) (iblk m c 2 t) (iblk m c 3 t) (iblk m c 4 t) (iblk m c 5 t))
    (a₂ := ix2 ⟨(y 0).val, hy0⟩ ⟨(y 1).val, hy1⟩) ?_) ((block_apply _ _ _ _ _ _ _ _).trans ?_)
  · blk_ext []
  refine Eq.trans ?_ (congrArg (REFo (aM m c) (aW m c) (aX m c) (aA m c) (aG m c) (aB m c))
    (a₁ := ix2 ⟨t.val * 512 + (y 0).val, by omega⟩ ⟨(y 1).val, hy1⟩) ?_)
  · rw [REFo_apply, blk4_at, blk5_at]
    exact congrFun (congrArg (fun r => lnorm r _ _) (funext fun n => res_at m c t ⟨(y 0).val, hy0⟩ ⟨t.val * 512 + (y 0).val, by omega⟩ rfl n)) _
  · blk_ext [idx t]

/-- The output kernel and its reference, read over the extended reals, end with equal results. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => REFo (aM m c) (aW m c) (aX m c) (aA m c) (aG m c) (aB m c), ?_, ?_⟩
  · exact (θ_run _ _ _).mono (fun _ h c => ⟨(h c).1.trans (final m c), (h c).2⟩) (Cert.OutIdeal.Value.run_blocks (F := Ideal) m g)
  refine (θ_run _ _ _).mono (fun r h c => ?_) (Cert.OutRefIdeal.Value.run (F := Ideal) m' g')
  obtain ⟨e0, e1, e2, e3, e4, e5⟩ := hargs c
  refine ⟨(h c).1.trans ((Cert.OutRefIdeal.Hand.ref_eq m' c).trans ?_), (h c).2⟩
  change REFo (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) (m' ((c.tc : Thread Cert.OutRefIdeal.nD Cert.OutRefIdeal.τ).loc Cert.OutRefIdeal.main_arg4)) (m' ((c.tc : Thread Cert.OutRefIdeal.nD Cert.OutRefIdeal.τ).loc Cert.OutRefIdeal.main_arg5)) = _
  rw [e0, e1, e2, e3, e4, e5]

/-- The output projection's reference runs, leaves its arguments unchanged, and has no semaphore. -/
theorem frame_ref : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩)
    (Cert.OutRefIdeal.Value.run (F := Ideal) m g)

end Cert.OutIdeal.Hand
-- ==== Proof.AdaRefValue.lean ====
module

public import proofs.«01_k».proof.Proof.Scalars
public import proofs.«01_k».proof.Proof.Gen.AdaRefIdeal.Run
public import Idealize.ShloMosaic.Lib.Claim

@[expose] public section

/-! # The modulation's reference at an index

`silu(c)·W + b`. -/

set_option maxRecDepth 16384

noncomputable section

namespace Cert.AdaRefIdeal.Hand

open Cert.AdaRefIdeal Cert.AdaRefIdeal.Gen
open Idealize.ShloMosaic Idealize.ShloMosaic.TcCoe Idealize.ShloMosaic.Tactic
open scoped BigOperators

/-- `x` times the logistic function of `x`. -/
def silu (x : EReal) : EReal := x * Ideal.div 1 (1 + Ideal.exp (-x))

/-- The modulation's column `n` for batch entry `b`. -/
def modAt (C : FVec Ideal S8x2048 .f32) (W : FVec Ideal S2048x6144 .f32) (B : FVec Ideal S6144 .f32) (b : Fin 8) (n : Fin 6144) : EReal :=
  (∑ k : Fin 2048, silu (C (ix2 b k)) * W (ix2 k n)) + B (ix1 n)

/-- The whole modulation. -/
def MOD (C : FVec Ideal S8x2048 .f32) (W : FVec Ideal S2048x6144 .f32) (B : FVec Ideal S6144 .f32) : FVec Ideal S8x6144 .f32 :=
  fun i => modAt C W B (i 0) (i 1)

/-- The reference's term is the modulation. -/
theorem ref_eq (C : FVec Ideal S8x2048 .f32) (W : FVec Ideal S2048x6144 .f32) (B : FVec Ideal S6144 .f32) :
    (addf (Host.dotGeneral dot_S8x2048_S2048x6144_S8x6144_1_0_0_1_n_n none (mulf C (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf C))))) W) (broadcastInDim S8x6144 ![0, 1] bcast_S1x6144_S8x6144_0_1 (broadcastInDim S1x6144 ![1] bcast_S6144_S1x6144_1 B)) : FVec Ideal S8x6144 .f32) = MOD C W B := by
  funext i
  let b : Fin 8 := i 0
  let n : Fin 6144 := i 1
  have hi : i = ix2 b n := by funext a; match a with | ⟨0, _⟩ => rfl | ⟨1, _⟩ => rfl
  rw [hi]
  change _ = modAt C W B b n
  unfold modAt silu
  pointwise []

end Cert.AdaRefIdeal.Hand
-- ==== Proof.AdaValue.lean ====
module

public import proofs.«01_k».proof.Defs
public import proofs.«01_k».proof.Proof.AdaRefValue
public import proofs.«01_k».proof.Proof.Gen.AdaIdeal.Value
public import Idealize.ShloMosaic.Lib.Claim
public import Idealize.ShloMosaic.Lib.ReduceAll

@[expose] public section

/-! # The modulation against its reference -/

set_option maxRecDepth 16384

noncomputable section

/-- The side conditions that the precondition's operations take. -/
instance Cert.Pre_above_neg_inf.holds : Cert.Pre_above_neg_inf.Facts where
  bcast_S_S8x2048 := by decide
  reducesTo_S8x2048_S_d0_1 := by decide
  h_S_ := by decide

namespace Cert.AdaIdeal.Hand

open Cert.AdaIdeal Cert.AdaIdeal.Gen
open Idealize.ShloMosaic Idealize.ShloMosaic.TcCoe Idealize.ShloMosaic.Tactic Idealize.SL.Sem
open Cert.AdaRefIdeal.Hand (silu modAt MOD)
open scoped BigOperators

/-- A block of the result, from the blocks that its grid point reads. -/
theorem block_apply (x0 : FVec Ideal S8x2048 .f32) (x1 : FVec Ideal S2048x768 .f32) (x2 : FVec Ideal S1x768 .f32)
    (hx : ∀ (b : Fin 8) (k : Fin 2048), (x0 (ix2 b k) : EReal) ≠ ⊥) (r : Fin 8) (n : Fin 768) :
    (out0_3 (F := Ideal) x0 x1 x2 : FVec Ideal S8x768 .f32) (ix2 r n) =
      ((∑ k : Fin 2048, silu (x0 (ix2 r k)) * x1 (ix2 k n)) + x2 (ix2 0 n) : EReal) := by
  unfold out0_3
  canon_tiles x h
  pointwise [k0_pay1]
  simp only [Cert.Scalars.ofBits_half]
  change (r : ℕ) = _ at h0; change (n : ℕ) = _ at h1
  unfold silu
  simp only [← Cert.Scalars.silu_eq _ (hx _ _)]
  blk_point []

variable (m : (ℓ : Loc nD τ sig) → Buf (Elt Ideal) ℓ) (c : Dev nD)

/-- The kernel's arguments, at their shapes. -/
abbrev aC : FVec Ideal S8x2048 .f32 := m ((c.tc : Thread nD τ).loc main_arg0)
abbrev aW : FVec Ideal S2048x6144 .f32 := m ((c.tc : Thread nD τ).loc main_arg1)
abbrev aB : FVec Ideal S6144 .f32 := m ((c.tc : Thread nD τ).loc main_arg2)

/-- The precondition: no entry of `c` is `-∞`. -/
theorem ne_bot (h : Cert.Pre_AdaIdeal_above_neg_inf m) (b : Fin 8) (k : Fin 2048) : (aC m c (ix2 b k) : EReal) ≠ ⊥ := by
  haveI : Subsingleton Cert.Pre_above_neg_inf.S_.Idx := ⟨fun _ _ => funext fun a => a.elim0⟩
  have e := congrFun (h c) (fun a => a.elim0)
  have e' := Host.reduce_andi_all _ _ _ _ _ e (ix2 b k)
  intro hb
  change FloatOps.cmpf (F := Ideal) (φ := .f32) .ogt (aC m c (ix2 b k)) (Ideal.ofBits .f32 0xFF800000#32) = 1#1 at e'
  rw [hb] at e'
  simp [FloatOps.cmpf, Ideal.cmp, Ideal.ofBits, Ideal.ieee] at e'

/-- The bias as a row. -/
theorem v0_at (n : Fin 6144) : (V m c main_v0 (ix2 0 n) : EReal) = aB m c (ix1 n) := by
  entry_read; pointwise []

/-- The other operands are the arguments. -/
theorem a0_eq : V m c main_arg0 = aC m c := V_main_arg0 m c
/-- The weight reaches the call as it was given. -/
theorem a1_eq : V m c main_arg1 = aW m c := V_main_arg1 m c

/-- The windows' index maps. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The grid has eight points. -/
theorem lt_N (t : Fin cfg0.N) : t.val < 8 := lt_of_lt_of_eq t.isLt N_0

/-! The blocks of the inputs at a grid point. -/

/-- Every grid point reads all conditioning vectors. -/
theorem blk0_at (t : Fin cfg0.N) (b : Fin 8) (k : Fin 2048) : (iblk m c 0 t (ix2 b k) : EReal) = aC m c (ix2 b k) := by
  rw [← a0_eq]; blk_ext [iblk, idx t]

/-- Grid point `t` reads the weight's columns from `768·t` on. -/
theorem blk1_at (t : Fin cfg0.N) (k : Fin 2048) (n : Fin 768) :
    (iblk m c 1 t (ix2 k n) : EReal) = aW m c (ix2 k ⟨t.val * 768 + n.val, by have := lt_N t; omega⟩) := by
  rw [← a1_eq]; blk_ext [iblk, idx t]

/-- Grid point `t` reads the bias from `768·t` on. -/
theorem blk2_at (t : Fin cfg0.N) (n : Fin 768) :
    (iblk m c 2 t (ix2 0 n) : EReal) = aB m c (ix1 ⟨t.val * 768 + n.val, by have := lt_N t; omega⟩) := by
  rw [← v0_at]; blk_ext [iblk, idx t]

/-- The result array, block by block. -/
theorem final (h : Cert.Pre_AdaIdeal_above_neg_inf m) : (dats m 0 c).arrAt 3 cfg0.N = MOD (aC m c) (aW m c) (aB m c) := by
  refine (dats m 0 c).arrAt_eq_of_covers 3 (MOD (aC m c) (aW m c) (aB m c)) (by decide +kernel) fun t hf y => ?_
  blk_simp
  rw [after0_3]
  have ht := lt_N t
  have hy0 : (y 0).val < 8 := (y 0).isLt
  have hy1 : (y 1).val < 768 := (y 1).isLt
  refine Eq.trans (congrArg (out0_3 (iblk m c 0 t) (iblk m c 1 t) (iblk m c 2 t))
    (a₂ := ix2 ⟨(y 0).val, hy0⟩ ⟨(y 1).val, hy1⟩) ?_)
    ((block_apply _ _ _ (fun b k => by rw [blk0_at]; exact ne_bot m c h b k) _ _).trans ?_)
  · blk_ext []
  refine Eq.trans ?_ (congrArg (MOD (aC m c) (aW m c) (aB m c))
    (a₁ := ix2 ⟨(y 0).val, hy0⟩ ⟨t.val * 768 + (y 1).val, by omega⟩) ?_)
  · rw [blk2_at]
    simp only [blk0_at, blk1_at]
    rfl
  · blk_ext [idx t]

/-- The modulation kernel and its reference, read over the extended reals, end with equal results. -/
theorem algebraic : Cert.algebraic_AdaIdeal_AdaRefIdeal_pre_above_neg_inf (hAdaIdeal := Cert.AdaIdeal.Gen.facts)
    (hAdaRefIdeal := Cert.AdaRefIdeal.Gen.facts) (hPre_above_neg_inf := Cert.Pre_above_neg_inf.holds) := by
  intro m g m' g' hpre hargs
  refine ⟨fun c => MOD (aC m c) (aW m c) (aB m c), ?_, ?_⟩
  · exact (θ_run _ _ _).mono (fun _ h c => ⟨(h c).1.trans (final m c hpre), (h c).2⟩) (Cert.AdaIdeal.Value.run_blocks (F := Ideal) m g)
  refine (θ_run _ _ _).mono (fun r h c => ?_) (Cert.AdaRefIdeal.Value.run (F := Ideal) m' g')
  obtain ⟨e0, e1, e2⟩ := hargs c
  refine ⟨(h c).1.trans ((Cert.AdaRefIdeal.Hand.ref_eq _ _ _).trans ?_), (h c).2⟩
  change MOD (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2)) = _
  rw [e0, e1, e2]

/-- The modulation's reference runs, leaves its arguments unchanged, and has no semaphore. -/
theorem frame_ref : Cert.quiescent_AdaRefIdeal (hAdaRefIdeal := Cert.AdaRefIdeal.Gen.facts) := fun m g _ =>
  (θ_run Cert.AdaRefIdeal.defs _ _).mono (fun r h => ⟨fun c => (h c).2, sem_eq_zero_of_no_sems (by decide) r.2⟩)
    (Cert.AdaRefIdeal.Value.run (F := Ideal) m g)

end Cert.AdaIdeal.Hand
-- ==== Proof.lean ====
/- The certificate: the input projection, the gated linear attention, the gated merge, the output projection with its norm,
   and the modulation.
   Each program runs without fault, leaves its arguments unchanged and ends with every semaphore at zero; each
   kernel, read over the extended reals, ends with the results of its reference. The modulation's equation is
   stated for conditioning vectors without −∞, the attention's for finite arguments. The programs' own facts and
   frames come from the generated modules; the frames of the projection and the attention, and all equations of
   values, from the modules beside this one. -/
module

public import proofs.«01_k».proof.Defs
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.Gla
public import proofs.«01_k».proof.Proof.Gen.GlaRefIdeal
public import proofs.«01_k».proof.Proof.Gen.Kernel
public import proofs.«01_k».proof.Proof.Gen.KernelIdeal
public import proofs.«01_k».proof.Proof.Gen.ReferenceIdeal
public import proofs.«01_k».proof.Proof.Gen.Merge
public import proofs.«01_k».proof.Proof.Gen.MergeIdeal
public import proofs.«01_k».proof.Proof.Gen.MergeRefIdeal
public import proofs.«01_k».proof.Proof.Gen.Out
public import proofs.«01_k».proof.Proof.Gen.OutIdeal
public import proofs.«01_k».proof.Proof.Gen.OutRefIdeal
public import proofs.«01_k».proof.Proof.Gen.Ada
public import proofs.«01_k».proof.Proof.Gen.AdaIdeal
public import proofs.«01_k».proof.Proof.Gen.AdaRefIdeal
public import proofs.«01_k».proof.Proof.Gen.Merge.Frame
public import proofs.«01_k».proof.Proof.Gen.MergeIdeal.Frame
public import proofs.«01_k».proof.Proof.Gen.Out.Frame
public import proofs.«01_k».proof.Proof.Gen.OutIdeal.Frame
public import proofs.«01_k».proof.Proof.Gen.Ada.Frame
public import proofs.«01_k».proof.Proof.Gen.AdaIdeal.Frame
public import proofs.«01_k».proof.Proof.Gen.MergeIdeal.Value
public import proofs.«01_k».proof.Proof.Gen.OutIdeal.Value
public import proofs.«01_k».proof.Proof.Gen.AdaIdeal.Value
public import proofs.«01_k».proof.Proof.Gen.ReferenceIdeal.Run
public import proofs.«01_k».proof.Proof.Gen.GlaRefIdeal.Run
public import proofs.«01_k».proof.Proof.Gen.MergeRefIdeal.Run
public import proofs.«01_k».proof.Proof.Gen.OutRefIdeal.Run
public import proofs.«01_k».proof.Proof.Gen.AdaRefIdeal.Run
public import proofs.«01_k».proof.Proof.GlaFrame
public import proofs.«01_k».proof.Proof.GlaValue
public import proofs.«01_k».proof.Proof.InprojFrame
public import proofs.«01_k».proof.Proof.InprojClaim
public import proofs.«01_k».proof.Proof.MergeValue
public import proofs.«01_k».proof.Proof.OutValue
public import proofs.«01_k».proof.Proof.AdaValue
public import Idealize.ShloMosaic.Adequacy
public import Idealize.ShloMosaic.Init

@[expose] public section

noncomputable section

namespace Cert.Proof

open Idealize.ShloMosaic Idealize.SL.Sem

section Words

attribute [local instance] Cert.Kernel.Gen.facts Cert.KernelIdeal.Gen.facts Cert.Gla.Gen.facts Cert.GlaIdeal.Gen.facts

/-- The input projection as printed for machine words and for the extended reals has one body. -/
theorem same_bodies : Cert.Kernel.defs₀ (F := Bits) = Cert.KernelIdeal.defs₀ (F := Bits) := by
  refine congrArg Defs.onTc (funext fun l => funext fun a => ?_)
  match l, a with
  | 0, (t, s) => rfl

/-- Hence one table of bodies, the pipeline's included. -/
theorem same_defs : Cert.Kernel.defs (F := Bits) = Cert.KernelIdeal.defs (F := Bits) :=
  congrArg (Pipeline.defs (Cert.Kernel.pcfgs (F := Bits))) same_bodies

/-- The frame over machine words is that of the one run, which holds over any float values. -/
theorem frame_kernel : Cert.quiescent_Kernel (hKernel := Cert.Kernel.Gen.facts) := fun m g _ => by
  have h := Cert.KernelIdeal.Hand.frame (F := Bits) m g
  rw [← same_defs] at h
  exact h

/-- The attention as printed for machine words and for the extended reals has one body. -/
theorem same_bodies_gla : Cert.Gla.defs₀ (F := Bits) = Cert.GlaIdeal.defs₀ (F := Bits) := by
  refine congrArg Defs.onTc (funext fun l => funext fun a => ?_)
  match l, a with
  | 0, (t, s) => rfl

/-- Hence one table of bodies, the pipeline's included. -/
theorem same_defs_gla : Cert.Gla.defs (F := Bits) = Cert.GlaIdeal.defs (F := Bits) :=
  congrArg (Pipeline.defs (Cert.Gla.pcfgs (F := Bits))) same_bodies_gla

/-- The attention's frame over machine words is that of the one run, which holds over any float values. -/
theorem frame_gla : Cert.quiescent_Gla (hGla := Cert.Gla.Gen.facts) := fun m g _ => by
  have h := Cert.GlaIdeal.Hand.frame (F := Bits) m g
  rw [← same_defs_gla] at h
  exact h

end Words

/-- Every claim of the certificate, in the order in which it states them. -/
theorem claim : Cert.Claim :=
  ⟨Cert.Kernel.Gen.facts,
    Cert.KernelIdeal.Gen.facts,
    Cert.ReferenceIdeal.Gen.facts,
    Cert.Gla.Gen.facts,
    Cert.GlaIdeal.Gen.facts,
    Cert.GlaRefIdeal.Gen.facts,
    Cert.Merge.Gen.facts,
    Cert.MergeIdeal.Gen.facts,
    Cert.MergeRefIdeal.Gen.facts,
    Cert.Out.Gen.facts,
    Cert.OutIdeal.Gen.facts,
    Cert.OutRefIdeal.Gen.facts,
    Cert.Ada.Gen.facts,
    Cert.AdaIdeal.Gen.facts,
    Cert.AdaRefIdeal.Gen.facts,
    Cert.Pre_finite.holds,
    Cert.Pre_above_neg_inf.holds,
    frame_kernel,
    fun m g _ => Cert.KernelIdeal.Hand.frame m g,
    Cert.KernelIdeal.Hand.frame_ref,
    frame_gla,
    fun m g _ => Cert.GlaIdeal.Hand.frame m g,
    fun m g _ => Cert.GlaIdeal.Hand.frame m g,
    Cert.GlaIdeal.Hand.frame_ref,
    fun m g _ => Cert.GlaIdeal.Hand.frame_ref m g trivial,
    fun m g _ => Cert.Merge.Gen.frame m g,
    fun m g _ => Cert.MergeIdeal.Gen.frame m g,
    Cert.MergeIdeal.Hand.frame_ref,
    fun m g _ => Cert.Out.Gen.frame m g,
    fun m g _ => Cert.OutIdeal.Gen.frame m g,
    Cert.OutIdeal.Hand.frame_ref,
    fun m g _ => Cert.Ada.Gen.frame m g,
    fun m g _ => Cert.AdaIdeal.Gen.frame m g,
    fun m g _ => Cert.AdaIdeal.Gen.frame m g,
    Cert.AdaIdeal.Hand.frame_ref,
    fun m g _ => Cert.AdaIdeal.Hand.frame_ref m g trivial,
    trivial,
    Cert.KernelIdeal.Hand.algebraic,
    trivial,
    Cert.GlaIdeal.Hand.algebraic,
    trivial,
    Cert.MergeIdeal.Hand.algebraic,
    trivial,
    Cert.OutIdeal.Hand.algebraic,
    trivial,
    Cert.AdaIdeal.Hand.algebraic⟩

end Cert.Proof

end
